-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0RefIdeal (m : (ℓ : Loc Cert.Mlp0RefIdeal.nD Cert.Mlp0RefIdeal.τ Cert.Mlp0RefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbIdeal_finite_ab [hPre_finite_ab : Cert.Pre_finite_ab.Facts] (m : (ℓ : Loc Cert.AbIdeal.nD Cert.AbIdeal.τ Cert.AbIdeal.sig) → Buf (Elt Ideal) ℓ) : Prop :=
  ∀ c : Dev Cert.AbIdeal.nD,
    (Cert.Pre_finite_ab.fn (F := Ideal) (m ((c.tc : Thread Cert.AbIdeal.nD Cert.AbIdeal.τ).loc Cert.AbIdeal.main_arg0)) (m ((c.tc : Thread Cert.AbIdeal.nD Cert.AbIdeal.τ).loc Cert.AbIdeal.main_arg1)) (m ((c.tc : Thread Cert.AbIdeal.nD Cert.AbIdeal.τ).loc Cert.AbIdeal.main_arg2)) (m ((c.tc : Thread Cert.AbIdeal.nD Cert.AbIdeal.τ).loc Cert.AbIdeal.main_arg3)) (m ((c.tc : Thread Cert.AbIdeal.nD Cert.AbIdeal.τ).loc Cert.AbIdeal.main_arg4)) (m ((c.tc : Thread Cert.AbIdeal.nD Cert.AbIdeal.τ).loc Cert.AbIdeal.main_arg5)) (m ((c.tc : Thread Cert.AbIdeal.nD Cert.AbIdeal.τ).loc Cert.AbIdeal.main_arg6)) (m ((c.tc : Thread Cert.AbIdeal.nD Cert.AbIdeal.τ).loc Cert.AbIdeal.main_arg7)) (m ((c.tc : Thread Cert.AbIdeal.nD Cert.AbIdeal.τ).loc Cert.AbIdeal.main_arg8)) (m ((c.tc : Thread Cert.AbIdeal.nD Cert.AbIdeal.τ).loc Cert.AbIdeal.main_arg9)) (m ((c.tc : Thread Cert.AbIdeal.nD Cert.AbIdeal.τ).loc Cert.AbIdeal.main_arg10)) (m ((c.tc : Thread Cert.AbIdeal.nD Cert.AbIdeal.τ).loc Cert.AbIdeal.main_arg11)) (m ((c.tc : Thread Cert.AbIdeal.nD Cert.AbIdeal.τ).loc Cert.AbIdeal.main_arg12))) = (fun _ => 1#1)

def Pre_AbRefIdeal (m : (ℓ : Loc Cert.AbRefIdeal.nD Cert.AbRefIdeal.τ Cert.AbRefIdeal.sig) → Buf (Elt Ideal) ℓ) : Prop :=
  True

def Pre_AbRefIdeal_finite_ab [hPre_finite_ab : Cert.Pre_finite_ab.Facts] (m : (ℓ : Loc Cert.AbRefIdeal.nD Cert.AbRefIdeal.τ Cert.AbRefIdeal.sig) → Buf (Elt Ideal) ℓ) : Prop :=
  ∀ c : Dev Cert.AbRefIdeal.nD,
    (Cert.Pre_finite_ab.fn (F := Ideal) (m ((c.tc : Thread Cert.AbRefIdeal.nD Cert.AbRefIdeal.τ).loc Cert.AbRefIdeal.main_arg0)) (m ((c.tc : Thread Cert.AbRefIdeal.nD Cert.AbRefIdeal.τ).loc Cert.AbRefIdeal.main_arg1)) (m ((c.tc : Thread Cert.AbRefIdeal.nD Cert.AbRefIdeal.τ).loc Cert.AbRefIdeal.main_arg2)) (m ((c.tc : Thread Cert.AbRefIdeal.nD Cert.AbRefIdeal.τ).loc Cert.AbRefIdeal.main_arg3)) (m ((c.tc : Thread Cert.AbRefIdeal.nD Cert.AbRefIdeal.τ).loc Cert.AbRefIdeal.main_arg4)) (m ((c.tc : Thread Cert.AbRefIdeal.nD Cert.AbRefIdeal.τ).loc Cert.AbRefIdeal.main_arg5)) (m ((c.tc : Thread Cert.AbRefIdeal.nD Cert.AbRefIdeal.τ).loc Cert.AbRefIdeal.main_arg6)) (m ((c.tc : Thread Cert.AbRefIdeal.nD Cert.AbRefIdeal.τ).loc Cert.AbRefIdeal.main_arg7)) (m ((c.tc : Thread Cert.AbRefIdeal.nD Cert.AbRefIdeal.τ).loc Cert.AbRefIdeal.main_arg8)) (m ((c.tc : Thread Cert.AbRefIdeal.nD Cert.AbRefIdeal.τ).loc Cert.AbRefIdeal.main_arg9)) (m ((c.tc : Thread Cert.AbRefIdeal.nD Cert.AbRefIdeal.τ).loc Cert.AbRefIdeal.main_arg10)) (m ((c.tc : Thread Cert.AbRefIdeal.nD Cert.AbRefIdeal.τ).loc Cert.AbRefIdeal.main_arg11)) (m ((c.tc : Thread Cert.AbRefIdeal.nD Cert.AbRefIdeal.τ).loc Cert.AbRefIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5)
      ∧ r.2.mem ((c.tc : Thread Cert.Mlp0.nD Cert.Mlp0.τ).loc Cert.Mlp0.main_arg6) = m ((c.tc : Thread Cert.Mlp0.nD Cert.Mlp0.τ).loc Cert.Mlp0.main_arg6)
      ∧ r.2.mem ((c.tc : Thread Cert.Mlp0.nD Cert.Mlp0.τ).loc Cert.Mlp0.main_arg7) = m ((c.tc : Thread Cert.Mlp0.nD Cert.Mlp0.τ).loc Cert.Mlp0.main_arg7))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
      ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6)
      ∧ r.2.mem ((c.tc : Thread Cert.Mlp0Ideal.nD Cert.Mlp0Ideal.τ).loc Cert.Mlp0Ideal.main_arg7) = m ((c.tc : Thread Cert.Mlp0Ideal.nD Cert.Mlp0Ideal.τ).loc Cert.Mlp0Ideal.main_arg7))
      ∧ r.2.sem = fun _ => 0)

def quiescent_Mlp0RefIdeal [hMlp0RefIdeal : Cert.Mlp0RefIdeal.Facts] : Prop :=
  ∀ (m : (ℓ : Loc Cert.Mlp0RefIdeal.nD Cert.Mlp0RefIdeal.τ Cert.Mlp0RefIdeal.sig) → Buf (Elt Ideal) ℓ) (g : Dev Cert.Mlp0RefIdeal.nD → PrngReg), Pre_Mlp0RefIdeal m →
    θ_run (Cert.Mlp0RefIdeal.defs (F := Ideal)) (onTc (τ := Cert.Mlp0RefIdeal.τ) (Cert.Mlp0RefIdeal.main (F := Ideal))) ⟨m, fun _ => 0, g⟩ (fun r => (∀ c : Dev Cert.Mlp0RefIdeal.nD,
      r.2.mem ((c.tc : Thread Cert.Mlp0RefIdeal.nD Cert.Mlp0RefIdeal.τ).loc Cert.Mlp0RefIdeal.main_arg0) = m ((c.tc : Thread Cert.Mlp0RefIdeal.nD Cert.Mlp0RefIdeal.τ).loc Cert.Mlp0RefIdeal.main_arg0)
      ∧ r.2.mem ((c.tc : Thread Cert.Mlp0RefIdeal.nD Cert.Mlp0RefIdeal.τ).loc Cert.Mlp0RefIdeal.main_arg1) = m ((c.tc : Thread Cert.Mlp0RefIdeal.nD Cert.Mlp0RefIdeal.τ).loc Cert.Mlp0RefIdeal.main_arg1)
      ∧ r.2.mem ((c.tc : Thread Cert.Mlp0RefIdeal.nD Cert.Mlp0RefIdeal.τ).loc Cert.Mlp0RefIdeal.main_arg2) = m ((c.tc : Thread Cert.Mlp0RefIdeal.nD Cert.Mlp0RefIdeal.τ).loc Cert.Mlp0RefIdeal.main_arg2)
      ∧ r.2.mem ((c.tc : Thread Cert.Mlp0RefIdeal.nD Cert.Mlp0RefIdeal.τ).loc Cert.Mlp0RefIdeal.main_arg3) = m ((c.tc : Thread Cert.Mlp0RefIdeal.nD Cert.Mlp0RefIdeal.τ).loc Cert.Mlp0RefIdeal.main_arg3)
      ∧ r.2.mem ((c.tc : Thread Cert.Mlp0RefIdeal.nD Cert.Mlp0RefIdeal.τ).loc Cert.Mlp0RefIdeal.main_arg4) = m ((c.tc : Thread Cert.Mlp0RefIdeal.nD Cert.Mlp0RefIdeal.τ).loc Cert.Mlp0RefIdeal.main_arg4)
      ∧ r.2.mem ((c.tc : Thread Cert.Mlp0RefIdeal.nD Cert.Mlp0RefIdeal.τ).loc Cert.Mlp0RefIdeal.main_arg5) = m ((c.tc : Thread Cert.Mlp0RefIdeal.nD Cert.Mlp0RefIdeal.τ).loc Cert.Mlp0RefIdeal.main_arg5)
      ∧ r.2.mem ((c.tc : Thread Cert.Mlp0RefIdeal.nD Cert.Mlp0RefIdeal.τ).loc Cert.Mlp0RefIdeal.main_arg6) = m ((c.tc : Thread Cert.Mlp0RefIdeal.nD Cert.Mlp0RefIdeal.τ).loc Cert.Mlp0RefIdeal.main_arg6)
      ∧ r.2.mem ((c.tc : Thread Cert.Mlp0RefIdeal.nD Cert.Mlp0RefIdeal.τ).loc Cert.Mlp0RefIdeal.main_arg7) = m ((c.tc : Thread Cert.Mlp0RefIdeal.nD Cert.Mlp0RefIdeal.τ).loc Cert.Mlp0RefIdeal.main_arg7))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5)
      ∧ r.2.mem ((c.tc : Thread Cert.Mlp1.nD Cert.Mlp1.τ).loc Cert.Mlp1.main_arg6) = m ((c.tc : Thread Cert.Mlp1.nD Cert.Mlp1.τ).loc Cert.Mlp1.main_arg6)
      ∧ r.2.mem ((c.tc : Thread Cert.Mlp1.nD Cert.Mlp1.τ).loc Cert.Mlp1.main_arg7) = m ((c.tc : Thread Cert.Mlp1.nD Cert.Mlp1.τ).loc Cert.Mlp1.main_arg7)
      ∧ r.2.mem ((c.tc : Thread Cert.Mlp1.nD Cert.Mlp1.τ).loc Cert.Mlp1.main_arg8) = m ((c.tc : Thread Cert.Mlp1.nD Cert.Mlp1.τ).loc Cert.Mlp1.main_arg8))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
      ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6)
      ∧ r.2.mem ((c.tc : Thread Cert.Mlp1Ideal.nD Cert.Mlp1Ideal.τ).loc Cert.Mlp1Ideal.main_arg7) = m ((c.tc : Thread Cert.Mlp1Ideal.nD Cert.Mlp1Ideal.τ).loc Cert.Mlp1Ideal.main_arg7)
      ∧ r.2.mem ((c.tc : Thread Cert.Mlp1Ideal.nD Cert.Mlp1Ideal.τ).loc Cert.Mlp1Ideal.main_arg8) = m ((c.tc : Thread Cert.Mlp1Ideal.nD Cert.Mlp1Ideal.τ).loc Cert.Mlp1Ideal.main_arg8))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2)
      ∧ r.2.mem ((c.tc : Thread Cert.Mlp1RefIdeal.nD Cert.Mlp1RefIdeal.τ).loc Cert.Mlp1RefIdeal.main_arg3) = m ((c.tc : Thread Cert.Mlp1RefIdeal.nD Cert.Mlp1RefIdeal.τ).loc Cert.Mlp1RefIdeal.main_arg3)
      ∧ r.2.mem ((c.tc : Thread Cert.Mlp1RefIdeal.nD Cert.Mlp1RefIdeal.τ).loc Cert.Mlp1RefIdeal.main_arg4) = m ((c.tc : Thread Cert.Mlp1RefIdeal.nD Cert.Mlp1RefIdeal.τ).loc Cert.Mlp1RefIdeal.main_arg4)
      ∧ r.2.mem ((c.tc : Thread Cert.Mlp1RefIdeal.nD Cert.Mlp1RefIdeal.τ).loc Cert.Mlp1RefIdeal.main_arg5) = m ((c.tc : Thread Cert.Mlp1RefIdeal.nD Cert.Mlp1RefIdeal.τ).loc Cert.Mlp1RefIdeal.main_arg5)
      ∧ r.2.mem ((c.tc : Thread Cert.Mlp1RefIdeal.nD Cert.Mlp1RefIdeal.τ).loc Cert.Mlp1RefIdeal.main_arg6) = m ((c.tc : Thread Cert.Mlp1RefIdeal.nD Cert.Mlp1RefIdeal.τ).loc Cert.Mlp1RefIdeal.main_arg6)
      ∧ r.2.mem ((c.tc : Thread Cert.Mlp1RefIdeal.nD Cert.Mlp1RefIdeal.τ).loc Cert.Mlp1RefIdeal.main_arg7) = m ((c.tc : Thread Cert.Mlp1RefIdeal.nD Cert.Mlp1RefIdeal.τ).loc Cert.Mlp1RefIdeal.main_arg7)
      ∧ r.2.mem ((c.tc : Thread Cert.Mlp1RefIdeal.nD Cert.Mlp1RefIdeal.τ).loc Cert.Mlp1RefIdeal.main_arg8) = m ((c.tc : Thread Cert.Mlp1RefIdeal.nD Cert.Mlp1RefIdeal.τ).loc Cert.Mlp1RefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1)
      ∧ r.2.mem ((c.tc : Thread Cert.Ab.nD Cert.Ab.τ).loc Cert.Ab.main_arg2) = m ((c.tc : Thread Cert.Ab.nD Cert.Ab.τ).loc Cert.Ab.main_arg2)
      ∧ r.2.mem ((c.tc : Thread Cert.Ab.nD Cert.Ab.τ).loc Cert.Ab.main_arg3) = m ((c.tc : Thread Cert.Ab.nD Cert.Ab.τ).loc Cert.Ab.main_arg3)
      ∧ r.2.mem ((c.tc : Thread Cert.Ab.nD Cert.Ab.τ).loc Cert.Ab.main_arg4) = m ((c.tc : Thread Cert.Ab.nD Cert.Ab.τ).loc Cert.Ab.main_arg4)
      ∧ r.2.mem ((c.tc : Thread Cert.Ab.nD Cert.Ab.τ).loc Cert.Ab.main_arg5) = m ((c.tc : Thread Cert.Ab.nD Cert.Ab.τ).loc Cert.Ab.main_arg5)
      ∧ r.2.mem ((c.tc : Thread Cert.Ab.nD Cert.Ab.τ).loc Cert.Ab.main_arg6) = m ((c.tc : Thread Cert.Ab.nD Cert.Ab.τ).loc Cert.Ab.main_arg6)
      ∧ r.2.mem ((c.tc : Thread Cert.Ab.nD Cert.Ab.τ).loc Cert.Ab.main_arg7) = m ((c.tc : Thread Cert.Ab.nD Cert.Ab.τ).loc Cert.Ab.main_arg7)
      ∧ r.2.mem ((c.tc : Thread Cert.Ab.nD Cert.Ab.τ).loc Cert.Ab.main_arg8) = m ((c.tc : Thread Cert.Ab.nD Cert.Ab.τ).loc Cert.Ab.main_arg8)
      ∧ r.2.mem ((c.tc : Thread Cert.Ab.nD Cert.Ab.τ).loc Cert.Ab.main_arg9) = m ((c.tc : Thread Cert.Ab.nD Cert.Ab.τ).loc Cert.Ab.main_arg9)
      ∧ r.2.mem ((c.tc : Thread Cert.Ab.nD Cert.Ab.τ).loc Cert.Ab.main_arg10) = m ((c.tc : Thread Cert.Ab.nD Cert.Ab.τ).loc Cert.Ab.main_arg10)
      ∧ r.2.mem ((c.tc : Thread Cert.Ab.nD Cert.Ab.τ).loc Cert.Ab.main_arg11) = m ((c.tc : Thread Cert.Ab.nD Cert.Ab.τ).loc Cert.Ab.main_arg11)
      ∧ r.2.mem ((c.tc : Thread Cert.Ab.nD Cert.Ab.τ).loc Cert.Ab.main_arg12) = m ((c.tc : Thread Cert.Ab.nD Cert.Ab.τ).loc Cert.Ab.main_arg12))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
      ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
      ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
      ∧ r.2.mem ((c.tc : Thread Cert.AbIdeal.nD Cert.AbIdeal.τ).loc Cert.AbIdeal.main_arg5) = m ((c.tc : Thread Cert.AbIdeal.nD Cert.AbIdeal.τ).loc Cert.AbIdeal.main_arg5)
      ∧ r.2.mem ((c.tc : Thread Cert.AbIdeal.nD Cert.AbIdeal.τ).loc Cert.AbIdeal.main_arg6) = m ((c.tc : Thread Cert.AbIdeal.nD Cert.AbIdeal.τ).loc Cert.AbIdeal.main_arg6)
      ∧ r.2.mem ((c.tc : Thread Cert.AbIdeal.nD Cert.AbIdeal.τ).loc Cert.AbIdeal.main_arg7) = m ((c.tc : Thread Cert.AbIdeal.nD Cert.AbIdeal.τ).loc Cert.AbIdeal.main_arg7)
      ∧ r.2.mem ((c.tc : Thread Cert.AbIdeal.nD Cert.AbIdeal.τ).loc Cert.AbIdeal.main_arg8) = m ((c.tc : Thread Cert.AbIdeal.nD Cert.AbIdeal.τ).loc Cert.AbIdeal.main_arg8)
      ∧ r.2.mem ((c.tc : Thread Cert.AbIdeal.nD Cert.AbIdeal.τ).loc Cert.AbIdeal.main_arg9) = m ((c.tc : Thread Cert.AbIdeal.nD Cert.AbIdeal.τ).loc Cert.AbIdeal.main_arg9)
      ∧ r.2.mem ((c.tc : Thread Cert.AbIdeal.nD Cert.AbIdeal.τ).loc Cert.AbIdeal.main_arg10) = m ((c.tc : Thread Cert.AbIdeal.nD Cert.AbIdeal.τ).loc Cert.AbIdeal.main_arg10)
      ∧ r.2.mem ((c.tc : Thread Cert.AbIdeal.nD Cert.AbIdeal.τ).loc Cert.AbIdeal.main_arg11) = m ((c.tc : Thread Cert.AbIdeal.nD Cert.AbIdeal.τ).loc Cert.AbIdeal.main_arg11)
      ∧ r.2.mem ((c.tc : Thread Cert.AbIdeal.nD Cert.AbIdeal.τ).loc Cert.AbIdeal.main_arg12) = m ((c.tc : Thread Cert.AbIdeal.nD Cert.AbIdeal.τ).loc Cert.AbIdeal.main_arg12))
      ∧ r.2.sem = fun _ => 0)

def quiescent_AbIdeal_pre_finite_ab [hAbIdeal : Cert.AbIdeal.Facts] [hPre_finite_ab : Cert.Pre_finite_ab.Facts] : Prop :=
  ∀ (m : (ℓ : Loc Cert.AbIdeal.nD Cert.AbIdeal.τ Cert.AbIdeal.sig) → Buf (Elt Ideal) ℓ) (g : Dev Cert.AbIdeal.nD → PrngReg), Pre_AbIdeal_finite_ab m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
      ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
      ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
      ∧ r.2.mem ((c.tc : Thread Cert.AbIdeal.nD Cert.AbIdeal.τ).loc Cert.AbIdeal.main_arg5) = m ((c.tc : Thread Cert.AbIdeal.nD Cert.AbIdeal.τ).loc Cert.AbIdeal.main_arg5)
      ∧ r.2.mem ((c.tc : Thread Cert.AbIdeal.nD Cert.AbIdeal.τ).loc Cert.AbIdeal.main_arg6) = m ((c.tc : Thread Cert.AbIdeal.nD Cert.AbIdeal.τ).loc Cert.AbIdeal.main_arg6)
      ∧ r.2.mem ((c.tc : Thread Cert.AbIdeal.nD Cert.AbIdeal.τ).loc Cert.AbIdeal.main_arg7) = m ((c.tc : Thread Cert.AbIdeal.nD Cert.AbIdeal.τ).loc Cert.AbIdeal.main_arg7)
      ∧ r.2.mem ((c.tc : Thread Cert.AbIdeal.nD Cert.AbIdeal.τ).loc Cert.AbIdeal.main_arg8) = m ((c.tc : Thread Cert.AbIdeal.nD Cert.AbIdeal.τ).loc Cert.AbIdeal.main_arg8)
      ∧ r.2.mem ((c.tc : Thread Cert.AbIdeal.nD Cert.AbIdeal.τ).loc Cert.AbIdeal.main_arg9) = m ((c.tc : Thread Cert.AbIdeal.nD Cert.AbIdeal.τ).loc Cert.AbIdeal.main_arg9)
      ∧ r.2.mem ((c.tc : Thread Cert.AbIdeal.nD Cert.AbIdeal.τ).loc Cert.AbIdeal.main_arg10) = m ((c.tc : Thread Cert.AbIdeal.nD Cert.AbIdeal.τ).loc Cert.AbIdeal.main_arg10)
      ∧ r.2.mem ((c.tc : Thread Cert.AbIdeal.nD Cert.AbIdeal.τ).loc Cert.AbIdeal.main_arg11) = m ((c.tc : Thread Cert.AbIdeal.nD Cert.AbIdeal.τ).loc Cert.AbIdeal.main_arg11)
      ∧ r.2.mem ((c.tc : Thread Cert.AbIdeal.nD Cert.AbIdeal.τ).loc Cert.AbIdeal.main_arg12) = m ((c.tc : Thread Cert.AbIdeal.nD Cert.AbIdeal.τ).loc Cert.AbIdeal.main_arg12))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2)
      ∧ r.2.mem ((c.tc : Thread Cert.AbRefIdeal.nD Cert.AbRefIdeal.τ).loc Cert.AbRefIdeal.main_arg3) = m ((c.tc : Thread Cert.AbRefIdeal.nD Cert.AbRefIdeal.τ).loc Cert.AbRefIdeal.main_arg3)
      ∧ r.2.mem ((c.tc : Thread Cert.AbRefIdeal.nD Cert.AbRefIdeal.τ).loc Cert.AbRefIdeal.main_arg4) = m ((c.tc : Thread Cert.AbRefIdeal.nD Cert.AbRefIdeal.τ).loc Cert.AbRefIdeal.main_arg4)
      ∧ r.2.mem ((c.tc : Thread Cert.AbRefIdeal.nD Cert.AbRefIdeal.τ).loc Cert.AbRefIdeal.main_arg5) = m ((c.tc : Thread Cert.AbRefIdeal.nD Cert.AbRefIdeal.τ).loc Cert.AbRefIdeal.main_arg5)
      ∧ r.2.mem ((c.tc : Thread Cert.AbRefIdeal.nD Cert.AbRefIdeal.τ).loc Cert.AbRefIdeal.main_arg6) = m ((c.tc : Thread Cert.AbRefIdeal.nD Cert.AbRefIdeal.τ).loc Cert.AbRefIdeal.main_arg6)
      ∧ r.2.mem ((c.tc : Thread Cert.AbRefIdeal.nD Cert.AbRefIdeal.τ).loc Cert.AbRefIdeal.main_arg7) = m ((c.tc : Thread Cert.AbRefIdeal.nD Cert.AbRefIdeal.τ).loc Cert.AbRefIdeal.main_arg7)
      ∧ r.2.mem ((c.tc : Thread Cert.AbRefIdeal.nD Cert.AbRefIdeal.τ).loc Cert.AbRefIdeal.main_arg8) = m ((c.tc : Thread Cert.AbRefIdeal.nD Cert.AbRefIdeal.τ).loc Cert.AbRefIdeal.main_arg8)
      ∧ r.2.mem ((c.tc : Thread Cert.AbRefIdeal.nD Cert.AbRefIdeal.τ).loc Cert.AbRefIdeal.main_arg9) = m ((c.tc : Thread Cert.AbRefIdeal.nD Cert.AbRefIdeal.τ).loc Cert.AbRefIdeal.main_arg9)
      ∧ r.2.mem ((c.tc : Thread Cert.AbRefIdeal.nD Cert.AbRefIdeal.τ).loc Cert.AbRefIdeal.main_arg10) = m ((c.tc : Thread Cert.AbRefIdeal.nD Cert.AbRefIdeal.τ).loc Cert.AbRefIdeal.main_arg10)
      ∧ r.2.mem ((c.tc : Thread Cert.AbRefIdeal.nD Cert.AbRefIdeal.τ).loc Cert.AbRefIdeal.main_arg11) = m ((c.tc : Thread Cert.AbRefIdeal.nD Cert.AbRefIdeal.τ).loc Cert.AbRefIdeal.main_arg11)
      ∧ r.2.mem ((c.tc : Thread Cert.AbRefIdeal.nD Cert.AbRefIdeal.τ).loc Cert.AbRefIdeal.main_arg12) = m ((c.tc : Thread Cert.AbRefIdeal.nD Cert.AbRefIdeal.τ).loc Cert.AbRefIdeal.main_arg12))
      ∧ r.2.sem = fun _ => 0)

def quiescent_AbRefIdeal_pre_finite_ab [hAbRefIdeal : Cert.AbRefIdeal.Facts] [hPre_finite_ab : Cert.Pre_finite_ab.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal_finite_ab m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2)
      ∧ r.2.mem ((c.tc : Thread Cert.AbRefIdeal.nD Cert.AbRefIdeal.τ).loc Cert.AbRefIdeal.main_arg3) = m ((c.tc : Thread Cert.AbRefIdeal.nD Cert.AbRefIdeal.τ).loc Cert.AbRefIdeal.main_arg3)
      ∧ r.2.mem ((c.tc : Thread Cert.AbRefIdeal.nD Cert.AbRefIdeal.τ).loc Cert.AbRefIdeal.main_arg4) = m ((c.tc : Thread Cert.AbRefIdeal.nD Cert.AbRefIdeal.τ).loc Cert.AbRefIdeal.main_arg4)
      ∧ r.2.mem ((c.tc : Thread Cert.AbRefIdeal.nD Cert.AbRefIdeal.τ).loc Cert.AbRefIdeal.main_arg5) = m ((c.tc : Thread Cert.AbRefIdeal.nD Cert.AbRefIdeal.τ).loc Cert.AbRefIdeal.main_arg5)
      ∧ r.2.mem ((c.tc : Thread Cert.AbRefIdeal.nD Cert.AbRefIdeal.τ).loc Cert.AbRefIdeal.main_arg6) = m ((c.tc : Thread Cert.AbRefIdeal.nD Cert.AbRefIdeal.τ).loc Cert.AbRefIdeal.main_arg6)
      ∧ r.2.mem ((c.tc : Thread Cert.AbRefIdeal.nD Cert.AbRefIdeal.τ).loc Cert.AbRefIdeal.main_arg7) = m ((c.tc : Thread Cert.AbRefIdeal.nD Cert.AbRefIdeal.τ).loc Cert.AbRefIdeal.main_arg7)
      ∧ r.2.mem ((c.tc : Thread Cert.AbRefIdeal.nD Cert.AbRefIdeal.τ).loc Cert.AbRefIdeal.main_arg8) = m ((c.tc : Thread Cert.AbRefIdeal.nD Cert.AbRefIdeal.τ).loc Cert.AbRefIdeal.main_arg8)
      ∧ r.2.mem ((c.tc : Thread Cert.AbRefIdeal.nD Cert.AbRefIdeal.τ).loc Cert.AbRefIdeal.main_arg9) = m ((c.tc : Thread Cert.AbRefIdeal.nD Cert.AbRefIdeal.τ).loc Cert.AbRefIdeal.main_arg9)
      ∧ r.2.mem ((c.tc : Thread Cert.AbRefIdeal.nD Cert.AbRefIdeal.τ).loc Cert.AbRefIdeal.main_arg10) = m ((c.tc : Thread Cert.AbRefIdeal.nD Cert.AbRefIdeal.τ).loc Cert.AbRefIdeal.main_arg10)
      ∧ r.2.mem ((c.tc : Thread Cert.AbRefIdeal.nD Cert.AbRefIdeal.τ).loc Cert.AbRefIdeal.main_arg11) = m ((c.tc : Thread Cert.AbRefIdeal.nD Cert.AbRefIdeal.τ).loc Cert.AbRefIdeal.main_arg11)
      ∧ r.2.mem ((c.tc : Thread Cert.AbRefIdeal.nD Cert.AbRefIdeal.τ).loc Cert.AbRefIdeal.main_arg12) = m ((c.tc : Thread Cert.AbRefIdeal.nD Cert.AbRefIdeal.τ).loc Cert.AbRefIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Mlp0_Mlp0Ideal : Prop :=
  True

def algebraic_Mlp0Ideal_Mlp0RefIdeal [hMlp0Ideal : Cert.Mlp0Ideal.Facts] [hMlp0RefIdeal : Cert.Mlp0RefIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0RefIdeal.nD Cert.Mlp0RefIdeal.τ Cert.Mlp0RefIdeal.sig) → Buf (Elt Ideal) ℓ) (g' : Dev Cert.Mlp0RefIdeal.nD → PrngReg), Pre_Mlp0Ideal m →
    (∀ c : Dev Cert.Mlp0Ideal.nD,
      m' ((c.tc : Thread Cert.Mlp0RefIdeal.nD Cert.Mlp0RefIdeal.τ).loc Cert.Mlp0RefIdeal.main_arg0) = m ((c.tc : Thread Cert.Mlp0Ideal.nD Cert.Mlp0Ideal.τ).loc Cert.Mlp0Ideal.main_arg0)
      ∧ m' ((c.tc : Thread Cert.Mlp0RefIdeal.nD Cert.Mlp0RefIdeal.τ).loc Cert.Mlp0RefIdeal.main_arg1) = m ((c.tc : Thread Cert.Mlp0Ideal.nD Cert.Mlp0Ideal.τ).loc Cert.Mlp0Ideal.main_arg1)
      ∧ m' ((c.tc : Thread Cert.Mlp0RefIdeal.nD Cert.Mlp0RefIdeal.τ).loc Cert.Mlp0RefIdeal.main_arg2) = m ((c.tc : Thread Cert.Mlp0Ideal.nD Cert.Mlp0Ideal.τ).loc Cert.Mlp0Ideal.main_arg2)
      ∧ m' ((c.tc : Thread Cert.Mlp0RefIdeal.nD Cert.Mlp0RefIdeal.τ).loc Cert.Mlp0RefIdeal.main_arg3) = m ((c.tc : Thread Cert.Mlp0Ideal.nD Cert.Mlp0Ideal.τ).loc Cert.Mlp0Ideal.main_arg3)
      ∧ m' ((c.tc : Thread Cert.Mlp0RefIdeal.nD Cert.Mlp0RefIdeal.τ).loc Cert.Mlp0RefIdeal.main_arg4) = m ((c.tc : Thread Cert.Mlp0Ideal.nD Cert.Mlp0Ideal.τ).loc Cert.Mlp0Ideal.main_arg4)
      ∧ m' ((c.tc : Thread Cert.Mlp0RefIdeal.nD Cert.Mlp0RefIdeal.τ).loc Cert.Mlp0RefIdeal.main_arg5) = m ((c.tc : Thread Cert.Mlp0Ideal.nD Cert.Mlp0Ideal.τ).loc Cert.Mlp0Ideal.main_arg5)
      ∧ m' ((c.tc : Thread Cert.Mlp0RefIdeal.nD Cert.Mlp0RefIdeal.τ).loc Cert.Mlp0RefIdeal.main_arg6) = m ((c.tc : Thread Cert.Mlp0Ideal.nD Cert.Mlp0Ideal.τ).loc Cert.Mlp0Ideal.main_arg6)
      ∧ m' ((c.tc : Thread Cert.Mlp0RefIdeal.nD Cert.Mlp0RefIdeal.τ).loc Cert.Mlp0RefIdeal.main_arg7) = m ((c.tc : Thread Cert.Mlp0Ideal.nD Cert.Mlp0Ideal.τ).loc Cert.Mlp0Ideal.main_arg7)) →
    ∃ (v0 : (c : Dev Cert.Mlp0Ideal.nD) → Buf (Elt Ideal) ((c.tc : Thread Cert.Mlp0Ideal.nD Cert.Mlp0Ideal.τ).loc Cert.Mlp0Ideal.main_v7_0)) (v1 : (c : Dev Cert.Mlp0Ideal.nD) → Buf (Elt Ideal) ((c.tc : Thread Cert.Mlp0Ideal.nD Cert.Mlp0Ideal.τ).loc Cert.Mlp0Ideal.main_v7_1)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v7_0) = v0 c
          ∧ r.2.mem ((c.tc : Thread Cert.Mlp0Ideal.nD Cert.Mlp0Ideal.τ).loc Cert.Mlp0Ideal.main_v7_1) = v1 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5)
          ∧ r.2.mem ((c.tc : Thread Cert.Mlp0Ideal.nD Cert.Mlp0Ideal.τ).loc Cert.Mlp0Ideal.main_arg6) = m ((c.tc : Thread Cert.Mlp0Ideal.nD Cert.Mlp0Ideal.τ).loc Cert.Mlp0Ideal.main_arg6)
          ∧ r.2.mem ((c.tc : Thread Cert.Mlp0Ideal.nD Cert.Mlp0Ideal.τ).loc Cert.Mlp0Ideal.main_arg7) = m ((c.tc : Thread Cert.Mlp0Ideal.nD Cert.Mlp0Ideal.τ).loc Cert.Mlp0Ideal.main_arg7))
      ∧ θ_run (Cert.Mlp0RefIdeal.defs (F := Ideal)) (onTc (τ := Cert.Mlp0RefIdeal.τ) (Cert.Mlp0RefIdeal.main (F := Ideal))) ⟨m', fun _ => 0, g'⟩ (fun r => ∀ c : Dev Cert.Mlp0RefIdeal.nD,
          r.2.mem ((c.tc : Thread Cert.Mlp0RefIdeal.nD Cert.Mlp0RefIdeal.τ).loc Cert.Mlp0RefIdeal.main_v27) = v0 c
          ∧ r.2.mem ((c.tc : Thread Cert.Mlp0RefIdeal.nD Cert.Mlp0RefIdeal.τ).loc Cert.Mlp0RefIdeal.main_v54) = v1 c
          ∧ r.2.mem ((c.tc : Thread Cert.Mlp0RefIdeal.nD Cert.Mlp0RefIdeal.τ).loc Cert.Mlp0RefIdeal.main_arg0) = m' ((c.tc : Thread Cert.Mlp0RefIdeal.nD Cert.Mlp0RefIdeal.τ).loc Cert.Mlp0RefIdeal.main_arg0)
          ∧ r.2.mem ((c.tc : Thread Cert.Mlp0RefIdeal.nD Cert.Mlp0RefIdeal.τ).loc Cert.Mlp0RefIdeal.main_arg1) = m' ((c.tc : Thread Cert.Mlp0RefIdeal.nD Cert.Mlp0RefIdeal.τ).loc Cert.Mlp0RefIdeal.main_arg1)
          ∧ r.2.mem ((c.tc : Thread Cert.Mlp0RefIdeal.nD Cert.Mlp0RefIdeal.τ).loc Cert.Mlp0RefIdeal.main_arg2) = m' ((c.tc : Thread Cert.Mlp0RefIdeal.nD Cert.Mlp0RefIdeal.τ).loc Cert.Mlp0RefIdeal.main_arg2)
          ∧ r.2.mem ((c.tc : Thread Cert.Mlp0RefIdeal.nD Cert.Mlp0RefIdeal.τ).loc Cert.Mlp0RefIdeal.main_arg3) = m' ((c.tc : Thread Cert.Mlp0RefIdeal.nD Cert.Mlp0RefIdeal.τ).loc Cert.Mlp0RefIdeal.main_arg3)
          ∧ r.2.mem ((c.tc : Thread Cert.Mlp0RefIdeal.nD Cert.Mlp0RefIdeal.τ).loc Cert.Mlp0RefIdeal.main_arg4) = m' ((c.tc : Thread Cert.Mlp0RefIdeal.nD Cert.Mlp0RefIdeal.τ).loc Cert.Mlp0RefIdeal.main_arg4)
          ∧ r.2.mem ((c.tc : Thread Cert.Mlp0RefIdeal.nD Cert.Mlp0RefIdeal.τ).loc Cert.Mlp0RefIdeal.main_arg5) = m' ((c.tc : Thread Cert.Mlp0RefIdeal.nD Cert.Mlp0RefIdeal.τ).loc Cert.Mlp0RefIdeal.main_arg5)
          ∧ r.2.mem ((c.tc : Thread Cert.Mlp0RefIdeal.nD Cert.Mlp0RefIdeal.τ).loc Cert.Mlp0RefIdeal.main_arg6) = m' ((c.tc : Thread Cert.Mlp0RefIdeal.nD Cert.Mlp0RefIdeal.τ).loc Cert.Mlp0RefIdeal.main_arg6)
          ∧ r.2.mem ((c.tc : Thread Cert.Mlp0RefIdeal.nD Cert.Mlp0RefIdeal.τ).loc Cert.Mlp0RefIdeal.main_arg7) = m' ((c.tc : Thread Cert.Mlp0RefIdeal.nD Cert.Mlp0RefIdeal.τ).loc Cert.Mlp0RefIdeal.main_arg7))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)
      ∧ m' ((c.tc : Thread Cert.Mlp1RefIdeal.nD Cert.Mlp1RefIdeal.τ).loc Cert.Mlp1RefIdeal.main_arg3) = m ((c.tc : Thread Cert.Mlp1Ideal.nD Cert.Mlp1Ideal.τ).loc Cert.Mlp1Ideal.main_arg3)
      ∧ m' ((c.tc : Thread Cert.Mlp1RefIdeal.nD Cert.Mlp1RefIdeal.τ).loc Cert.Mlp1RefIdeal.main_arg4) = m ((c.tc : Thread Cert.Mlp1Ideal.nD Cert.Mlp1Ideal.τ).loc Cert.Mlp1Ideal.main_arg4)
      ∧ m' ((c.tc : Thread Cert.Mlp1RefIdeal.nD Cert.Mlp1RefIdeal.τ).loc Cert.Mlp1RefIdeal.main_arg5) = m ((c.tc : Thread Cert.Mlp1Ideal.nD Cert.Mlp1Ideal.τ).loc Cert.Mlp1Ideal.main_arg5)
      ∧ m' ((c.tc : Thread Cert.Mlp1RefIdeal.nD Cert.Mlp1RefIdeal.τ).loc Cert.Mlp1RefIdeal.main_arg6) = m ((c.tc : Thread Cert.Mlp1Ideal.nD Cert.Mlp1Ideal.τ).loc Cert.Mlp1Ideal.main_arg6)
      ∧ m' ((c.tc : Thread Cert.Mlp1RefIdeal.nD Cert.Mlp1RefIdeal.τ).loc Cert.Mlp1RefIdeal.main_arg7) = m ((c.tc : Thread Cert.Mlp1Ideal.nD Cert.Mlp1Ideal.τ).loc Cert.Mlp1Ideal.main_arg7)
      ∧ m' ((c.tc : Thread Cert.Mlp1RefIdeal.nD Cert.Mlp1RefIdeal.τ).loc Cert.Mlp1RefIdeal.main_arg8) = m ((c.tc : Thread Cert.Mlp1Ideal.nD Cert.Mlp1Ideal.τ).loc Cert.Mlp1Ideal.main_arg8)) →
    ∃ (v0 : (c : Dev Cert.Mlp1Ideal.nD) → Buf (Elt Ideal) ((c.tc : Thread Cert.Mlp1Ideal.nD Cert.Mlp1Ideal.τ).loc Cert.Mlp1Ideal.main_v8_0)) (v1 : (c : Dev Cert.Mlp1Ideal.nD) → Buf (Elt Ideal) ((c.tc : Thread Cert.Mlp1Ideal.nD Cert.Mlp1Ideal.τ).loc Cert.Mlp1Ideal.main_v8_1)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v8_0) = v0 c
          ∧ r.2.mem ((c.tc : Thread Cert.Mlp1Ideal.nD Cert.Mlp1Ideal.τ).loc Cert.Mlp1Ideal.main_v8_1) = v1 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
          ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6)
          ∧ r.2.mem ((c.tc : Thread Cert.Mlp1Ideal.nD Cert.Mlp1Ideal.τ).loc Cert.Mlp1Ideal.main_arg7) = m ((c.tc : Thread Cert.Mlp1Ideal.nD Cert.Mlp1Ideal.τ).loc Cert.Mlp1Ideal.main_arg7)
          ∧ r.2.mem ((c.tc : Thread Cert.Mlp1Ideal.nD Cert.Mlp1Ideal.τ).loc Cert.Mlp1Ideal.main_arg8) = m ((c.tc : Thread Cert.Mlp1Ideal.nD Cert.Mlp1Ideal.τ).loc Cert.Mlp1Ideal.main_arg8))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v40) = v0 c
          ∧ r.2.mem ((c.tc : Thread Cert.Mlp1RefIdeal.nD Cert.Mlp1RefIdeal.τ).loc Cert.Mlp1RefIdeal.main_v80) = v1 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2)
          ∧ r.2.mem ((c.tc : Thread Cert.Mlp1RefIdeal.nD Cert.Mlp1RefIdeal.τ).loc Cert.Mlp1RefIdeal.main_arg3) = m' ((c.tc : Thread Cert.Mlp1RefIdeal.nD Cert.Mlp1RefIdeal.τ).loc Cert.Mlp1RefIdeal.main_arg3)
          ∧ r.2.mem ((c.tc : Thread Cert.Mlp1RefIdeal.nD Cert.Mlp1RefIdeal.τ).loc Cert.Mlp1RefIdeal.main_arg4) = m' ((c.tc : Thread Cert.Mlp1RefIdeal.nD Cert.Mlp1RefIdeal.τ).loc Cert.Mlp1RefIdeal.main_arg4)
          ∧ r.2.mem ((c.tc : Thread Cert.Mlp1RefIdeal.nD Cert.Mlp1RefIdeal.τ).loc Cert.Mlp1RefIdeal.main_arg5) = m' ((c.tc : Thread Cert.Mlp1RefIdeal.nD Cert.Mlp1RefIdeal.τ).loc Cert.Mlp1RefIdeal.main_arg5)
          ∧ r.2.mem ((c.tc : Thread Cert.Mlp1RefIdeal.nD Cert.Mlp1RefIdeal.τ).loc Cert.Mlp1RefIdeal.main_arg6) = m' ((c.tc : Thread Cert.Mlp1RefIdeal.nD Cert.Mlp1RefIdeal.τ).loc Cert.Mlp1RefIdeal.main_arg6)
          ∧ r.2.mem ((c.tc : Thread Cert.Mlp1RefIdeal.nD Cert.Mlp1RefIdeal.τ).loc Cert.Mlp1RefIdeal.main_arg7) = m' ((c.tc : Thread Cert.Mlp1RefIdeal.nD Cert.Mlp1RefIdeal.τ).loc Cert.Mlp1RefIdeal.main_arg7)
          ∧ r.2.mem ((c.tc : Thread Cert.Mlp1RefIdeal.nD Cert.Mlp1RefIdeal.τ).loc Cert.Mlp1RefIdeal.main_arg8) = m' ((c.tc : Thread Cert.Mlp1RefIdeal.nD Cert.Mlp1RefIdeal.τ).loc Cert.Mlp1RefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)) (v5 : (c : Dev Cert.ProjIdeal.nD) → Buf (Elt Ideal) ((c.tc : Thread Cert.ProjIdeal.nD Cert.ProjIdeal.τ).loc Cert.ProjIdeal.main_v4_5)) (v6 : (c : Dev Cert.ProjIdeal.nD) → Buf (Elt Ideal) ((c.tc : Thread Cert.ProjIdeal.nD Cert.ProjIdeal.τ).loc Cert.ProjIdeal.main_v4_6)) (v7 : (c : Dev Cert.ProjIdeal.nD) → Buf (Elt Ideal) ((c.tc : Thread Cert.ProjIdeal.nD Cert.ProjIdeal.τ).loc Cert.ProjIdeal.main_v4_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_v4_5) = v5 c
          ∧ r.2.mem ((c.tc : Thread Cert.ProjIdeal.nD Cert.ProjIdeal.τ).loc Cert.ProjIdeal.main_v4_6) = v6 c
          ∧ r.2.mem ((c.tc : Thread Cert.ProjIdeal.nD Cert.ProjIdeal.τ).loc Cert.ProjIdeal.main_v4_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v20) = v3 c
          ∧ r.2.mem ((c.tc : Thread Cert.ProjRefIdeal.nD Cert.ProjRefIdeal.τ).loc Cert.ProjRefIdeal.main_v37) = v4 c
          ∧ r.2.mem ((c.tc : Thread Cert.ProjRefIdeal.nD Cert.ProjRefIdeal.τ).loc Cert.ProjRefIdeal.main_v38) = v5 c
          ∧ r.2.mem ((c.tc : Thread Cert.ProjRefIdeal.nD Cert.ProjRefIdeal.τ).loc Cert.ProjRefIdeal.main_v39) = v6 c
          ∧ r.2.mem ((c.tc : Thread Cert.ProjRefIdeal.nD Cert.ProjRefIdeal.τ).loc Cert.ProjRefIdeal.main_v41) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Ab_AbIdeal : Prop :=
  True

def algebraic_AbIdeal_AbRefIdeal_pre_finite_ab [hAbIdeal : Cert.AbIdeal.Facts] [hAbRefIdeal : Cert.AbRefIdeal.Facts] [hPre_finite_ab : Cert.Pre_finite_ab.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal_finite_ab m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)
      ∧ m' ((c.tc : Thread Cert.AbRefIdeal.nD Cert.AbRefIdeal.τ).loc Cert.AbRefIdeal.main_arg2) = m ((c.tc : Thread Cert.AbIdeal.nD Cert.AbIdeal.τ).loc Cert.AbIdeal.main_arg2)
      ∧ m' ((c.tc : Thread Cert.AbRefIdeal.nD Cert.AbRefIdeal.τ).loc Cert.AbRefIdeal.main_arg3) = m ((c.tc : Thread Cert.AbIdeal.nD Cert.AbIdeal.τ).loc Cert.AbIdeal.main_arg3)
      ∧ m' ((c.tc : Thread Cert.AbRefIdeal.nD Cert.AbRefIdeal.τ).loc Cert.AbRefIdeal.main_arg4) = m ((c.tc : Thread Cert.AbIdeal.nD Cert.AbIdeal.τ).loc Cert.AbIdeal.main_arg4)
      ∧ m' ((c.tc : Thread Cert.AbRefIdeal.nD Cert.AbRefIdeal.τ).loc Cert.AbRefIdeal.main_arg5) = m ((c.tc : Thread Cert.AbIdeal.nD Cert.AbIdeal.τ).loc Cert.AbIdeal.main_arg5)
      ∧ m' ((c.tc : Thread Cert.AbRefIdeal.nD Cert.AbRefIdeal.τ).loc Cert.AbRefIdeal.main_arg6) = m ((c.tc : Thread Cert.AbIdeal.nD Cert.AbIdeal.τ).loc Cert.AbIdeal.main_arg6)
      ∧ m' ((c.tc : Thread Cert.AbRefIdeal.nD Cert.AbRefIdeal.τ).loc Cert.AbRefIdeal.main_arg7) = m ((c.tc : Thread Cert.AbIdeal.nD Cert.AbIdeal.τ).loc Cert.AbIdeal.main_arg7)
      ∧ m' ((c.tc : Thread Cert.AbRefIdeal.nD Cert.AbRefIdeal.τ).loc Cert.AbRefIdeal.main_arg8) = m ((c.tc : Thread Cert.AbIdeal.nD Cert.AbIdeal.τ).loc Cert.AbIdeal.main_arg8)
      ∧ m' ((c.tc : Thread Cert.AbRefIdeal.nD Cert.AbRefIdeal.τ).loc Cert.AbRefIdeal.main_arg9) = m ((c.tc : Thread Cert.AbIdeal.nD Cert.AbIdeal.τ).loc Cert.AbIdeal.main_arg9)
      ∧ m' ((c.tc : Thread Cert.AbRefIdeal.nD Cert.AbRefIdeal.τ).loc Cert.AbRefIdeal.main_arg10) = m ((c.tc : Thread Cert.AbIdeal.nD Cert.AbIdeal.τ).loc Cert.AbIdeal.main_arg10)
      ∧ m' ((c.tc : Thread Cert.AbRefIdeal.nD Cert.AbRefIdeal.τ).loc Cert.AbRefIdeal.main_arg11) = m ((c.tc : Thread Cert.AbIdeal.nD Cert.AbIdeal.τ).loc Cert.AbIdeal.main_arg11)
      ∧ m' ((c.tc : Thread Cert.AbRefIdeal.nD Cert.AbRefIdeal.τ).loc Cert.AbRefIdeal.main_arg12) = m ((c.tc : Thread Cert.AbIdeal.nD Cert.AbIdeal.τ).loc Cert.AbIdeal.main_arg12)) →
    ∃ (v0 : (c : Dev Cert.AbIdeal.nD) → Buf (Elt Ideal) ((c.tc : Thread Cert.AbIdeal.nD Cert.AbIdeal.τ).loc Cert.AbIdeal.main_v24_0)) (v1 : (c : Dev Cert.AbIdeal.nD) → Buf (Elt Ideal) ((c.tc : Thread Cert.AbIdeal.nD Cert.AbIdeal.τ).loc Cert.AbIdeal.main_v24_1)) (v2 : (c : Dev Cert.AbIdeal.nD) → Buf (Elt Ideal) ((c.tc : Thread Cert.AbIdeal.nD Cert.AbIdeal.τ).loc Cert.AbIdeal.main_v24_2)) (v3 : (c : Dev Cert.AbIdeal.nD) → Buf (Elt Ideal) ((c.tc : Thread Cert.AbIdeal.nD Cert.AbIdeal.τ).loc Cert.AbIdeal.main_v24_3)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v24_0) = v0 c
          ∧ r.2.mem ((c.tc : Thread Cert.AbIdeal.nD Cert.AbIdeal.τ).loc Cert.AbIdeal.main_v24_1) = v1 c
          ∧ r.2.mem ((c.tc : Thread Cert.AbIdeal.nD Cert.AbIdeal.τ).loc Cert.AbIdeal.main_v24_2) = v2 c
          ∧ r.2.mem ((c.tc : Thread Cert.AbIdeal.nD Cert.AbIdeal.τ).loc Cert.AbIdeal.main_v24_3) = v3 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
          ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
          ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
          ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
          ∧ r.2.mem ((c.tc : Thread Cert.AbIdeal.nD Cert.AbIdeal.τ).loc Cert.AbIdeal.main_arg5) = m ((c.tc : Thread Cert.AbIdeal.nD Cert.AbIdeal.τ).loc Cert.AbIdeal.main_arg5)
          ∧ r.2.mem ((c.tc : Thread Cert.AbIdeal.nD Cert.AbIdeal.τ).loc Cert.AbIdeal.main_arg6) = m ((c.tc : Thread Cert.AbIdeal.nD Cert.AbIdeal.τ).loc Cert.AbIdeal.main_arg6)
          ∧ r.2.mem ((c.tc : Thread Cert.AbIdeal.nD Cert.AbIdeal.τ).loc Cert.AbIdeal.main_arg7) = m ((c.tc : Thread Cert.AbIdeal.nD Cert.AbIdeal.τ).loc Cert.AbIdeal.main_arg7)
          ∧ r.2.mem ((c.tc : Thread Cert.AbIdeal.nD Cert.AbIdeal.τ).loc Cert.AbIdeal.main_arg8) = m ((c.tc : Thread Cert.AbIdeal.nD Cert.AbIdeal.τ).loc Cert.AbIdeal.main_arg8)
          ∧ r.2.mem ((c.tc : Thread Cert.AbIdeal.nD Cert.AbIdeal.τ).loc Cert.AbIdeal.main_arg9) = m ((c.tc : Thread Cert.AbIdeal.nD Cert.AbIdeal.τ).loc Cert.AbIdeal.main_arg9)
          ∧ r.2.mem ((c.tc : Thread Cert.AbIdeal.nD Cert.AbIdeal.τ).loc Cert.AbIdeal.main_arg10) = m ((c.tc : Thread Cert.AbIdeal.nD Cert.AbIdeal.τ).loc Cert.AbIdeal.main_arg10)
          ∧ r.2.mem ((c.tc : Thread Cert.AbIdeal.nD Cert.AbIdeal.τ).loc Cert.AbIdeal.main_arg11) = m ((c.tc : Thread Cert.AbIdeal.nD Cert.AbIdeal.τ).loc Cert.AbIdeal.main_arg11)
          ∧ r.2.mem ((c.tc : Thread Cert.AbIdeal.nD Cert.AbIdeal.τ).loc Cert.AbIdeal.main_arg12) = m ((c.tc : Thread Cert.AbIdeal.nD Cert.AbIdeal.τ).loc Cert.AbIdeal.main_arg12))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v222) = v0 c
          ∧ r.2.mem ((c.tc : Thread Cert.AbRefIdeal.nD Cert.AbRefIdeal.τ).loc Cert.AbRefIdeal.main_v224) = v1 c
          ∧ r.2.mem ((c.tc : Thread Cert.AbRefIdeal.nD Cert.AbRefIdeal.τ).loc Cert.AbRefIdeal.main_v114) = v2 c
          ∧ r.2.mem ((c.tc : Thread Cert.AbRefIdeal.nD Cert.AbRefIdeal.τ).loc Cert.AbRefIdeal.main_v189) = v3 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1)
          ∧ r.2.mem ((c.tc : Thread Cert.AbRefIdeal.nD Cert.AbRefIdeal.τ).loc Cert.AbRefIdeal.main_arg2) = m' ((c.tc : Thread Cert.AbRefIdeal.nD Cert.AbRefIdeal.τ).loc Cert.AbRefIdeal.main_arg2)
          ∧ r.2.mem ((c.tc : Thread Cert.AbRefIdeal.nD Cert.AbRefIdeal.τ).loc Cert.AbRefIdeal.main_arg3) = m' ((c.tc : Thread Cert.AbRefIdeal.nD Cert.AbRefIdeal.τ).loc Cert.AbRefIdeal.main_arg3)
          ∧ r.2.mem ((c.tc : Thread Cert.AbRefIdeal.nD Cert.AbRefIdeal.τ).loc Cert.AbRefIdeal.main_arg4) = m' ((c.tc : Thread Cert.AbRefIdeal.nD Cert.AbRefIdeal.τ).loc Cert.AbRefIdeal.main_arg4)
          ∧ r.2.mem ((c.tc : Thread Cert.AbRefIdeal.nD Cert.AbRefIdeal.τ).loc Cert.AbRefIdeal.main_arg5) = m' ((c.tc : Thread Cert.AbRefIdeal.nD Cert.AbRefIdeal.τ).loc Cert.AbRefIdeal.main_arg5)
          ∧ r.2.mem ((c.tc : Thread Cert.AbRefIdeal.nD Cert.AbRefIdeal.τ).loc Cert.AbRefIdeal.main_arg6) = m' ((c.tc : Thread Cert.AbRefIdeal.nD Cert.AbRefIdeal.τ).loc Cert.AbRefIdeal.main_arg6)
          ∧ r.2.mem ((c.tc : Thread Cert.AbRefIdeal.nD Cert.AbRefIdeal.τ).loc Cert.AbRefIdeal.main_arg7) = m' ((c.tc : Thread Cert.AbRefIdeal.nD Cert.AbRefIdeal.τ).loc Cert.AbRefIdeal.main_arg7)
          ∧ r.2.mem ((c.tc : Thread Cert.AbRefIdeal.nD Cert.AbRefIdeal.τ).loc Cert.AbRefIdeal.main_arg8) = m' ((c.tc : Thread Cert.AbRefIdeal.nD Cert.AbRefIdeal.τ).loc Cert.AbRefIdeal.main_arg8)
          ∧ r.2.mem ((c.tc : Thread Cert.AbRefIdeal.nD Cert.AbRefIdeal.τ).loc Cert.AbRefIdeal.main_arg9) = m' ((c.tc : Thread Cert.AbRefIdeal.nD Cert.AbRefIdeal.τ).loc Cert.AbRefIdeal.main_arg9)
          ∧ r.2.mem ((c.tc : Thread Cert.AbRefIdeal.nD Cert.AbRefIdeal.τ).loc Cert.AbRefIdeal.main_arg10) = m' ((c.tc : Thread Cert.AbRefIdeal.nD Cert.AbRefIdeal.τ).loc Cert.AbRefIdeal.main_arg10)
          ∧ r.2.mem ((c.tc : Thread Cert.AbRefIdeal.nD Cert.AbRefIdeal.τ).loc Cert.AbRefIdeal.main_arg11) = m' ((c.tc : Thread Cert.AbRefIdeal.nD Cert.AbRefIdeal.τ).loc Cert.AbRefIdeal.main_arg11)
          ∧ r.2.mem ((c.tc : Thread Cert.AbRefIdeal.nD Cert.AbRefIdeal.τ).loc Cert.AbRefIdeal.main_arg12) = m' ((c.tc : Thread Cert.AbRefIdeal.nD Cert.AbRefIdeal.τ).loc Cert.AbRefIdeal.main_arg12))

def Claim : Prop :=
  ∃ (hKernel : Cert.Kernel.Facts) (hKernelIdeal : Cert.KernelIdeal.Facts) (hReferenceIdeal : Cert.ReferenceIdeal.Facts) (hMlp0 : Cert.Mlp0.Facts) (hMlp0Ideal : Cert.Mlp0Ideal.Facts) (hMlp0RefIdeal : Cert.Mlp0RefIdeal.Facts) (hMlp1 : Cert.Mlp1.Facts) (hMlp1Ideal : Cert.Mlp1Ideal.Facts) (hMlp1RefIdeal : Cert.Mlp1RefIdeal.Facts) (hProj : Cert.Proj.Facts) (hProjIdeal : Cert.ProjIdeal.Facts) (hProjRefIdeal : Cert.ProjRefIdeal.Facts) (hAb : Cert.Ab.Facts) (hAbIdeal : Cert.AbIdeal.Facts) (hAbRefIdeal : Cert.AbRefIdeal.Facts) (hPre_finite_inputs : Cert.Pre_finite_inputs.Facts) (hPre_finite_ab : Cert.Pre_finite_ab.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp0 (hMlp0 := hMlp0)
    ∧ quiescent_Mlp0Ideal (hMlp0Ideal := hMlp0Ideal)
    ∧ quiescent_Mlp0RefIdeal (hMlp0RefIdeal := hMlp0RefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Proj (hProj := hProj)
    ∧ quiescent_ProjIdeal (hProjIdeal := hProjIdeal)
    ∧ quiescent_ProjRefIdeal (hProjRefIdeal := hProjRefIdeal)
    ∧ quiescent_Ab (hAb := hAb)
    ∧ quiescent_AbIdeal (hAbIdeal := hAbIdeal)
    ∧ quiescent_AbIdeal_pre_finite_ab (hAbIdeal := hAbIdeal) (hPre_finite_ab := hPre_finite_ab)
    ∧ quiescent_AbRefIdeal (hAbRefIdeal := hAbRefIdeal)
    ∧ quiescent_AbRefIdeal_pre_finite_ab (hAbRefIdeal := hAbRefIdeal) (hPre_finite_ab := hPre_finite_ab)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp0_Mlp0Ideal
    ∧ algebraic_Mlp0Ideal_Mlp0RefIdeal (hMlp0Ideal := hMlp0Ideal) (hMlp0RefIdeal := hMlp0RefIdeal)
    ∧ preserves_Mlp1_Mlp1Ideal
    ∧ algebraic_Mlp1Ideal_Mlp1RefIdeal (hMlp1Ideal := hMlp1Ideal) (hMlp1RefIdeal := hMlp1RefIdeal)
    ∧ preserves_Proj_ProjIdeal
    ∧ algebraic_ProjIdeal_ProjRefIdeal (hProjIdeal := hProjIdeal) (hProjRefIdeal := hProjRefIdeal)
    ∧ preserves_Ab_AbIdeal
    ∧ algebraic_AbIdeal_AbRefIdeal_pre_finite_ab (hAbIdeal := hAbIdeal) (hAbRefIdeal := hAbRefIdeal) (hPre_finite_ab := hPre_finite_ab)
-- ==== Pre_finite_ab.lean ====
abbrev S128x1536 : Shape := ⟨2, ![128, 1536]⟩
abbrev S128x2560 : Shape := ⟨2, ![128, 2560]⟩
abbrev S128x128 : Shape := ⟨2, ![128, 128]⟩
abbrev S1x64 : Shape := ⟨2, ![1, 64]⟩
abbrev S128x3x1536 : Shape := ⟨3, ![128, 3, 1536]⟩
abbrev S128x4x128x128 : Shape := ⟨4, ![128, 4, 128, 128]⟩
abbrev S4x1536 : Shape := ⟨2, ![4, 1536]⟩
abbrev S4 : Shape := ⟨1, ![4]⟩
abbrev S128 : Shape := ⟨1, ![128]⟩
abbrev S_ : Shape := ⟨0, ![]⟩

class Facts : Prop where
  bcast_S_S128x1536 : S_.BroadcastsInDim S128x1536 (![] : Fin 0 → Fin S128x1536.rank)
  reducesTo_S128x1536_S_d0_1 : S128x1536.ReducesTo [0, 1] S_
  h_S_ : 0 < S_.numel
  bcast_S_S128x2560 : S_.BroadcastsInDim S128x2560 (![] : Fin 0 → Fin S128x2560.rank)
  reducesTo_S128x2560_S_d0_1 : S128x2560.ReducesTo [0, 1] S_
  bcast_S_S128x128 : S_.BroadcastsInDim S128x128 (![] : Fin 0 → Fin S128x128.rank)
  reducesTo_S128x128_S_d0_1 : S128x128.ReducesTo [0, 1] S_
  bcast_S_S1x64 : S_.BroadcastsInDim S1x64 (![] : Fin 0 → Fin S1x64.rank)
  reducesTo_S1x64_S_d0_1 : S1x64.ReducesTo [0, 1] S_
  bcast_S_S128x3x1536 : S_.BroadcastsInDim S128x3x1536 (![] : Fin 0 → Fin S128x3x1536.rank)
  reducesTo_S128x3x1536_S_d0_1_2 : S128x3x1536.ReducesTo [0, 1, 2] S_
  bcast_S_S128x4x128x128 : S_.BroadcastsInDim S128x4x128x128 (![] : Fin 0 → Fin S128x4x128x128.rank)
  reducesTo_S128x4x128x128_S_d0_1_2_3 : S128x4x128x128.ReducesTo [0, 1, 2, 3] S_
  bcast_S_S4x1536 : S_.BroadcastsInDim S4x1536 (![] : Fin 0 → Fin S4x1536.rank)
  reducesTo_S4x1536_S_d0_1 : S4x1536.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S128x4x128x128 .f32) (main_arg8 : FVec F S4x1536 .f32) (main_arg9 : FVec F S4 .f32) (main_arg10 : FVec F S4 .f32) (main_v33 : IVec S_ 1) : IVec S_ 1 :=
  let main_v34 : FVec F S128x4x128x128 .f32 := Host.absf main_arg7
  let main_cst_12 : FVec F S_ .f32 := constant S_ .f32 0x7F800000#32
  let main_v35 : FVec F S128x4x128x128 .f32 := broadcastInDim S128x4x128x128 ![] bcast_S_S128x4x128x128 main_cst_12
  let main_v36 : IVec S128x4x128x128 1 := cmpf .olt main_v34 main_v35
  let main_c_13 : IVec S_ 1 := constantI S_ 1 1#1
  let main_v37 : IVec S_ 1 := (fun x v => Host.reduce IntOp.andi x v reducesTo_S128x4x128x128_S_d0_1_2_3 h_S_) main_v36 main_c_13
  let main_v38 : IVec S_ 1 := andi main_v33 main_v37
  let main_v39 : FVec F S4x1536 .f32 := Host.absf main_arg8
  let main_cst_14 : FVec F S_ .f32 := constant S_ .f32 0x7F800000#32
  let main_v40 : FVec F S4x1536 .f32 := broadcastInDim S4x1536 ![] bcast_S_S4x1536 main_cst_14
  let main_v41 : IVec S4x1536 1 := cmpf .olt main_v39 main_v40
  let main_c_15 : IVec S_ 1 := constantI S_ 1 1#1
  let main_v42 : IVec S_ 1 := (fun x v => Host.reduce IntOp.andi x v reducesTo_S4x1536_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S1x64 .f32) (main_arg5 : FVec F S128x3x1536 .f32) (main_arg6 : FVec F S128x4x128x128 .f32) (main_arg7 : FVec F S128x4x128x128 .f32) (main_arg8 : FVec F S4x1536 .f32) (main_arg9 : FVec F S4 .f32) (main_arg10 : FVec F S4 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S128x3x1536 .f32 := Host.absf main_arg5
  let main_cst_8 : FVec F S_ .f32 := constant S_ .f32 0x7F800000#32
  let main_v25 : FVec F S128x3x1536 .f32 := broadcastInDim S128x3x1536 ![] bcast_S_S128x3x1536 main_cst_8
  let main_v26 : IVec S128x3x1536 1 := cmpf .olt main_v24 main_v25
  let main_c_9 : IVec S_ 1 := constantI S_ 1 1#1
  let main_v27 : IVec S_ 1 := (fun x v => Host.reduce IntOp.andi x v reducesTo_S128x3x1536_S_d0_1_2 h_S_) main_v26 main_c_9
  let main_v28 : IVec S_ 1 := andi main_v23 main_v27
  let main_v29 : FVec F S128x4x128x128 .f32 := Host.absf main_arg6
  let main_cst_10 : FVec F S_ .f32 := constant S_ .f32 0x7F800000#32
  let main_v30 : FVec F S128x4x128x128 .f32 := broadcastInDim S128x4x128x128 ![] bcast_S_S128x4x128x128 main_cst_10
  let main_v31 : IVec S128x4x128x128 1 := cmpf .olt main_v29 main_v30
  let main_c_11 : IVec S_ 1 := constantI S_ 1 1#1
  let main_v32 : IVec S_ 1 := (fun x v => Host.reduce IntOp.andi x v reducesTo_S128x4x128x128_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S128x1536 .f32) (main_arg1 : FVec F S128x2560 .f32) (main_arg2 : FVec F S128x128 .f32) (main_arg3 : FVec F S1x64 .f32) (main_arg4 : FVec F S1x64 .f32) (main_arg5 : FVec F S128x3x1536 .f32) (main_arg6 : FVec F S128x4x128x128 .f32) (main_arg7 : FVec F S128x4x128x128 .f32) (main_arg8 : FVec F S4x1536 .f32) (main_arg9 : FVec F S4 .f32) (main_arg10 : FVec F S4 .f32) (main_arg11 : FVec F S128 .f32) (main_arg12 : FVec F S128 .f32) : IVec S_ 1 :=
  let main_v0 : FVec F S128x1536 .f32 := Host.absf main_arg0
  let main_cst : FVec F S_ .f32 := constant S_ .f32 0x7F800000#32
  let main_v1 : FVec F S128x1536 .f32 := broadcastInDim S128x1536 ![] bcast_S_S128x1536 main_cst
  let main_v2 : IVec S128x1536 1 := cmpf .olt main_v0 main_v1
  let main_c : IVec S_ 1 := constantI S_ 1 1#1
  let main_v3 : IVec S_ 1 := (fun x v => Host.reduce IntOp.andi x v reducesTo_S128x1536_S_d0_1 h_S_) main_v2 main_c
  let main_v4 : FVec F S128x2560 .f32 := Host.absf main_arg1
  let main_cst_0 : FVec F S_ .f32 := constant S_ .f32 0x7F800000#32
  let main_v5 : FVec F S128x2560 .f32 := broadcastInDim S128x2560 ![] bcast_S_S128x2560 main_cst_0
  let main_v6 : IVec S128x2560 1 := cmpf .olt main_v4 main_v5
  let main_c_1 : IVec S_ 1 := constantI S_ 1 1#1
  let main_v7 : IVec S_ 1 := (fun x v => Host.reduce IntOp.andi x v reducesTo_S128x2560_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_v13 main_v16
-- ==== Pre_finite_inputs.lean ====
abbrev S128x1024 : Shape := ⟨2, ![128, 1024]⟩
abbrev S128x128 : Shape := ⟨2, ![128, 128]⟩
abbrev S128x4x128x256 : Shape := ⟨4, ![128, 4, 128, 256]⟩
abbrev S128x4x128 : Shape := ⟨3, ![128, 4, 128]⟩
abbrev S128x4 : Shape := ⟨2, ![128, 4]⟩
abbrev S8 : Shape := ⟨1, ![8]⟩
abbrev S256 : Shape := ⟨1, ![256]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x4x128x256 : S_.BroadcastsInDim S128x4x128x256 (![] : Fin 0 → Fin S128x4x128x256.rank)
  reducesTo_S128x4x128x256_S_d0_1_2_3 : S128x4x128x256.ReducesTo [0, 1, 2, 3] S_
  bcast_S_S128x4x128 : S_.BroadcastsInDim S128x4x128 (![] : Fin 0 → Fin S128x4x128.rank)
  reducesTo_S128x4x128_S_d0_1_2 : S128x4x128.ReducesTo [0, 1, 2] S_
  bcast_S_S128x4 : S_.BroadcastsInDim S128x4 (![] : Fin 0 → Fin S128x4.rank)
  reducesTo_S128x4_S_d0_1 : S128x4.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128x4x128 .f32) (main_arg6 : FVec F S128x4 .f32) (main_arg7 : FVec F S8 .f32) (main_v13 : IVec S_ 1) (main_v16 : IVec S128x4x128x256 1) : IVec S_ 1 :=
  let main_c_5 : IVec S_ 1 := constantI S_ 1 1#1
  let main_v17 : IVec S_ 1 := (fun x v => Host.reduce IntOp.andi x v reducesTo_S128x4x128x256_S_d0_1_2_3 h_S_) main_v16 main_c_5
  let main_v18 : IVec S_ 1 := andi main_v13 main_v17
  let main_v19 : FVec F S128x4x128 .f32 := Host.absf main_arg5
  let main_cst_6 : FVec F S_ .f32 := constant S_ .f32 0x7F800000#32
  let main_v20 : FVec F S128x4x128 .f32 := broadcastInDim S128x4x128 ![] bcast_S_S128x4x128 main_cst_6
  let main_v21 : IVec S128x4x128 1 := cmpf .olt main_v19 main_v20
  let main_c_7 : IVec S_ 1 := constantI S_ 1 1#1
  let main_v22 : IVec S_ 1 := (fun x v => Host.reduce IntOp.andi x v reducesTo_S128x4x128_S_d0_1_2 h_S_) main_v21 main_c_7
  let main_v23 : IVec S_ 1 := andi main_v18 main_v22
  let main_v24 : FVec F S128x4 .f32 := Host.absf main_arg6
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S128x1024 .f32) (main_arg1 : FVec F S128x1024 .f32) (main_arg2 : FVec F S128x1024 .f32) (main_arg3 : FVec F S128x128 .f32) (main_arg4 : FVec F S128x4x128x256 .f32) (main_arg5 : FVec F S128x4x128 .f32) (main_arg6 : FVec F S128x4 .f32) (main_arg7 : FVec F S8 .f32) (main_arg8 : FVec F S256 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x4x128x256 .f32 := Host.absf main_arg4
  let main_cst_4 : FVec F S_ .f32 := constant S_ .f32 0x7F800000#32
  let main_v15 : FVec F S128x4x128x256 .f32 := broadcastInDim S128x4x128x256 ![] bcast_S_S128x4x128x256 main_cst_4
  let main_v16 : IVec S128x4x128x256 1 := cmpf .olt main_v14 main_v15
  fn_part1 (F := F) main_arg5 main_arg6 main_arg7 main_v13 main_v16
-- ==== Kernel.lean ====
abbrev S128x1024 : Shape := ⟨2, ![128, 1024]⟩
abbrev S128x128 : Shape := ⟨2, ![128, 128]⟩
abbrev S128x4x128x256 : Shape := ⟨4, ![128, 4, 128, 256]⟩
abbrev S128x4x128 : Shape := ⟨3, ![128, 4, 128]⟩
abbrev S128x4 : Shape := ⟨2, ![128, 4]⟩
abbrev S8 : Shape := ⟨1, ![8]⟩
abbrev S256 : Shape := ⟨1, ![256]⟩
abbrev S_ : Shape := ⟨0, ![]⟩
abbrev S8x128 : Shape := ⟨2, ![8, 128]⟩
abbrev S1 : Shape := ⟨1, ![1]⟩
abbrev S2 : Shape := ⟨1, ![2]⟩
abbrev S1x256 : Shape := ⟨2, ![1, 256]⟩
abbrev S128x512 : Shape := ⟨2, ![128, 512]⟩
abbrev S8x1024 : Shape := ⟨2, ![8, 1024]⟩
abbrev S8x4x128x256 : Shape := ⟨4, ![8, 4, 128, 256]⟩
abbrev S8x512 : Shape := ⟨2, ![8, 512]⟩
abbrev S8x4 : Shape := ⟨2, ![8, 4]⟩
abbrev S1x128 : Shape := ⟨2, ![1, 128]⟩
abbrev S8x1 : Shape := ⟨2, ![8, 1]⟩
abbrev S8x256 : Shape := ⟨2, ![8, 256]⟩
abbrev S1x1x128x256 : Shape := ⟨4, ![1, 1, 128, 256]⟩
abbrev S128x256 : Shape := ⟨2, ![128, 256]⟩
abbrev S1x1 : Shape := ⟨2, ![1, 1]⟩

abbrev nBuf : Space → Nat
  | .hbm => 28
  | .vmem => 24
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x128, .f32⟩
  | .hbm, ⟨4, _⟩ => ⟨S128x4x128x256, .f32⟩
  | .hbm, ⟨5, _⟩ => ⟨S128x4x128, .f32⟩
  | .hbm, ⟨6, _⟩ => ⟨S128x4, .f32⟩
  | .hbm, ⟨7, _⟩ => ⟨S8, .f32⟩
  | .hbm, ⟨8, _⟩ => ⟨S256, .f32⟩
  | .hbm, ⟨9, _⟩ => ⟨S_, .f32⟩
  | .hbm, ⟨10, _⟩ => ⟨S8x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S_, .i32⟩
  | .hbm, ⟨20, _⟩ => ⟨S1, .i32⟩
  | .hbm, ⟨21, _⟩ => ⟨S8x128, .f32⟩
  | .hbm, ⟨22, _⟩ => ⟨S1x256, .f32⟩
  | .hbm, ⟨23, _⟩ => ⟨S128x512, .f32⟩
  | .hbm, ⟨24, _⟩ => ⟨S128x1024, .f32⟩
  | .hbm, ⟨25, _⟩ => ⟨S128x4x128x256, .f32⟩
  | .hbm, ⟨26, _⟩ => ⟨S128x512, .f32⟩
  | .hbm, ⟨27, _⟩ => ⟨S128x4, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x256, .f32⟩
  | .local _ .vmem, ⟨10, _⟩ => ⟨S8x4x128x256, .f32⟩
  | .local _ .vmem, ⟨11, _⟩ => ⟨S8x4x128x256, .f32⟩
  | .local _ .vmem, ⟨12, _⟩ => ⟨S8x512, .f32⟩
  | .local _ .vmem, ⟨13, _⟩ => ⟨S8x512, .f32⟩
  | .local _ .vmem, ⟨14, _⟩ => ⟨S8x4, .f32⟩
  | .local _ .vmem, ⟨15, _⟩ => ⟨S8x4, .f32⟩
  | .local _ .vmem, ⟨16, _⟩ => ⟨S8x1024, .f32⟩
  | .local _ .vmem, ⟨17, _⟩ => ⟨S8x1024, .f32⟩
  | .local _ .vmem, ⟨18, _⟩ => ⟨S8x4x128x256, .f32⟩
  | .local _ .vmem, ⟨19, _⟩ => ⟨S8x4x128x256, .f32⟩
  | .local _ .vmem, ⟨20, _⟩ => ⟨S8x512, .f32⟩
  | .local _ .vmem, ⟨21, _⟩ => ⟨S8x512, .f32⟩
  | .local _ .vmem, ⟨22, _⟩ => ⟨S8x4, .f32⟩
  | .local _ .vmem, ⟨23, _⟩ => ⟨S8x4, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S128x1024 : Shape := ⟨2, ![128, 1024]⟩
abbrev S128x128 : Shape := ⟨2, ![128, 128]⟩
abbrev S128x4x128x256 : Shape := ⟨4, ![128, 4, 128, 256]⟩
abbrev S128x4x128 : Shape := ⟨3, ![128, 4, 128]⟩
abbrev S128x4 : Shape := ⟨2, ![128, 4]⟩
abbrev S8 : Shape := ⟨1, ![8]⟩
abbrev S256 : Shape := ⟨1, ![256]⟩
abbrev S128x512 : Shape := ⟨2, ![128, 512]⟩
abbrev S128x4x1x128 : Shape := ⟨4, ![128, 4, 1, 128]⟩
abbrev S_ : Shape := ⟨0, ![]⟩
abbrev S128x4x1x256 : Shape := ⟨4, ![128, 4, 1, 256]⟩
abbrev S128x8 : Shape := ⟨2, ![128, 8]⟩
abbrev S1x8 : Shape := ⟨2, ![1, 8]⟩
abbrev S128x4x1 : Shape := ⟨3, ![128, 4, 1]⟩
abbrev S128x4x1x1 : Shape := ⟨4, ![128, 4, 1, 1]⟩
abbrev S1x1x1x256 : Shape := ⟨4, ![1, 1, 1, 256]⟩

abbrev nBuf : Space → Nat
  | .hbm => 131
  | .vmem => 0
  | .smem => 0
  | _ => 0

abbrev hbmTy0_0 (i : Nat) : BufTy := match i % 128 with
  | 0 => ⟨S128x1024, .f32⟩
  | 1 => ⟨S128x1024, .f32⟩
  | 2 => ⟨S128x1024, .f32⟩
  | 3 => ⟨S128x128, .f32⟩
  | 4 => ⟨S128x4x128x256, .f32⟩
  | 5 => ⟨S128x4x128, .f32⟩
  | 6 => ⟨S128x4, .f32⟩
  | 7 => ⟨S8, .f32⟩
  | 8 => ⟨S256, .f32⟩
  | 9 => ⟨S128x512, .f32⟩
  | 10 => ⟨S128x4x1x128, .f32⟩
  | 11 => ⟨S128x512, .f32⟩
  | 12 => ⟨S128x4x1x128, .f32⟩
  | 13 => ⟨S_, .f32⟩
  | 14 => ⟨S128x4x1x128, .f32⟩
  | 15 => ⟨S128x4x1x128, .f32⟩
  | 16 => ⟨S128x4x1x256, .f32⟩
  | 17 => ⟨S128x8, .f32⟩
  | 18 => ⟨S1x8, .f32⟩
  | 19 => ⟨S128x8, .f32⟩
  | 20 => ⟨S128x8, .f32⟩
  | 21 => ⟨S128x4, .f32⟩
  | 22 => ⟨S128x4x1, .f32⟩
  | 23 => ⟨S128x4, .f32⟩
  | 24 => ⟨S128x4, .f32⟩
  | 25 => ⟨S_, .f32⟩
  | 26 => ⟨S128x4, .f32⟩
  | 27 => ⟨S128x4, .f32⟩
  | 28 => ⟨S128x4, .f32⟩
  | 29 => ⟨S128x4, .f32⟩
  | 30 => ⟨S128x4, .i1⟩
  | 31 => ⟨S128x4, .f32⟩
  | 32 => ⟨S128x4, .f32⟩
  | 33 => ⟨S128x4, .f32⟩
  | 34 => ⟨S128x4, .f32⟩
  | 35 => ⟨S128x4, .f32⟩
  | 36 => ⟨S128x4, .f32⟩
  | 37 => ⟨S128x4, .f32⟩
  | 38 => ⟨S128x4, .f32⟩
  | 39 => ⟨S128x4, .f32⟩
  | 40 => ⟨S128x4x1, .f32⟩
  | 41 => ⟨S_, .f32⟩
  | 42 => ⟨S_, .f32⟩
  | 43 => ⟨S128x4x1, .f32⟩
  | 44 => ⟨S128x4x1x1, .f32⟩
  | 45 => ⟨S128x4x1x1, .f32⟩
  | 46 => ⟨S128x4x1x1, .f32⟩
  | 47 => ⟨S128x4x1x1, .f32⟩
  | 48 => ⟨S128x4x1x1, .f32⟩
  | 49 => ⟨S_, .f32⟩
  | 50 => ⟨S128x4x1, .f32⟩
  | 51 => ⟨S128x4x1x1, .f32⟩
  | 52 => ⟨S128x4x1, .f32⟩
  | 53 => ⟨S128x4x1, .f32⟩
  | 54 => ⟨S128x4x1, .f32⟩
  | 55 => ⟨S128x4x1, .f32⟩
  | 56 => ⟨S128x4x1, .f32⟩
  | 57 => ⟨S128x4x1x1, .f32⟩
  | 58 => ⟨S128x4x1x1, .f32⟩
  | 59 => ⟨S128x4x1x1, .f32⟩
  | 60 => ⟨S128x4x1x1, .f32⟩
  | 61 => ⟨S128x4x1, .f32⟩
  | 62 => ⟨S128x4x1, .f32⟩
  | 63 => ⟨S128x4x1x1, .f32⟩
  | 64 => ⟨S128x4x1x256, .f32⟩
  | 65 => ⟨S128x4x1x256, .f32⟩
  | 66 => ⟨S128x4x1x256, .f32⟩
  | 67 => ⟨S128x4x1x256, .f32⟩
  | 68 => ⟨S128x4x1x256, .f32⟩
  | 69 => ⟨S128x4x1, .f32⟩
  | 70 => ⟨S128x4x1, .f32⟩
  | 71 => ⟨S_, .f32⟩
  | 72 => ⟨S128x4x1, .f32⟩
  | 73 => ⟨S128x4x1, .f32⟩
  | 74 => ⟨S128x4x1, .f32⟩
  | 75 => ⟨S128x4x1, .f32⟩
  | 76 => ⟨S128x4x1, .f32⟩
  | 77 => ⟨S128x4x1, .f32⟩
  | 78 => ⟨S128x4x1x1, .f32⟩
  | 79 => ⟨S128x4x1x256, .f32⟩
  | 80 => ⟨S128x4x1x256, .f32⟩
  | 81 => ⟨S128x4, .f32⟩
  | 82 => ⟨S128x4, .f32⟩
  | 83 => ⟨S128x4, .f32⟩
  | 84 => ⟨S128x4, .f32⟩
  | 85 => ⟨S128x4, .f32⟩
  | 86 => ⟨S128x4x1, .f32⟩
  | 87 => ⟨S128x4x1, .f32⟩
  | 88 => ⟨S128x4x1, .f32⟩
  | 89 => ⟨S128x4x1x1, .f32⟩
  | 90 => ⟨S128x4x1x128, .f32⟩
  | 91 => ⟨S128x4x1x128, .f32⟩
  | 92 => ⟨S128x4x1x1, .f32⟩
  | 93 => ⟨S128x4x128x256, .f32⟩
  | 94 => ⟨S128x4x128x256, .f32⟩
  | 95 => ⟨S128x4x128x256, .f32⟩
  | 96 => ⟨S128x4x128x256, .f32⟩
  | 97 => ⟨S128x4x1, .f32⟩
  | 98 => ⟨S128x4x128, .f32⟩
  | 99 => ⟨S128x4x128, .f32⟩
  | 100 => ⟨S_, .f32⟩
  | 101 => ⟨S128x4x128, .f32⟩
  | 102 => ⟨S128x4x128, .f32⟩
  | 103 => ⟨S128x4x1x256, .f32⟩
  | 104 => ⟨S_, .f32⟩
  | 105 => ⟨S128x4x1, .f32⟩
  | 106 => ⟨S128x4x1x1, .f32⟩
  | 107 => ⟨S_, .f32⟩
  | 108 => ⟨S128x4x1x1, .f32⟩
  | 109 => ⟨S128x4x1x1, .f32⟩
  | 110 => ⟨S_, .f32⟩
  | 111 => ⟨S128x4x1x1, .f32⟩
  | 112 => ⟨S128x4x1x1, .f32⟩
  | 113 => ⟨S128x4x1x1, .f32⟩
  | 114 => ⟨S128x4x1x256, .f32⟩
  | 115 => ⟨S128x4x1x256, .f32⟩
  | 116 => ⟨S1x1x1x256, .f32⟩
  | 117 => ⟨S128x4x1x256, .f32⟩
  | 118 => ⟨S128x4x1x256, .f32⟩
  | 119 => ⟨S128x4x1x256, .f32⟩
  | 120 => ⟨S128x4x1x256, .f32⟩
  | 121 => ⟨S128x4x1x256, .f32⟩
  | 122 => ⟨S_, .f32⟩
  | 123 => ⟨S128x4x1x256, .f32⟩
  | 124 => ⟨S128x4x1x256, .f32⟩
  | 125 => ⟨S_, .f32⟩
  | 126 => ⟨S128x4x1x256, .f32⟩
  | 127 => ⟨S128x4x1x256, .f32⟩
  | _ => ⟨S128x1024, .f32⟩

abbrev hbmTy0_1 (i : Nat) : BufTy := match i % 128 with
  | 0 => ⟨S128x4x1x256, .f32⟩
  | 1 => ⟨S128x1024, .f32⟩
  | 2 => ⟨S128x512, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_call1_call0_cst : Ref sig .tc := ⟨.hbm, 41, rfl⟩
abbrev main_call1_call0_v0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_2 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_3 : Ref sig .tc := ⟨.hbm, 104, rfl⟩
abbrev main_v74 : Ref sig .tc := ⟨.hbm, 105, rfl⟩
abbrev main_v75 : Ref sig .tc := ⟨.hbm, 106, rfl⟩
abbrev main_cst_4 : Ref sig .tc := ⟨.hbm, 107, rfl⟩
abbrev main_v76 : Ref sig .tc := ⟨.hbm, 108, rfl⟩
abbrev main_v77 : Ref sig .tc := ⟨.hbm, 109, rfl⟩
abbrev main_cst_5 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_6 : Ref sig .tc := ⟨.hbm, 122, rfl⟩
abbrev main_v89 : Ref sig .tc := ⟨.hbm, 123, rfl⟩
abbrev main_v90 : Ref sig .tc := ⟨.hbm, 124, rfl⟩
abbrev main_cst_7 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Mlp0.lean ====
abbrev S16384x1024 : Shape := ⟨2, ![16384, 1024]⟩
abbrev S128x1024 : Shape := ⟨2, ![128, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S128x1024, .f32⟩
  | .hbm, ⟨3, _⟩ => ⟨S128x1024, .f32⟩
  | .hbm, ⟨4, _⟩ => ⟨S1x1024x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S2x1024x4096, .bf16⟩
  | .hbm, ⟨13, _⟩ => ⟨S2x4096x1024, .bf16⟩
  | .hbm, ⟨14, _⟩ => ⟨S1x1024, .f32⟩
  | .hbm, ⟨15, _⟩ => ⟨S16384x1024, .f32⟩
  | .hbm, ⟨16, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S512x1024, .f32⟩
  | .local _ .vmem, ⟨11, _⟩ => ⟨S512x1024, .f32⟩
  | .local _ .vmem, ⟨12, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_45 : BitVec 32 := 0#32
  let v68 : BitVec 1 := Scalar.cmpi .ne v67 c0_i32_45
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Mlp0RefIdeal.lean ====
abbrev S16384x1024 : Shape := ⟨2, ![16384, 1024]⟩
abbrev S128x1024 : Shape := ⟨2, ![128, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩
abbrev S128 : Shape := ⟨1, ![128]⟩
abbrev S128x1 : Shape := ⟨2, ![128, 1]⟩
abbrev S128x4096 : Shape := ⟨2, ![128, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S128x1024, .f32⟩
  | .hbm, ⟨3, _⟩ => ⟨S128x1024, .f32⟩
  | .hbm, ⟨4, _⟩ => ⟨S1x1024x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x4096, .f32⟩
  | .hbm, ⟨31, _⟩ => ⟨S1024x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S1x4096x1024, .f32⟩
  | .hbm, ⟨38, _⟩ => ⟨S4096x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S1024, .f32⟩
  | .hbm, ⟨46, _⟩ => ⟨S128x1024, .f32⟩
  | .hbm, ⟨47, _⟩ => ⟨S_, .f32⟩
  | .hbm, ⟨48, _⟩ => ⟨S128, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S128x1, .f32⟩
  | .hbm, ⟨57, _⟩ => ⟨S128x1024, .f32⟩
  | .hbm, ⟨58, _⟩ => ⟨S128x1024, .f32⟩
  | .hbm, ⟨59, _⟩ => ⟨S1x1024, .f32⟩
  | .hbm, ⟨60, _⟩ => ⟨S128x1024, .f32⟩
  | .hbm, ⟨61, _⟩ => ⟨S128x1024, .f32⟩
  | .hbm, ⟨62, _⟩ => ⟨S1x1024x4096, .f32⟩
  | .hbm, ⟨63, _⟩ => ⟨S1024x4096, .f32⟩
  | .hbm, ⟨64, _⟩ => ⟨S128x4096, .f32⟩
  | .hbm, ⟨65, _⟩ => ⟨S_, .f32⟩
  | .hbm, ⟨66, _⟩ => ⟨S128x4096, .f32⟩
  | .hbm, ⟨67, _⟩ => ⟨S128x4096, .f32⟩
  | .hbm, ⟨68, _⟩ => ⟨S128x4096, .f32⟩
  | .hbm, ⟨69, _⟩ => ⟨S1x4096x1024, .f32⟩
  | .hbm, ⟨70, _⟩ => ⟨S4096x1024, .f32⟩
  | .hbm, ⟨71, _⟩ => ⟨S128x1024, .f32⟩
  | .hbm, ⟨72, _⟩ => ⟨S128x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Mlp1.lean ====
abbrev S16384x1024 : Shape := ⟨2, ![16384, 1024]⟩
abbrev S128x1024 : Shape := ⟨2, ![128, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S128x1024, .f32⟩
  | .hbm, ⟨3, _⟩ => ⟨S128x1024, .f32⟩
  | .hbm, ⟨4, _⟩ => ⟨S1x1024x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S2x1024x4096, .bf16⟩
  | .hbm, ⟨14, _⟩ => ⟨S2x4096x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_50 : BitVec 32 := 0#32
  let v82 : BitVec 1 := Scalar.cmpi .ne v81 c0_i32_50
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Mlp1RefIdeal.lean ====
abbrev S16384x1024 : Shape := ⟨2, ![16384, 1024]⟩
abbrev S128x1024 : Shape := ⟨2, ![128, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩
abbrev S128 : Shape := ⟨1, ![128]⟩
abbrev S128x1 : Shape := ⟨2, ![128, 1]⟩
abbrev S128x4096 : Shape := ⟨2, ![128, 4096]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S128x1024, .f32⟩
  | .hbm, ⟨3, _⟩ => ⟨S128x1024, .f32⟩
  | .hbm, ⟨4, _⟩ => ⟨S1x1024x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x4096, .f32⟩
  | .hbm, ⟨32, _⟩ => ⟨S1024x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S1x4096x1024, .f32⟩
  | .hbm, ⟨39, _⟩ => ⟨S4096x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S128x1024, .f32⟩
  | .hbm, ⟨60, _⟩ => ⟨S128x1024, .f32⟩
  | .hbm, ⟨61, _⟩ => ⟨S1x1024, .f32⟩
  | .hbm, ⟨62, _⟩ => ⟨S1024, .f32⟩
  | .hbm, ⟨63, _⟩ => ⟨S128x1024, .f32⟩
  | .hbm, ⟨64, _⟩ => ⟨S_, .f32⟩
  | .hbm, ⟨65, _⟩ => ⟨S128, .f32⟩
  | .hbm, ⟨66, _⟩ => ⟨S128x1, .f32⟩
  | .hbm, ⟨67, _⟩ => ⟨S_, .f32⟩
  | .hbm, ⟨68, _⟩ => ⟨S128x1, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S128x1024, .f32⟩
  | .hbm, ⟨75, _⟩ => ⟨S128x1024, .f32⟩
  | .hbm, ⟨76, _⟩ => ⟨S1x1024, .f32⟩
  | .hbm, ⟨77, _⟩ => ⟨S128x1024, .f32⟩
  | .hbm, ⟨78, _⟩ => ⟨S128x1024, .f32⟩
  | .hbm, ⟨79, _⟩ => ⟨S1x1024x4096, .f32⟩
  | .hbm, ⟨80, _⟩ => ⟨S1024x4096, .f32⟩
  | .hbm, ⟨81, _⟩ => ⟨S128x4096, .f32⟩
  | .hbm, ⟨82, _⟩ => ⟨S_, .f32⟩
  | .hbm, ⟨83, _⟩ => ⟨S128x4096, .f32⟩
  | .hbm, ⟨84, _⟩ => ⟨S128x4096, .f32⟩
  | .hbm, ⟨85, _⟩ => ⟨S128x4096, .f32⟩
  | .hbm, ⟨86, _⟩ => ⟨S1x4096x1024, .f32⟩
  | .hbm, ⟨87, _⟩ => ⟨S4096x1024, .f32⟩
  | .hbm, ⟨88, _⟩ => ⟨S128x1024, .f32⟩
  | .hbm, ⟨89, _⟩ => ⟨S128x1024, .f32⟩
  | .hbm, ⟨90, _⟩ => ⟨S128x1024, .f32⟩
  | .hbm, ⟨91, _⟩ => ⟨S_, .f32⟩
  | .hbm, ⟨92, _⟩ => ⟨S128, .f32⟩
  | .hbm, ⟨93, _⟩ => ⟨S128x1, .f32⟩
  | .hbm, ⟨94, _⟩ => ⟨S_, .f32⟩
  | .hbm, ⟨95, _⟩ => ⟨S128x1, .f32⟩
  | .hbm, ⟨96, _⟩ => ⟨S128x1, .f32⟩
  | .hbm, ⟨97, _⟩ => ⟨S_, .f32⟩
  | .hbm, ⟨98, _⟩ => ⟨S128x1, .f32⟩
  | .hbm, ⟨99, _⟩ => ⟨S128x1, .f32⟩
  | .hbm, ⟨100, _⟩ => ⟨S128x1, .f32⟩
  | .hbm, ⟨101, _⟩ => ⟨S128x1024, .f32⟩
  | .hbm, ⟨102, _⟩ => ⟨S128x1024, .f32⟩
  | .hbm, ⟨103, _⟩ => ⟨S1x1024, .f32⟩
  | .hbm, ⟨104, _⟩ => ⟨S128x1024, .f32⟩
  | .hbm, ⟨105, _⟩ => ⟨S128x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Proj.lean ====
abbrev S16384x1024 : Shape := ⟨2, ![16384, 1024]⟩
abbrev S128x1024 : Shape := ⟨2, ![128, 1024]⟩
abbrev S1x1024 : Shape := ⟨2, ![1, 1024]⟩
abbrev S1x1024x3080 : Shape := ⟨3, ![1, 1024, 3080]⟩
abbrev S1024 : Shape := ⟨1, ![1024]⟩
abbrev S1024x3080 : Shape := ⟨2, ![1024, 3080]⟩
abbrev S16384x128 : Shape := ⟨2, ![16384, 128]⟩
abbrev S128x128 : Shape := ⟨2, ![128, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x8 : Shape := ⟨2, ![1024, 8]⟩
abbrev S512x8 : Shape := ⟨2, ![512, 8]⟩
abbrev S512x120 : Shape := ⟨2, ![512, 120]⟩
abbrev S128 : Shape := ⟨1, ![128]⟩
abbrev S128x1 : Shape := ⟨2, ![128, 1]⟩
abbrev S128x8 : Shape := ⟨2, ![128, 8]⟩
abbrev S128x120 : Shape := ⟨2, ![128, 120]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1x1024x3080, .f32⟩
  | .hbm, ⟨4, _⟩ => ⟨S1024, .f32⟩
  | .hbm, ⟨5, _⟩ => ⟨S1024x3080, .f32⟩
  | .hbm, ⟨6, _⟩ => ⟨S1024x3080, .bf16⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x128, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x128, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S1x1024, .f32⟩
  | .local _ .vmem, ⟨4, _⟩ => ⟨S1024x3080, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | .local _ .vmem, ⟨12, _⟩ => ⟨S512x128, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v4_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_23 : BitVec 32 := 0#32
  let v36 : BitVec 1 := Scalar.cmpi .ne v35 c0_i32_23
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3080 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ProjRefIdeal.lean ====
abbrev S16384x1024 : Shape := ⟨2, ![16384, 1024]⟩
abbrev S128x1024 : Shape := ⟨2, ![128, 1024]⟩
abbrev S1x1024 : Shape := ⟨2, ![1, 1024]⟩
abbrev S1x1024x3080 : Shape := ⟨3, ![1, 1024, 3080]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3080 : Shape := ⟨2, ![1024, 3080]⟩
abbrev S16384x3080 : Shape := ⟨2, ![16384, 3080]⟩
abbrev S16384x8 : Shape := ⟨2, ![16384, 8]⟩
abbrev S16384x128 : Shape := ⟨2, ![16384, 128]⟩
abbrev S128 : Shape := ⟨1, ![128]⟩
abbrev S128x1 : Shape := ⟨2, ![128, 1]⟩
abbrev S128x3080 : Shape := ⟨2, ![128, 3080]⟩
abbrev S128x8 : Shape := ⟨2, ![128, 8]⟩
abbrev S128x128 : Shape := ⟨2, ![128, 128]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1x1024x3080, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3080, .f32⟩
  | .hbm, ⟨22, _⟩ => ⟨S16384x3080, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x8, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S1024x3080, .f32⟩
  | .hbm, ⟨48, _⟩ => ⟨S128x3080, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S128x8, .f32⟩
  | .hbm, ⟨53, _⟩ => ⟨S_, .i32⟩
  | .hbm, ⟨54, _⟩ => ⟨S_, .f32⟩
  | .hbm, ⟨55, _⟩ => ⟨S128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_call1_v0 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ab.lean ====
abbrev S128x1536 : Shape := ⟨2, ![128, 1536]⟩
abbrev S128x2560 : Shape := ⟨2, ![128, 2560]⟩
abbrev S128x128 : Shape := ⟨2, ![128, 128]⟩
abbrev S1x64 : Shape := ⟨2, ![1, 64]⟩
abbrev S128x3x1536 : Shape := ⟨3, ![128, 3, 1536]⟩
abbrev S128x4x128x128 : Shape := ⟨4, ![128, 4, 128, 128]⟩
abbrev S4x1536 : Shape := ⟨2, ![4, 1536]⟩
abbrev S4 : Shape := ⟨1, ![4]⟩
abbrev S128 : Shape := ⟨1, ![128]⟩
abbrev S1x128 : Shape := ⟨2, ![1, 128]⟩
abbrev S_ : Shape := ⟨0, ![]⟩
abbrev S8x128 : Shape := ⟨2, ![8, 128]⟩
abbrev S1 : Shape := ⟨1, ![1]⟩
abbrev S2 : Shape := ⟨1, ![2]⟩
abbrev S128x4608 : Shape := ⟨2, ![128, 4608]⟩
abbrev S128x1024 : Shape := ⟨2, ![128, 1024]⟩
abbrev S8x1536 : Shape := ⟨2, ![8, 1536]⟩
abbrev S8x2560 : Shape := ⟨2, ![8, 2560]⟩
abbrev S8x4608 : Shape := ⟨2, ![8, 4608]⟩
abbrev S8x4x128x128 : Shape := ⟨4, ![8, 4, 128, 128]⟩
abbrev S8x1024 : Shape := ⟨2, ![8, 1024]⟩
abbrev S1x1536 : Shape := ⟨2, ![1, 1536]⟩
abbrev S8 : Shape := ⟨1, ![8]⟩
abbrev S8x1 : Shape := ⟨2, ![8, 1]⟩
abbrev S1x1x128x128 : Shape := ⟨4, ![1, 1, 128, 128]⟩
abbrev S1x1 : Shape := ⟨2, ![1, 1]⟩

abbrev nBuf : Space → Nat
  | .hbm => 51
  | .vmem => 26
  | .smem => 0
  | _ => 0

abbrev bufTy : (tb : Table) → Fin (tcTables nBuf tb) → BufTy
  | .hbm, ⟨0, _⟩ => ⟨S128x1536, .f32⟩
  | .hbm, ⟨1, _⟩ => ⟨S128x2560, .f32⟩
  | .hbm, ⟨2, _⟩ => ⟨S128x128, .f32⟩
  | .hbm, ⟨3, _⟩ => ⟨S1x64, .f32⟩
  | .hbm, ⟨4, _⟩ => ⟨S1x64, .f32⟩
  | .hbm, ⟨5, _⟩ => ⟨S128x3x1536, .f32⟩
  | .hbm, ⟨6, _⟩ => ⟨S128x4x128x128, .f32⟩
  | .hbm, ⟨7, _⟩ => ⟨S128x4x128x128, .f32⟩
  | .hbm, ⟨8, _⟩ => ⟨S4x1536, .f32⟩
  | .hbm, ⟨9, _⟩ => ⟨S4, .f32⟩
  | .hbm, ⟨10, _⟩ => ⟨S4, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S1x128, .f32⟩
  | .hbm, ⟨16, _⟩ => ⟨S_, .f32⟩
  | .hbm, ⟨17, _⟩ => ⟨S8x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S8x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S8x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S8x128, .f32⟩
  | .hbm, ⟨44, _⟩ => ⟨S1x128, .f32⟩
  | .hbm, ⟨45, _⟩ => ⟨S1x128, .f32⟩
  | .hbm, ⟨46, _⟩ => ⟨S128x4608, .f32⟩
  | .hbm, ⟨47, _⟩ => ⟨S128x1024, .f32⟩
  | .hbm, ⟨48, _⟩ => ⟨S128x4608, .f32⟩
  | .hbm, ⟨49, _⟩ => ⟨S128x4x128x128, .f32⟩
  | .hbm, ⟨50, _⟩ => ⟨S128x4x128x128, .f32⟩
  | .local _ .vmem, ⟨0, _⟩ => ⟨S8x1536, .f32⟩
  | .local _ .vmem, ⟨1, _⟩ => ⟨S8x1536, .f32⟩
  | .local _ .vmem, ⟨2, _⟩ => ⟨S8x2560, .f32⟩
  | .local _ .vmem, ⟨3, _⟩ => ⟨S8x2560, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | .local _ .vmem, ⟨7, _⟩ => ⟨S1x128, .f32⟩
  | .local _ .vmem, ⟨8, _⟩ => ⟨S4x1536, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S8x4608, .f32⟩
  | .local _ .vmem, ⟨13, _⟩ => ⟨S8x4608, .f32⟩
  | .local _ .vmem, ⟨14, _⟩ => ⟨S8x4x128x128, .f32⟩
  | .local _ .vmem, ⟨15, _⟩ => ⟨S8x4x128x128, .f32⟩
  | .local _ .vmem, ⟨16, _⟩ => ⟨S8x4x128x128, .f32⟩
  | .local _ .vmem, ⟨17, _⟩ => ⟨S8x4x128x128, .f32⟩
  | .local _ .vmem, ⟨18, _⟩ => ⟨S8x1024, .f32⟩
  | .local _ .vmem, ⟨19, _⟩ => ⟨S8x1024, .f32⟩
  | .local _ .vmem, ⟨20, _⟩ => ⟨S8x4608, .f32⟩
  | .local _ .vmem, ⟨21, _⟩ => ⟨S8x4608, .f32⟩
  | .local _ .vmem, ⟨22, _⟩ => ⟨S8x4x128x128, .f32⟩
  | .local _ .vmem, ⟨23, _⟩ => ⟨S8x4x128x128, .f32⟩
  | .local _ .vmem, ⟨24, _⟩ => ⟨S8x4x128x128, .f32⟩
  | .local _ .vmem, ⟨25, _⟩ => ⟨S8x4x128x128, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_6 : Ref sig .tc := ⟨.hbm, 38, rfl⟩
abbrev main_v17 : Ref sig .tc := ⟨.hbm, 39, rfl⟩
abbrev main_c_7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev main_v24_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x4608 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4608 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AbRefIdeal.lean ====
abbrev S128x1536 : Shape := ⟨2, ![128, 1536]⟩
abbrev S128x2560 : Shape := ⟨2, ![128, 2560]⟩
abbrev S128x128 : Shape := ⟨2, ![128, 128]⟩
abbrev S1x64 : Shape := ⟨2, ![1, 64]⟩
abbrev S128x3x1536 : Shape := ⟨3, ![128, 3, 1536]⟩
abbrev S128x4x128x128 : Shape := ⟨4, ![128, 4, 128, 128]⟩
abbrev S4x1536 : Shape := ⟨2, ![4, 1536]⟩
abbrev S4 : Shape := ⟨1, ![4]⟩
abbrev S128 : Shape := ⟨1, ![128]⟩
abbrev S128x1x1536 : Shape := ⟨3, ![128, 1, 1536]⟩
abbrev S128x4x1536 : Shape := ⟨3, ![128, 4, 1536]⟩
abbrev S1x1536 : Shape := ⟨2, ![1, 1536]⟩
abbrev S1536 : Shape := ⟨1, ![1536]⟩
abbrev S_ : Shape := ⟨0, ![]⟩
abbrev S128x512 : Shape := ⟨2, ![128, 512]⟩
abbrev S128x4x1x128 : Shape := ⟨4, ![128, 4, 1, 128]⟩
abbrev S128x4x1 : Shape := ⟨3, ![128, 4, 1]⟩
abbrev S128x4x1x1 : Shape := ⟨4, ![128, 4, 1, 1]⟩
abbrev S128x4 : Shape := ⟨2, ![128, 4]⟩
abbrev S1x4 : Shape := ⟨2, ![1, 4]⟩
abbrev S128x4x1x64 : Shape := ⟨4, ![128, 4, 1, 64]⟩
abbrev S1x1x1x64 : Shape := ⟨4, ![1, 1, 1, 64]⟩
abbrev S1x4x1 : Shape := ⟨3, ![1, 4, 1]⟩
abbrev S1x1x1x128 : Shape := ⟨4, ![1, 1, 1, 128]⟩
abbrev S128x1024 : Shape := ⟨2, ![128, 1024]⟩
abbrev S128x4608 : Shape := ⟨2, ![128, 4608]⟩

abbrev nBuf : Space → Nat
  | .hbm => 292
  | .vmem => 0
  | .smem => 0
  | _ => 0

abbrev hbmTy0_0 (i : Nat) : BufTy := match i % 128 with
  | 0 => ⟨S128x1536, .f32⟩
  | 1 => ⟨S128x2560, .f32⟩
  | 2 => ⟨S128x128, .f32⟩
  | 3 => ⟨S1x64, .f32⟩
  | 4 => ⟨S1x64, .f32⟩
  | 5 => ⟨S128x3x1536, .f32⟩
  | 6 => ⟨S128x4x128x128, .f32⟩
  | 7 => ⟨S128x4x128x128, .f32⟩
  | 8 => ⟨S4x1536, .f32⟩
  | 9 => ⟨S4, .f32⟩
  | 10 => ⟨S4, .f32⟩
  | 11 => ⟨S128, .f32⟩
  | 12 => ⟨S128, .f32⟩
  | 13 => ⟨S4, .f32⟩
  | 14 => ⟨S128x1x1536, .f32⟩
  | 15 => ⟨S128x4x1536, .f32⟩
  | 16 => ⟨S128x1x1536, .f32⟩
  | 17 => ⟨S128x1536, .f32⟩
  | 18 => ⟨S1x1536, .f32⟩
  | 19 => ⟨S1536, .f32⟩
  | 20 => ⟨S1x1536, .f32⟩
  | 21 => ⟨S128x1536, .f32⟩
  | 22 => ⟨S128x1536, .f32⟩
  | 23 => ⟨S128x1x1536, .f32⟩
  | 24 => ⟨S128x1536, .f32⟩
  | 25 => ⟨S1x1536, .f32⟩
  | 26 => ⟨S1536, .f32⟩
  | 27 => ⟨S1x1536, .f32⟩
  | 28 => ⟨S128x1536, .f32⟩
  | 29 => ⟨S128x1536, .f32⟩
  | 30 => ⟨S128x1536, .f32⟩
  | 31 => ⟨S128x1x1536, .f32⟩
  | 32 => ⟨S128x1536, .f32⟩
  | 33 => ⟨S1x1536, .f32⟩
  | 34 => ⟨S1536, .f32⟩
  | 35 => ⟨S1x1536, .f32⟩
  | 36 => ⟨S128x1536, .f32⟩
  | 37 => ⟨S128x1536, .f32⟩
  | 38 => ⟨S128x1536, .f32⟩
  | 39 => ⟨S128x1x1536, .f32⟩
  | 40 => ⟨S128x1536, .f32⟩
  | 41 => ⟨S1x1536, .f32⟩
  | 42 => ⟨S1536, .f32⟩
  | 43 => ⟨S1x1536, .f32⟩
  | 44 => ⟨S128x1536, .f32⟩
  | 45 => ⟨S128x1536, .f32⟩
  | 46 => ⟨S128x1536, .f32⟩
  | 47 => ⟨S128x1536, .f32⟩
  | 48 => ⟨S128x1536, .f32⟩
  | 49 => ⟨S_, .f32⟩
  | 50 => ⟨S128x1536, .f32⟩
  | 51 => ⟨S128x1536, .f32⟩
  | 52 => ⟨S_, .f32⟩
  | 53 => ⟨S128x1536, .f32⟩
  | 54 => ⟨S128x1536, .f32⟩
  | 55 => ⟨S128x1536, .f32⟩
  | 56 => ⟨S128x512, .f32⟩
  | 57 => ⟨S128x512, .f32⟩
  | 58 => ⟨S128x512, .f32⟩
  | 59 => ⟨S128x4x1x128, .f32⟩
  | 60 => ⟨S128x4x1x128, .f32⟩
  | 61 => ⟨S128x4x1x128, .f32⟩
  | 62 => ⟨S128x4x1x128, .f32⟩
  | 63 => ⟨S_, .f32⟩
  | 64 => ⟨S128x4x1, .f32⟩
  | 65 => ⟨S128x4x1x1, .f32⟩
  | 66 => ⟨S_, .f32⟩
  | 67 => ⟨S128x4x1x1, .f32⟩
  | 68 => ⟨S128x4x1x1, .f32⟩
  | 69 => ⟨S128x4x1x1, .f32⟩
  | 70 => ⟨S128x4x1x128, .f32⟩
  | 71 => ⟨S128x4x1x128, .f32⟩
  | 72 => ⟨S_, .f32⟩
  | 73 => ⟨S128x4x1x128, .f32⟩
  | 74 => ⟨S128x4x1x128, .f32⟩
  | 75 => ⟨S128x4x1x128, .f32⟩
  | 76 => ⟨S_, .f32⟩
  | 77 => ⟨S128x4x1, .f32⟩
  | 78 => ⟨S128x4x1x1, .f32⟩
  | 79 => ⟨S_, .f32⟩
  | 80 => ⟨S128x4x1x1, .f32⟩
  | 81 => ⟨S128x4x1x1, .f32⟩
  | 82 => ⟨S128x4x1x1, .f32⟩
  | 83 => ⟨S128x4x1x128, .f32⟩
  | 84 => ⟨S128x4x1x128, .f32⟩
  | 85 => ⟨S128x4, .f32⟩
  | 86 => ⟨S128x4, .f32⟩
  | 87 => ⟨S128x4, .f32⟩
  | 88 => ⟨S_, .f32⟩
  | 89 => ⟨S128x4, .f32⟩
  | 90 => ⟨S128x4, .f32⟩
  | 91 => ⟨S_, .f32⟩
  | 92 => ⟨S128x4, .f32⟩
  | 93 => ⟨S128x4, .f32⟩
  | 94 => ⟨S128x4x1, .f32⟩
  | 95 => ⟨S4, .f32⟩
  | 96 => ⟨S4, .f32⟩
  | 97 => ⟨S128x4, .f32⟩
  | 98 => ⟨S1x4, .f32⟩
  | 99 => ⟨S128x4, .f32⟩
  | 100 => ⟨S128x4, .f32⟩
  | 101 => ⟨S_, .f32⟩
  | 102 => ⟨S128x4, .f32⟩
  | 103 => ⟨S128x4, .f32⟩
  | 104 => ⟨S128x4, .f32⟩
  | 105 => ⟨S128x4, .f32⟩
  | 106 => ⟨S128x4, .i1⟩
  | 107 => ⟨S128x4, .f32⟩
  | 108 => ⟨S128x4, .f32⟩
  | 109 => ⟨S128x4, .f32⟩
  | 110 => ⟨S128x4, .f32⟩
  | 111 => ⟨S128x4, .f32⟩
  | 112 => ⟨S128x4, .f32⟩
  | 113 => ⟨S128x4, .f32⟩
  | 114 => ⟨S128x4, .f32⟩
  | 115 => ⟨S1x4, .f32⟩
  | 116 => ⟨S128x4, .f32⟩
  | 117 => ⟨S128x4, .f32⟩
  | 118 => ⟨S128x4x1, .f32⟩
  | 119 => ⟨S_, .f32⟩
  | 120 => ⟨S_, .f32⟩
  | 121 => ⟨S128x4x1, .f32⟩
  | 122 => ⟨S128x4x1x1, .f32⟩
  | 123 => ⟨S128x4x1x1, .f32⟩
  | 124 => ⟨S128x4x1x1, .f32⟩
  | 125 => ⟨S128x4x1x1, .f32⟩
  | 126 => ⟨S128x4x1x1, .f32⟩
  | 127 => ⟨S128x4x1x128, .f32⟩
  | _ => ⟨S128x1536, .f32⟩

abbrev hbmTy0_1 (i : Nat) : BufTy := match i % 128 with
  | 0 => ⟨S128x4x1x128, .f32⟩
  | 1 => ⟨S128x4x1x1, .f32⟩
  | 2 => ⟨S128x4x1x128, .f32⟩
  | 3 => ⟨S128x4x1x128, .f32⟩
  | 4 => ⟨S128x4x1, .f32⟩
  | 5 => ⟨S128x4x1x1, .f32⟩
  | 6 => ⟨S128x4x1x128, .f32⟩
  | 7 => ⟨S128x4x1x128, .f32⟩
  | 8 => ⟨S128x4x1x128, .f32⟩
  | 9 => ⟨S128x4x1x128, .f32⟩
  | 10 => ⟨S128x4x1, .f32⟩
  | 11 => ⟨S128x4x1x1, .f32⟩
  | 12 => ⟨S128x4x1x128, .f32⟩
  | 13 => ⟨S128x4x1x128, .f32⟩
  | 14 => ⟨S128x4x1x128, .f32⟩
  | 15 => ⟨S128x4x1x1, .f32⟩
  | 16 => ⟨S128x4x1x1, .f32⟩
  | 17 => ⟨S128x4x1x128, .f32⟩
  | 18 => ⟨S128x4x1x128, .f32⟩
  | 19 => ⟨S128x4x1, .f32⟩
  | 20 => ⟨S128x4x1, .f32⟩
  | 21 => ⟨S128x4x1x1, .f32⟩
  | 22 => ⟨S128x4x1x128, .f32⟩
  | 23 => ⟨S128x4x1x128, .f32⟩
  | 24 => ⟨S128x4, .f32⟩
  | 25 => ⟨S128x4, .f32⟩
  | 26 => ⟨S128x4x1x1, .f32⟩
  | 27 => ⟨S128x4x128x128, .f32⟩
  | 28 => ⟨S128x4x128x128, .f32⟩
  | 29 => ⟨S128x4x128x128, .f32⟩
  | 30 => ⟨S128x4x128x128, .f32⟩
  | 31 => ⟨S128x512, .f32⟩
  | 32 => ⟨S128x512, .f32⟩
  | 33 => ⟨S128x512, .f32⟩
  | 34 => ⟨S128x512, .f32⟩
  | 35 => ⟨S128x512, .f32⟩
  | 36 => ⟨S128x4x1x128, .f32⟩
  | 37 => ⟨S128x4x1x128, .f32⟩
  | 38 => ⟨S128x4x1x128, .f32⟩
  | 39 => ⟨S128x4x1x128, .f32⟩
  | 40 => ⟨S128x4x1x128, .f32⟩
  | 41 => ⟨S128x4x1x64, .f32⟩
  | 42 => ⟨S128x4x1x64, .f32⟩
  | 43 => ⟨S1x1x1x64, .f32⟩
  | 44 => ⟨S128x4x1x64, .f32⟩
  | 45 => ⟨S128x4x1x64, .f32⟩
  | 46 => ⟨S1x1x1x64, .f32⟩
  | 47 => ⟨S128x4x1x64, .f32⟩
  | 48 => ⟨S128x4x1x64, .f32⟩
  | 49 => ⟨S128x4x1x64, .f32⟩
  | 50 => ⟨S1x1x1x64, .f32⟩
  | 51 => ⟨S128x4x1x64, .f32⟩
  | 52 => ⟨S128x4x1x64, .f32⟩
  | 53 => ⟨S1x1x1x64, .f32⟩
  | 54 => ⟨S128x4x1x64, .f32⟩
  | 55 => ⟨S128x4x1x64, .f32⟩
  | 56 => ⟨S128x4x1x64, .f32⟩
  | 57 => ⟨S128x4x1x128, .f32⟩
  | 58 => ⟨S128x4x1x64, .f32⟩
  | 59 => ⟨S128x4x1x64, .f32⟩
  | 60 => ⟨S1x1x1x64, .f32⟩
  | 61 => ⟨S128x4x1x64, .f32⟩
  | 62 => ⟨S128x4x1x64, .f32⟩
  | 63 => ⟨S1x1x1x64, .f32⟩
  | 64 => ⟨S128x4x1x64, .f32⟩
  | 65 => ⟨S128x4x1x64, .f32⟩
  | 66 => ⟨S128x4x1x64, .f32⟩
  | 67 => ⟨S1x1x1x64, .f32⟩
  | 68 => ⟨S128x4x1x64, .f32⟩
  | 69 => ⟨S128x4x1x64, .f32⟩
  | 70 => ⟨S1x1x1x64, .f32⟩
  | 71 => ⟨S128x4x1x64, .f32⟩
  | 72 => ⟨S128x4x1x64, .f32⟩
  | 73 => ⟨S128x4x1x64, .f32⟩
  | 74 => ⟨S128x4x1x128, .f32⟩
  | 75 => ⟨S_, .f32⟩
  | 76 => ⟨S128x4x1x128, .f32⟩
  | 77 => ⟨S128x4x1x128, .f32⟩
  | 78 => ⟨S4, .f32⟩
  | 79 => ⟨S4, .f32⟩
  | 80 => ⟨S1x4x1, .f32⟩
  | 81 => ⟨S128x4x1, .f32⟩
  | 82 => ⟨S128x4x1x1, .f32⟩
  | 83 => ⟨S128x4x1x1, .f32⟩
  | 84 => ⟨S128x4x1x1, .f32⟩
  | 85 => ⟨S128x4x1x1, .f32⟩
  | 86 => ⟨S128x4x1, .f32⟩
  | 87 => ⟨S128x4x1x1, .f32⟩
  | 88 => ⟨S128x4x1x128, .f32⟩
  | 89 => ⟨S128x4x1x128, .f32⟩
  | 90 => ⟨S128x4x1x128, .f32⟩
  | 91 => ⟨S128x4x1x1, .f32⟩
  | 92 => ⟨S128x4x1x1, .f32⟩
  | 93 => ⟨S128x4x1x128, .f32⟩
  | 94 => ⟨S128x4x1x128, .f32⟩
  | 95 => ⟨S128x4x1, .f32⟩
  | 96 => ⟨S128x4x1, .f32⟩
  | 97 => ⟨S128x4x1x1, .f32⟩
  | 98 => ⟨S128x4x1x128, .f32⟩
  | 99 => ⟨S128x4x1x128, .f32⟩
  | 100 => ⟨S128x4, .f32⟩
  | 101 => ⟨S128x4, .f32⟩
  | 102 => ⟨S128x4x1x1, .f32⟩
  | 103 => ⟨S128x4x128x128, .f32⟩
  | 104 => ⟨S128x4x128x128, .f32⟩
  | 105 => ⟨S128x4x128x128, .f32⟩
  | 106 => ⟨S128x4x128x128, .f32⟩
  | 107 => ⟨S128x4x1x128, .f32⟩
  | 108 => ⟨S_, .f32⟩
  | 109 => ⟨S128x4x1, .f32⟩
  | 110 => ⟨S128x4x1x1, .f32⟩
  | 111 => ⟨S_, .f32⟩
  | 112 => ⟨S128x4x1x1, .f32⟩
  | 113 => ⟨S128x4x1x1, .f32⟩
  | 114 => ⟨S_, .f32⟩
  | 115 => ⟨S128x4x1x1, .f32⟩
  | 116 => ⟨S128x4x1x1, .f32⟩
  | 117 => ⟨S128x4x1x1, .f32⟩
  | 118 => ⟨S128x4x1x128, .f32⟩
  | 119 => ⟨S128x4x1x128, .f32⟩
  | 120 => ⟨S1x1x1x128, .f32⟩
  | 121 => ⟨S128x4x1x128, .f32⟩
  | 122 => ⟨S128x4x1x128, .f32⟩
  | 123 => ⟨S128x4x1x128, .f32⟩
  | 124 => ⟨S128x4x1x128, .f32⟩
  | 125 => ⟨S_, .f32⟩
  | 126 => ⟨S128x4x1x128, .f32⟩
  | 127 => ⟨S128x4x1x128, .f32⟩
  | _ => ⟨S128x1536, .f32⟩

abbrev hbmTy0_2 (i : Nat) : BufTy := match i % 128 with
  | 0 => ⟨S_, .f32⟩
  | 1 => ⟨S128x4x1x128, .f32⟩
  | 2 => ⟨S128x4x1x128, .f32⟩
  | 3 => ⟨S128x4x1x128, .f32⟩
  | 4 => ⟨S128x4x1x128, .f32⟩
  | 5 => ⟨S128x4x1x128, .f32⟩
  | 6 => ⟨S_, .f32⟩
  | 7 => ⟨S128x4x1, .f32⟩
  | 8 => ⟨S128x4x1x1, .f32⟩
  | 9 => ⟨S_, .f32⟩
  | 10 => ⟨S128x4x1x1, .f32⟩
  | 11 => ⟨S128x4x1x1, .f32⟩
  | 12 => ⟨S_, .f32⟩
  | 13 => ⟨S128x4x1x1, .f32⟩
  | 14 => ⟨S128x4x1x1, .f32⟩
  | 15 => ⟨S128x4x1x1, .f32⟩
  | 16 => ⟨S128x4x1x128, .f32⟩
  | 17 => ⟨S128x4x1x128, .f32⟩
  | 18 => ⟨S1x1x1x128, .f32⟩
  | 19 => ⟨S128x4x1x128, .f32⟩
  | 20 => ⟨S128x4x1x128, .f32⟩
  | 21 => ⟨S128x4x1x128, .f32⟩
  | 22 => ⟨S128x4x1x128, .f32⟩
  | 23 => ⟨S_, .f32⟩
  | 24 => ⟨S128x4x1x128, .f32⟩
  | 25 => ⟨S128x4x1x128, .f32⟩
  | 26 => ⟨S_, .f32⟩
  | 27 => ⟨S128x4x1x128, .f32⟩
  | 28 => ⟨S128x4x1x128, .f32⟩
  | 29 => ⟨S128x4x1x128, .f32⟩
  | 30 => ⟨S128x4x1x128, .f32⟩
  | 31 => ⟨S128x512, .f32⟩
  | 32 => ⟨S128x512, .f32⟩
  | 33 => ⟨S128x1024, .f32⟩
  | 34 => ⟨S128x3x1536, .f32⟩
  | 35 => ⟨S128x4608, .f32⟩
  | _ => ⟨S128x1536, .f32⟩

abbrev hbmTy (i : Nat) : BufTy := match i / 128 with
  | 0 => hbmTy0_0 i
  | 1 => hbmTy0_1 i
  | 2 => hbmTy0_2 i
  | _ => ⟨S128x1536, .f32⟩

abbrev bufTy : (tb : Table) → Fin (tcTables nBuf tb) → BufTy
  | .hbm, ⟨i, _⟩ => hbmTy i
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_0 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_3 : Ref sig .tc := ⟨.hbm, 76, rfl⟩
abbrev main_v51 : Ref sig .tc := ⟨.hbm, 77, rfl⟩
abbrev main_v52 : Ref sig .tc := ⟨.hbm, 78, rfl⟩
abbrev main_cst_4 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call2_call0_cst : Ref sig .tc := ⟨.hbm, 119, rfl⟩
abbrev main_call2_call0_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_7 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_cst_8 : Ref sig .tc := ⟨.hbm, 236, rfl⟩
abbrev main_v191 : Ref sig .tc := ⟨.hbm, 237, rfl⟩
abbrev main_v192 : Ref sig .tc := ⟨.hbm, 238, rfl⟩
abbrev main_cst_9 : Ref sig .tc := ⟨.hbm, 239, rfl⟩
abbrev main_v193 : Ref sig .tc := ⟨.hbm, 240, rfl⟩
abbrev main_v194 : Ref sig .tc := ⟨.hbm, 241, rfl⟩
abbrev main_cst_10 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_call3_v0 : Ref sig .tc := ⟨.hbm, 251, rfl⟩
abbrev main_call3_v1 : Ref sig .tc := ⟨.hbm, 252, rfl⟩
abbrev main_call3_cst : Ref sig .tc := ⟨.hbm, 253, rfl⟩
abbrev main_call3_v2 : Ref sig .tc := ⟨.hbm, 254, rfl⟩
abbrev main_call3_v3 : Ref sig .tc := ⟨.hbm, 255, rfl⟩
abbrev main_call3_cst_0 : Ref sig .tc := ⟨.hbm, 256, rfl⟩
abbrev main_call3_v4 : Ref sig .tc := ⟨.hbm, 257, rfl⟩
abbrev main_call3_v5 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_11 : Ref sig .tc := ⟨.hbm, 262, rfl⟩
abbrev main_v206 : Ref sig .tc := ⟨.hbm, 263, rfl⟩
abbrev main_v207 : Ref sig .tc := ⟨.hbm, 264, rfl⟩
abbrev main_cst_12 : Ref sig .tc := ⟨.hbm, 265, rfl⟩
abbrev main_v208 : Ref sig .tc := ⟨.hbm, 266, rfl⟩
abbrev main_v209 : Ref sig .tc := ⟨.hbm, 267, rfl⟩
abbrev main_cst_13 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_call4_v0 : Ref sig .tc := ⟨.hbm, 277, rfl⟩
abbrev main_call4_v1 : Ref sig .tc := ⟨.hbm, 278, rfl⟩
abbrev main_call4_cst : Ref sig .tc := ⟨.hbm, 279, rfl⟩
abbrev main_call4_v2 : Ref sig .tc := ⟨.hbm, 280, rfl⟩
abbrev main_call4_v3 : Ref sig .tc := ⟨.hbm, 281, rfl⟩
abbrev main_call4_cst_0 : Ref sig .tc := ⟨.hbm, 282, rfl⟩
abbrev main_call4_v4 : Ref sig .tc := ⟨.hbm, 283, rfl⟩
abbrev main_call4_v5 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩

abbrev nD : Nat := 1
abbrev τ : Topo := Topo.v7x

variable {F : FTy → Type} [FloatOps F]
-- ==== Proof.StepTerms.lean ====
module

public import proofs.«01_k».proof.Proof.Gen.KernelIdeal.Value
public import Idealize.ShloMosaic.Lib.Pipeline.ValueKit

@[expose] public section

set_option maxRecDepth 16384
noncomputable section
open Idealize.ShloMosaic Idealize.ShloMosaic.TcCoe Idealize.SL.Sem
/-! One step of the stabilized matrix memory, written over arrays of `n` rows: the same terms serve a block of rows and the whole array. -/
namespace Cert.Step

/-- the logarithm of the logistic of `x`, as it is computed: minus the softplus of `-x` -/
def logSig (x : EReal) : EReal :=
  0 - (max (0 - x) 0 + Ideal.log1p (Ideal.exp (0 - FloatOps.absf (F := Ideal) (φ := .f32) (0 - x))))
/-- the scale of the keys -/
def keyScale : EReal := Ideal.ofBits .f32 0x3DB504F3#32

section
variable {n : ℕ} (qk : FVec Ideal ⟨2, ![n, 1024]⟩ .f32) (v : FVec Ideal ⟨2, ![n, 1024]⟩ .f32) (o : FVec Ideal ⟨2, ![n, 1024]⟩ .f32)
  (g : FVec Ideal ⟨2, ![n, 128]⟩ .f32) (w : FVec Ideal ⟨2, ![8, 128]⟩ .f32) (gain : FVec Ideal ⟨2, ![1, 256]⟩ .f32)
  (sc : FVec Ideal ⟨4, ![n, 4, 128, 256]⟩ .f32) (sn : FVec Ideal ⟨2, ![n, 512]⟩ .f32) (sm : FVec Ideal ⟨2, ![n, 4]⟩ .f32)
  (b : Fin n) (h : Fin 4)

/-- the input gate of row `b`, head `h`, with its bias -/
def gateI : EReal := g (ix2 b ⟨h, by omega⟩) + w (ix2 0 ⟨h, by omega⟩)
/-- the logarithm of the forget gate of row `b`, head `h` -/
def logF : EReal := logSig (g (ix2 b ⟨4 + h, by omega⟩) + w (ix2 0 ⟨4 + h, by omega⟩))
/-- the stabilizer after the step -/
def stab : EReal := max (logF g w b h + sm (ix2 b h)) (gateI g w b h)
/-- the factor by which the memory decays -/
def decay : EReal := Ideal.exp (logF g w b h + sm (ix2 b h) - stab g w sm b h)
/-- lane `a` of the key, weighted by the input gate -/
def key (a : Fin 128) : EReal :=
  qk (ix2 b ⟨512 + 128 * h + a, by omega⟩) * keyScale * Ideal.exp (gateI g w b h - stab g w sm b h)
/-- the memory after the step -/
def mem (a : Fin 128) (e : Fin 256) : EReal :=
  sc (ix4 b h a e) * decay g w sm b h + key qk g w sm b h a * v (ix2 b ⟨256 * h + e, by omega⟩)
/-- the normalizer after the step -/
def nrm (a : Fin 128) : EReal := sn (ix2 b ⟨128 * h + a, by omega⟩) * decay g w sm b h + key qk g w sm b h a
/-- what the query reads from the memory, divided by what it reads from the normalizer -/
def readout (e : Fin 256) : EReal :=
  Ideal.div (∑ a : Fin 128, qk (ix2 b ⟨128 * h + a, by omega⟩) * mem qk v g w sc sm b h a e)
    (max (FloatOps.absf (F := Ideal) (φ := .f32) (∑ a : Fin 128, qk (ix2 b ⟨128 * h + a, by omega⟩) * nrm qk g w sn sm b h a))
      (Ideal.exp (0 - stab g w sm b h)))
/-- the step's output: the readout divided by its root mean square, scaled and gated -/
def out (e : Fin 256) : EReal :=
  readout qk v g w sc sn sm b h e
      * Ideal.rsqrt (Ideal.div (∑ l : Fin 256, readout qk v g w sc sn sm b h l * readout qk v g w sc sn sm b h l) (Ideal.ofBits .f32 0x43800000#32)
          + Ideal.ofBits .f32 0x358637BD#32)
      * gain (ix2 0 e) * Ideal.logistic (o (ix2 b ⟨256 * h + e, by omega⟩))
end
end Cert.Step
-- ==== Proof.Masked.lean ====
module

public import Idealize.ShloMosaic.Lib.Pipeline.ValueKit

@[expose] public section

set_option maxRecDepth 16384
noncomputable section
open Idealize.ShloMosaic Idealize.ShloMosaic.TcCoe Idealize.SL.Sem
/-! Reading a tile of one row and one head, and sums over rows masked to one of them. -/
namespace Cert.Masked

/-- a function of a row, a head and a cell of the memory at an index of the tile of row `r`, head `k` -/
theorem at_cell {α : Type} {na nb : ℕ} (f : Fin 8 → Fin 4 → Fin na → Fin nb → α) {a : Fin 8} {p : Fin 4} {q q' : Fin na} {s s' : Fin nb} {e e' r k : ℕ}
    (h0 : (a : ℕ) = r + e) (h1 : (p : ℕ) = k + e') (h2 : (q : ℕ) = q') (h3 : (s : ℕ) = s') (he : e < 1) (he' : e' < 1) :
    f a p q s = f ⟨r, by omega⟩ ⟨k, by omega⟩ q' s' := by
  obtain rfl : q = q' := Fin.ext h2
  obtain rfl : s = s' := Fin.ext h3
  have ha : a = ⟨r, by omega⟩ := Fin.ext (by simp only; omega)
  have hp : p = ⟨k, by omega⟩ := Fin.ext (by simp only; omega)
  exact (congrArg (fun a => f a p q s) ha).trans (congrArg (fun p => f _ p q s) hp)

/-- a sum over the rows masked to row `r` is its term at `r` -/
theorem row_sum (f : Fin 8 → EReal) (r : ℕ) (hr : r < 8) :
    ∑ j : Fin 8, Scalar.select (IntOp.cmpi CmpIPredicate.eq (BitVec.ofNat 32 (j : ℕ)) (BitVec.ofNat 32 r)) (f j) 0 = f ⟨r, hr⟩ := by
  rw [Finset.sum_eq_single_of_mem ⟨r, hr⟩ (Finset.mem_univ _)]
  · simp [Scalar.select, IntOp.cmpi]
  · intro j _ hj
    have hne : BitVec.ofNat 32 (j : ℕ) ≠ BitVec.ofNat 32 r := fun h => hj (Fin.ext (by
      have := congrArg BitVec.toNat h
      simp only [BitVec.toNat_ofNat] at this
      have := j.isLt
      simp only
      omega))
    rw [show IntOp.cmpi CmpIPredicate.eq (BitVec.ofNat 32 (j : ℕ)) (BitVec.ofNat 32 r) = 0#1 by
      simp only [IntOp.cmpi, beq_eq_false_iff_ne.2 hne]; rfl]
    rfl

/-- a load from a buffer whose stores leave `G` reads `G` -/
theorem load_of_stores {sg : RefSig} {κ : Kind} {sp : Space} {s : Shape} {e : EltTy} {Val : EltTy → Type} [∀ e, Nonempty (Val e)]
    {L : List (View.Piece Val s e)} {G : s.Idx → Val e} (hL : View.canon L = G) (v : View sg κ sp s e) (r : Rect s) :
    v.readCov L r.toLoadRect = View.ld G r := by
  subst hL
  exact View.readCov_eq_canon' v L r.toLoadRect

/-- the row selected from eight readings of the memory -/
theorem pick_row {n : ℕ} (M : Fin 8 → Fin 4 → Fin 128 → Fin n → EReal) (k : Fin 4) (e : Fin n) (q : Fin 128 → EReal) (r : Fin 8) (z : EReal) :
    Scalar.select (IntOp.cmpi CmpIPredicate.eq (BitVec.ofNat 32 (r : ℕ)) 7#32) (∑ a : Fin 128, q a * M 7 k a e)
    (Scalar.select (IntOp.cmpi CmpIPredicate.eq (BitVec.ofNat 32 (r : ℕ)) 6#32) (∑ a : Fin 128, q a * M 6 k a e)
    (Scalar.select (IntOp.cmpi CmpIPredicate.eq (BitVec.ofNat 32 (r : ℕ)) 5#32) (∑ a : Fin 128, q a * M 5 k a e)
    (Scalar.select (IntOp.cmpi CmpIPredicate.eq (BitVec.ofNat 32 (r : ℕ)) 4#32) (∑ a : Fin 128, q a * M 4 k a e)
    (Scalar.select (IntOp.cmpi CmpIPredicate.eq (BitVec.ofNat 32 (r : ℕ)) 3#32) (∑ a : Fin 128, q a * M 3 k a e)
    (Scalar.select (IntOp.cmpi CmpIPredicate.eq (BitVec.ofNat 32 (r : ℕ)) 2#32) (∑ a : Fin 128, q a * M 2 k a e)
    (Scalar.select (IntOp.cmpi CmpIPredicate.eq (BitVec.ofNat 32 (r : ℕ)) 1#32) (∑ a : Fin 128, q a * M 1 k a e)
    (Scalar.select (IntOp.cmpi CmpIPredicate.eq (BitVec.ofNat 32 (r : ℕ)) 0#32) (∑ a : Fin 128, q a * M 0 k a e) z)))))))
    = ∑ a : Fin 128, q a * M r k a e := by
  fin_cases r <;> rfl
end Cert.Masked
-- ==== Proof.StepBlocks.lean ====
module

public import proofs.«01_k».proof.Proof.StepTerms
public import proofs.«01_k».proof.Proof.Masked

@[expose] public section

set_option maxRecDepth 16384
noncomputable section
open Idealize.ShloMosaic Idealize.ShloMosaic.TcCoe Idealize.SL.Sem
open Idealize.ShloMosaic.Pipeline (Dat)
namespace Cert.KernelIdeal.Step
open Cert.KernelIdeal Cert.KernelIdeal.Gen Cert.Step Cert.Masked
variable (m : (ℓ : Loc nD τ sig) → Buf (Elt Ideal) ℓ)

/-- a function of a row and a head at an index of the tile of head `k` -/
theorem at_head {α : Type} (f : Fin 8 → Fin 4 → α) {a b : Fin 8} {p : Fin 4} {e k : ℕ} (h0 : (a : ℕ) = b) (h1 : (p : ℕ) = k + e) (he : e < 1) :
    f a p = f b ⟨k, by omega⟩ := by
  obtain rfl : a = b := Fin.ext h0
  exact congrArg _ (Fin.ext (by simp only; omega))
theorem at_head0 {α : Type} (f : Fin 8 → Fin 4 → α) {a b : Fin 8} {p : Fin 4} {e : ℕ} (h0 : (a : ℕ) = b) (h1 : (p : ℕ) = e) (he : e < 1) :
    f a p = f b 0 := at_head f h0 (k := 0) (by omega) he

theorem out12 (c : Dev nD) (t : Fin cfg0.N) (y : S8x4.Idx) : (outsAt0 m c t).2.2.2 y = stab (iblk m c 3 t) (iblk m c 4 t) (iblk m c 8 t) (y 0) (y 1) := by
  unfold outsAt0
  frame_out
  generalize iblk m c 3 t = x3, iblk m c 4 t = x4, iblk m c 8 t = x8
  canon_tiles x h
  all_goals
    first | refine Eq.trans ?_ (at_head _ h0 h1 x1_lt).symm | refine Eq.trans ?_ (at_head0 _ h0 h1 x1_lt).symm
    (open_payloads; pointwise [stab, logF, gateI, logSig]; try rfl)

/-- a function of a row, a head and a lane at an index of the tile that begins at lane `K` -/
theorem at_lane {α : Type} (f : Fin 8 → Fin 4 → Fin 128 → α) {a b : Fin 8} {p K : ℕ} {l : Fin 128} {hp hl} (h0 : (a : ℕ) = b) (h1 : p = K + l)
    (hK : K % 128 = 0) : f a ⟨p / 128, hp⟩ ⟨p % 128, hl⟩ = f b ⟨K / 128, by omega⟩ l := by
  obtain rfl : a = b := Fin.ext h0
  exact congrArg₂ _ (Fin.ext (by simp only; omega)) (Fin.ext (by simp only; omega))

theorem out11 (c : Dev nD) (t : Fin cfg0.N) (y : S8x512.Idx) (hp : (y 1 : ℕ) / 128 < 4) : (outsAt0 m c t).2.2.1 y
    = nrm (iblk m c 0 t) (iblk m c 3 t) (iblk m c 4 t) (iblk m c 7 t) (iblk m c 8 t) (y 0) ⟨y 1 / 128, hp⟩ ⟨y 1 % 128, by omega⟩ := by
  unfold outsAt0
  frame_out
  generalize iblk m c 0 t = x0, iblk m c 3 t = x3, iblk m c 4 t = x4, iblk m c 7 t = x7, iblk m c 8 t = x8
  canon_tiles x h
  all_goals
    first | refine Eq.trans ?_ (at_lane _ h0 h1 rfl).symm | refine Eq.trans ?_ (at_lane _ h0 (h1.trans (Nat.zero_add _).symm) rfl).symm
    (open_payloads; pointwise [nrm, decay, key, keyScale, stab, logF, gateI, logSig]; try rfl)

theorem out10 (c : Dev nD) (t : Fin cfg0.N) (y : S8x4x128x256.Idx) : (outsAt0 m c t).2.1 y
    = mem (iblk m c 0 t) (iblk m c 1 t) (iblk m c 3 t) (iblk m c 4 t) (iblk m c 6 t) (iblk m c 8 t) (y 0) (y 1) (y 2) (y 3) := by
  unfold outsAt0
  frame_out
  generalize iblk m c 0 t = x0, iblk m c 1 t = x1, iblk m c 3 t = x3, iblk m c 4 t = x4, iblk m c 6 t = x6, iblk m c 8 t = x8
  canon_tiles x h
  all_goals
    first
      | refine Eq.trans ?_ (at_cell _ h0 h1 h2 h3 x0_lt x1_lt).symm
      | refine Eq.trans ?_ (at_cell _ h0 (h1.trans (Nat.zero_add _).symm) h2 h3 x0_lt x1_lt).symm
      | refine Eq.trans ?_ (at_cell _ (h0.trans (Nat.zero_add _).symm) h1 h2 h3 x0_lt x1_lt).symm
      | refine Eq.trans ?_ (at_cell _ (h0.trans (Nat.zero_add _).symm) (h1.trans (Nat.zero_add _).symm) h2 h3 x0_lt x1_lt).symm
    open_payloads; pointwise [mem, decay, key, keyScale, stab, logF, gateI, logSig]
    refine congrArg₂ HAdd.hAdd ?_ ((row_sum _ _ (by decide)).trans ?_) <;> rfl
-- ==== Proof.StepReadout.lean ====
module

public import proofs.«01_k».proof.Proof.StepBlocks

@[expose] public section

set_option maxRecDepth 16384
noncomputable section
open Idealize.ShloMosaic Idealize.ShloMosaic.TcCoe Idealize.SL.Sem
open Idealize.ShloMosaic.Pipeline (Dat)
namespace Cert.KernelIdeal.Step
open Cert.KernelIdeal Cert.KernelIdeal.Gen Cert.Step Cert.Masked
variable (m : (ℓ : Loc nD τ sig) → Buf (Elt Ideal) ℓ)

/-- a function of a row, a head and a column at an index of the tile that begins at column `K` -/
theorem at_column {α : Type} (f : Fin 8 → Fin 4 → Fin 256 → α) {a b : Fin 8} {p K : ℕ} {l : Fin 256} {hp hl} (h0 : (a : ℕ) = b) (h1 : p = K + l)
    (hK : K % 256 = 0) : f a ⟨p / 256, hp⟩ ⟨p % 256, hl⟩ = f b ⟨K / 256, by omega⟩ l := by
  obtain rfl : a = b := Fin.ext h0
  exact congrArg₂ _ (Fin.ext (by simp only; omega)) (Fin.ext (by simp only; omega))

theorem out9 (c : Dev nD) (t : Fin cfg0.N) (y : S8x1024.Idx) (hp : (y 1 : ℕ) / 256 < 4) : (outsAt0 m c t).1 y
    = out (iblk m c 0 t) (iblk m c 1 t) (iblk m c 2 t) (iblk m c 3 t) (iblk m c 4 t) (iblk m c 5 t) (iblk m c 6 t) (iblk m c 7 t) (iblk m c 8 t)
        (y 0) ⟨y 1 / 256, hp⟩ ⟨y 1 % 256, by omega⟩ := by
  have hL := funext fun y => out10 m c t y
  obtain ⟨M, hM⟩ : ∃ M, M = mem (iblk m c 0 t) (iblk m c 1 t) (iblk m c 3 t) (iblk m c 4 t) (iblk m c 6 t) (iblk m c 8 t) := ⟨_, rfl⟩
  rw [← hM] at hL
  unfold outsAt0 at hL ⊢
  frame_out at hL
  frame_out
  set_option backward.isDefEq.respectTransparency false in
  simp only [load_of_stores hL]
  clear hL
  generalize iblk m c 0 t = x0, iblk m c 1 t = x1, iblk m c 2 t = x2, iblk m c 3 t = x3, iblk m c 4 t = x4, iblk m c 5 t = x5, iblk m c 6 t = x6,
    iblk m c 7 t = x7, iblk m c 8 t = x8 at hM ⊢
  canon_tiles x h
  all_goals
    first | refine Eq.trans ?_ (at_column _ h0 h1 rfl).symm | refine Eq.trans ?_ (at_column _ h0 (h1.trans (Nat.zero_add _).symm) rfl).symm
    open_payloads
    idx_vars x
    pointwise [out, readout, decay, key, keyScale, stab, logF, gateI, logSig, nrm]
    simp only [pick_row M]
    rw [hM]
    try rfl
-- ==== Proof.StepKernel.lean ====
module

public import proofs.«01_k».proof.Proof.StepReadout
public import Idealize.ShloMosaic.Lib.Routing.OpsOne

@[expose] public section

set_option maxRecDepth 16384
noncomputable section
open Idealize.ShloMosaic Idealize.ShloMosaic.TcCoe Idealize.SL.Sem
open Idealize.ShloMosaic.Pipeline (Dat)
open Idealize.ShloMosaic.Routing (resultIdx?_ix2 start_pair scatter_set_hit)
namespace Cert.KernelIdeal.Step
open Cert.KernelIdeal Cert.KernelIdeal.Gen Cert.Step
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0, 0, 0]
    ∧ win0_7.index t = ![t.val, 0] ∧ win0_8.index t = ![t.val, 0] ∧ win0_9.index t = ![t.val, 0]
    ∧ win0_10.index t = ![t.val, 0, 0, 0] ∧ win0_11.index t = ![t.val, 0] ∧ win0_12.index t = ![t.val, 0] :=
  (by decide +kernel : ∀ t : Fin grid0.N, _)

abbrev qkA (c : Dev nD) : FVec Ideal S128x1024 .f32 := m ((c : Thread nD τ).loc main_arg0)
abbrev vA (c : Dev nD) : FVec Ideal S128x1024 .f32 := m ((c : Thread nD τ).loc main_arg1)
abbrev oA (c : Dev nD) : FVec Ideal S128x1024 .f32 := m ((c : Thread nD τ).loc main_arg2)
abbrev gA (c : Dev nD) : FVec Ideal S128x128 .f32 := m ((c : Thread nD τ).loc main_arg3)
abbrev wA (c : Dev nD) : FVec Ideal S8x128 .f32 := V m c main_v4
abbrev gainA (c : Dev nD) : FVec Ideal S1x256 .f32 := V m c main_v8
abbrev scA (c : Dev nD) : FVec Ideal S128x4x128x256 .f32 := m ((c : Thread nD τ).loc main_arg4)
abbrev snA (c : Dev nD) : FVec Ideal S128x512 .f32 := V m c main_v9
abbrev smA (c : Dev nD) : FVec Ideal S128x4 .f32 := m ((c : Thread nD τ).loc main_arg6)

/-- row `r` of point `t` in the whole array -/
def row (t : Fin cfg0.N) (r : Fin 8) : Fin 128 := ⟨t.val * 8 + r, by have : t.val < 16 := t.isLt; omega⟩

section Reads
variable (c : Dev nD) (t : Fin cfg0.N) (r : Fin 8)
theorem read0 (k : Fin 1024) : (iblk m c 0 t : FVec Ideal S8x1024 .f32) (ix2 r k) = qkA m c (ix2 (row t r) k) := by unfold row; blk_ext [iblk, V, idx t]
theorem read1 (k : Fin 1024) : (iblk m c 1 t : FVec Ideal S8x1024 .f32) (ix2 r k) = vA m c (ix2 (row t r) k) := by unfold row; blk_ext [iblk, V, idx t]
theorem read2 (k : Fin 1024) : (iblk m c 2 t : FVec Ideal S8x1024 .f32) (ix2 r k) = oA m c (ix2 (row t r) k) := by unfold row; blk_ext [iblk, V, idx t]
theorem read3 (k : Fin 128) : (iblk m c 3 t : FVec Ideal S8x128 .f32) (ix2 r k) = gA m c (ix2 (row t r) k) := by unfold row; blk_ext [iblk, V, idx t]
theorem read6 (h : Fin 4) (a : Fin 128) (e : Fin 256) : (iblk m c 6 t : FVec Ideal S8x4x128x256 .f32) (ix4 r h a e) = scA m c (ix4 (row t r) h a e) := by
  unfold row; blk_ext [iblk, V, idx t]
theorem read7 (k : Fin 512) : (iblk m c 7 t : FVec Ideal S8x512 .f32) (ix2 r k) = snA m c (ix2 (row t r) k) := by unfold row; blk_ext [iblk, idx t]
theorem read8 (h : Fin 4) : (iblk m c 8 t : FVec Ideal S8x4 .f32) (ix2 r h) = smA m c (ix2 (row t r) h) := by unfold row; blk_ext [iblk, V, idx t]
theorem read4 : (iblk m c 4 t : FVec Ideal S8x128 .f32) = wA m c := by blk_ext! [iblk, idx t]
theorem read5 : (iblk m c 5 t : FVec Ideal S1x256 .f32) = gainA m c := by blk_ext! [iblk, idx t]
end Reads

section Rows
variable (c : Dev nD) (t : Fin cfg0.N) (r : Fin 8) (h : Fin 4) (a : Fin 128) (e : Fin 256)

theorem stab_row : stab (iblk m c 3 t) (iblk m c 4 t) (iblk m c 8 t) r h = stab (gA m c) (wA m c) (smA m c) (row t r) h := by
  simp only [stab, logF, gateI, read3, read4, read8]
theorem nrm_row : nrm (iblk m c 0 t) (iblk m c 3 t) (iblk m c 4 t) (iblk m c 7 t) (iblk m c 8 t) r h a
    = nrm (qkA m c) (gA m c) (wA m c) (snA m c) (smA m c) (row t r) h a := by
  simp only [nrm, key, decay, stab, logF, gateI, read0, read3, read4, read7, read8]
theorem mem_row : mem (iblk m c 0 t) (iblk m c 1 t) (iblk m c 3 t) (iblk m c 4 t) (iblk m c 6 t) (iblk m c 8 t) r h a e
    = mem (qkA m c) (vA m c) (gA m c) (wA m c) (scA m c) (smA m c) (row t r) h a e := by
  simp only [mem, key, decay, stab, logF, gateI, read0, read1, read3, read4, read6, read8]
theorem out_row : out (iblk m c 0 t) (iblk m c 1 t) (iblk m c 2 t) (iblk m c 3 t) (iblk m c 4 t) (iblk m c 5 t) (iblk m c 6 t) (iblk m c 7 t) (iblk m c 8 t) r h e
    = out (qkA m c) (vA m c) (oA m c) (gA m c) (wA m c) (gainA m c) (scA m c) (snA m c) (smA m c) (row t r) h e := by
  simp only [out, readout, mem_row, nrm_row, stab_row, read0, read2, read5]
end Rows

theorem final12 (c : Dev nD) : (dats m 0 c).arrAt 12 (cfgs 0).N = (fun j => stab (gA m c) (wA m c) (smA m c) (j 0) (j 1)) := by
  refine (dats m 0 c).arrAt_eq_of_covers 12 _ (by decide +kernel) fun t hf y => ?_
  blk_simp
  rw [after0_12]
  refine (out12 m c t _).trans ((stab_row m c t (y 0) (y 1)).trans ?_)
  congr 1 <;> apply Fin.ext <;> blk_simp [idx t] <;> rfl

theorem final11 (c : Dev nD) : (dats m 0 c).arrAt 11 (cfgs 0).N
    = (fun j => nrm (qkA m c) (gA m c) (wA m c) (snA m c) (smA m c) (j 0) ⟨(j 1).val / 128, by have : (j 1).val < 512 := (j 1).isLt; omega⟩
        ⟨(j 1).val % 128, by omega⟩) := by
  refine (dats m 0 c).arrAt_eq_of_covers 11 _ (by decide +kernel) fun t hf y => ?_
  blk_simp
  rw [after0_11]
  have hy : (y 1).val < 512 := (y 1).isLt
  refine (out11 m c t _ (by show (y 1).val / 128 < 4; omega)).trans ((nrm_row m c t (y 0) _ _).trans ?_)
  congr 1 <;> apply Fin.ext <;> blk_simp [idx t] <;> rfl

theorem final10 (c : Dev nD) : (dats m 0 c).arrAt 10 (cfgs 0).N
    = (fun j => mem (qkA m c) (vA m c) (gA m c) (wA m c) (scA m c) (smA m c) (j 0) (j 1) (j 2) (j 3)) := by
  refine (dats m 0 c).arrAt_eq_of_covers 10 _ (by decide +kernel) fun t hf y => ?_
  blk_simp
  rw [after0_10]
  refine (out10 m c t _).trans ((mem_row m c t (y 0) (y 1) (y 2) (y 3)).trans ?_)
  congr 1 <;> apply Fin.ext <;> blk_simp [idx t] <;> rfl

theorem final9 (c : Dev nD) : (dats m 0 c).arrAt 9 (cfgs 0).N
    = (fun j => out (qkA m c) (vA m c) (oA m c) (gA m c) (wA m c) (gainA m c) (scA m c) (snA m c) (smA m c) (j 0)
        ⟨(j 1).val / 256, by have : (j 1).val < 1024 := (j 1).isLt; omega⟩ ⟨(j 1).val % 256, by omega⟩) := by
  refine (dats m 0 c).arrAt_eq_of_covers 9 _ (by decide +kernel) fun t hf y => ?_
  blk_simp
  rw [after0_9]
  have hy : (y 1).val < 1024 := (y 1).isLt
  refine (out9 m c t _ (by show (y 1).val / 256 < 4; omega)).trans ((out_row m c t (y 0) _ _).trans ?_)
  congr 1 <;> apply Fin.ext <;> blk_simp [idx t] <;> rfl

/-- the normalizer state enters the call flattened -/
theorem snA_apply (c : Dev nD) (b : Fin 128) (h : Fin 4) (a : Fin 128) :
    snA m c (ix2 b ⟨128 * h + a, by omega⟩) = (m ((c : Thread nD τ).loc main_arg5) : FVec Ideal S128x4x128 .f32) (ix3 b h a) := by
  show V m c main_v9 _ = _
  entry_read
  pointwise
theorem gainA_apply (c : Dev nD) (e : Fin 256) :
    gainA m c (ix2 0 e) = (m ((c : Thread nD τ).loc main_arg8) : FVec Ideal S256 .f32) (ix1 e) := by
  show V m c main_v8 _ = _
  entry_read
  pointwise
/-- update `k` of a scatter of one row segment lands in the row named by the first index word, `k` columns behind the second -/
theorem lands_row (ι : IVec S2 32) (k : Fin 8) (r : Fin 8) (q : Fin 128) :
    scatter_S8x128_S2_S8_0_0_01_0.resultIdx? (ix1 k) ι = some (ix2 r q)
      ↔ (ι (ix1 (0 : Fin 2))).toInt = r.val ∧ (ι (ix1 (1 : Fin 2))).toInt + (k.val : Int) = q.val := by
  have h0 : scatter_S8x128_S2_S8_0_0_01_0.window (ix1 k) 0 = 0 := by
    unfold ScatterDims.window
    rw [dif_neg (by decide)]
  have h1 : scatter_S8x128_S2_S8_0_0_01_0.window (ix1 k) 1 = k.val := by
    unfold ScatterDims.window
    rw [dif_pos (by decide)]
    rfl
  refine (resultIdx?_ix2 scatter_S8x128_S2_S8_0_0_01_0 (ix1 k) ι r q).trans ?_
  rw [start_pair _ rfl rfl, start_pair _ rfl rfl, h0, h1]
  show (ι (ix1 (0 : Fin 2))).toInt + _ = _ ∧ (ι (ix1 (1 : Fin 2))).toInt + _ = _ ↔ _
  omega

/-- the bias row's first eight lanes are the gates' biases -/
theorem wA_apply (c : Dev nD) (p : Fin 8) :
    wA m c (ix2 0 ⟨p, by omega⟩) = (m ((c : Thread nD τ).loc main_arg7) : FVec Ideal S8 .f32) (ix1 p) := by
  show V m c main_v4 _ = _
  entry_read
  generalize hι : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) = ι
  have z0 : (ι (ix1 (0 : Fin 2))).toInt = 0 := by subst hι; pointwise; rfl
  have z1 : (ι (ix1 (1 : Fin 2))).toInt = 0 := by subst hι; pointwise; rfl
  refine scatter_set_hit _ _ ι _ _ _ (fun k hk => ?_) (ix1 p) ((lands_row ι p 0 ⟨p, by omega⟩).2 ⟨z0, ?_⟩)
  · have hk' := ((lands_row ι (k 0) 0 ⟨p, by omega⟩).1 ((congrArg (fun j => scatter_S8x128_S2_S8_0_0_01_0.resultIdx? j ι) (eq_ix1 k).symm).trans hk)).2
    rw [z1] at hk'
    rw [eq_ix1 k]
    exact congrArg (fun j => (m ((c : Thread nD τ).loc main_arg7) : FVec Ideal S8 .f32) (ix1 j)) (Fin.ext (by simpa using hk'))
  · rw [z1]; simp
end Cert.KernelIdeal.Step
-- ==== Proof.Reals.lean ====
module

public import Idealize.ShloMosaic.Lib.Pipeline.ValueKit
public import Idealize.ShloMosaic.Lib.ReduceAll

@[expose] public section

set_option maxRecDepth 16384
noncomputable section
open Idealize.ShloMosaic Idealize.ShloMosaic.TcCoe Idealize.SL.Sem
/-! Which of the values that occur are real numbers, sums of products of real numbers, and the cumulated sum of one term. -/
namespace Cert.Step

/-- `x` is a real number -/
def IsReal (x : EReal) : Prop := ∃ r : ℝ, x = (r : EReal)

theorem IsReal.add {x y : EReal} : IsReal x → IsReal y → IsReal (x + y) := by rintro ⟨a, rfl⟩ ⟨b, rfl⟩; exact ⟨a + b, rfl⟩
theorem IsReal.sub {x y : EReal} : IsReal x → IsReal y → IsReal (x - y) := by rintro ⟨a, rfl⟩ ⟨b, rfl⟩; exact ⟨a - b, rfl⟩
theorem IsReal.mul {x y : EReal} : IsReal x → IsReal y → IsReal (x * y) := by
  rintro ⟨a, rfl⟩ ⟨b, rfl⟩; exact ⟨a * b, (EReal.coe_mul a b).symm⟩
theorem IsReal.max {x y : EReal} : IsReal x → IsReal y → IsReal (max x y) := by
  rintro ⟨a, rfl⟩ ⟨b, rfl⟩; exact ⟨Max.max a b, (EReal.coe_strictMono.monotone.map_max).symm⟩
theorem IsReal.zero : IsReal 0 := ⟨0, rfl⟩
theorem IsReal.exp {x : EReal} : IsReal x → IsReal (Ideal.exp x) := by rintro ⟨a, rfl⟩; exact ⟨Real.exp a, rfl⟩
theorem IsReal.absf {x : EReal} : IsReal x → IsReal (FloatOps.absf (F := Ideal) (φ := .f32) x) := by
  rintro ⟨a, rfl⟩
  exact IsReal.max ⟨a, rfl⟩ ⟨-a, rfl⟩
theorem IsReal.log1p_exp {x : EReal} : IsReal x → IsReal (Ideal.log1p (Ideal.exp x)) := by
  rintro ⟨a, rfl⟩
  refine ⟨Real.log (1 + Real.exp a), ?_⟩
  unfold Ideal.log1p
  rw [Ideal.exp_coe, ← EReal.coe_one, ← EReal.coe_add, Ideal.log_coe, if_neg (not_le.2 (by positivity))]
theorem IsReal.self_sub {x : EReal} : IsReal x → x - x = 0 := by
  rintro ⟨a, rfl⟩
  rw [← EReal.coe_sub, sub_self, EReal.coe_zero]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem olt_real (x : EReal) (h : Ideal.cmp .olt (max x (-x)) ⊤ = 1#1) : IsReal x := by
  have lt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd lt (by simp)
  | top => exact absurd lt (by simp)
  | coe r => exact ⟨r, rfl⟩

theorem inf_top : Ideal.ofBits FTy.f32 0x7F800000#32 = ⊤ := by
  show Ideal.ieee 8 23 (0x7F800000#32) = ⊤
  unfold Ideal.ieee
  dsimp only
  rw [if_pos (by decide), if_pos (by decide), if_neg (by decide)]

/-- an array all of whose entries compare below infinity in absolute value holds real numbers -/
theorem all_real {s : Shape} {axes : List (Fin s.rank)} (x : FVec Ideal s .f32) (hb : (⟨0, ![]⟩ : Shape).BroadcastsInDim s ![]) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (⟨0, ![]⟩ : Shape) .f32 0x7F800000#32))) (constantI (⟨0, ![]⟩ : Shape) 1 1#1) hr hu j = 1#1) (i : s.Idx) :
    IsReal (x i) := by
  have : Subsingleton (⟨0, ![]⟩ : Shape).Idx := ⟨fun a b => funext fun k => k.elim0⟩
  have h := Host.reduce_andi_all _ _ hr hu j e i
  refine olt_real _ (Eq.trans ?_ h)
  rw [← inf_top]
  rfl

theorem and_one (a b : BitVec 1) (h : IntOp.andi a b = 1#1) : a = 1#1 ∧ b = 1#1 := by
  revert h; revert a b; decide

theorem real_of_eq {s : Shape} {x y : FVec Ideal s .f32} (h : x = y) (f : ∀ i, IsReal (y i)) : ∀ i, IsReal (x i) := fun i => by rw [h]; exact f i

theorem IsReal.sum {ι : Type} [Fintype ι] {f : ι → EReal} (h : ∀ i, IsReal (f i)) : IsReal (∑ i, f i) := by
  choose r hr using h
  exact ⟨∑ i, r i, by rw [coe_sum]; exact Finset.sum_congr rfl fun i _ => hr i⟩
theorem IsReal.neg {x : EReal} : IsReal x → IsReal (-x) := by rintro ⟨a, rfl⟩; exact ⟨-a, rfl⟩
theorem IsReal.logistic {x : EReal} : IsReal x → IsReal (Ideal.logistic x) := by rintro ⟨a, rfl⟩; exact ⟨_, Ideal.logistic_coe a⟩
/-- the reciprocal root of a sum of squares plus a positive number is real -/
theorem IsReal.rsqrt_squares {ι : Type} [Fintype ι] {f : ι → EReal} {ε : EReal} (h : ∀ i, IsReal (f i)) (hε : ∃ r : ℝ, 0 < r ∧ ε = r) :
    IsReal (Ideal.rsqrt ((∑ i, f i * f i) + ε)) := by
  choose r hr using h
  obtain ⟨d, hd, rfl⟩ := hε
  simp only [hr, ← EReal.coe_mul, ← coe_sum, ← EReal.coe_add]
  have : 0 < (∑ i, r i * r i) + d := add_pos_of_nonneg_of_pos (Finset.sum_nonneg fun i _ => mul_self_nonneg _) hd
  rw [Ideal.rsqrt_coe, if_neg (not_lt.2 this.le), if_neg this.ne']
  exact ⟨_, rfl⟩
theorem eps_pos : ∃ r : ℝ, 0 < r ∧ Ideal.ofBits .f32 0x358637BD#32 = r :=
  ⟨8796093 / 2 ^ 43, by norm_num, by simp [Ideal.ofBits, Ideal.ieee, -EReal.coe_mul]; norm_num⟩

/-- a row read from a decayed memory, plus its share of the update, is the row read after the update -/
theorem read_after {ι : Type} [Fintype ι] (q k C : ι → EReal) (E v : EReal) (hq : ∀ a, IsReal (q a)) (hk : ∀ a, IsReal (k a))
    (hC : ∀ a, IsReal (C a)) (hE : IsReal E) (hv : IsReal v) :
    (∑ a, q a * E * C a) + (∑ a, q a * k a) * v = ∑ a, q a * (C a * E + k a * v) := by
  choose q' hq using hq
  choose k' hk using hk
  choose C' hC using hC
  obtain ⟨E, rfl⟩ := hE
  obtain ⟨v, rfl⟩ := hv
  simp only [hq, hk, hC, ← EReal.coe_mul, ← coe_sum, ← EReal.coe_add]
  congr 1
  simp only [Finset.mul_sum, Finset.sum_mul, ← Finset.sum_add_distrib]
  exact Finset.sum_congr rfl fun a _ => by ring

/-- the written share of a value less what was read of it -/
theorem write_share {ι : Type} [Fintype ι] (k C : ι → EReal) (E β u : EReal) (hk : ∀ a, IsReal (k a))
    (hC : ∀ a, IsReal (C a)) (hE : IsReal E) (hβ : IsReal β) (hu : IsReal u) :
    u * β - (∑ a, k a * β * E * C a) = β * (u - E * ∑ a, k a * C a) := by
  choose k' hk using hk
  choose C' hC using hC
  obtain ⟨E, rfl⟩ := hE
  obtain ⟨β, rfl⟩ := hβ
  obtain ⟨u, rfl⟩ := hu
  simp only [hk, hC, ← EReal.coe_mul, ← coe_sum, ← EReal.coe_sub]
  congr 1
  simp only [Finset.mul_sum, mul_sub]
  refine congrArg₂ _ (mul_comm _ _) (Finset.sum_congr rfl fun a _ => by ring)

/-- the cumulated sum of one term is the term -/
theorem cum_one (x : FVec Ideal ⟨3, ![128, 4, 1]⟩ .f32) (hb : (⟨0, ![]⟩ : Shape).BroadcastsInDim (⟨0, ![]⟩ : Shape) ![])
    (hw : (⟨3, ![128, 4, 1]⟩ : Shape).ReduceWindows (![1, 1, 1] : Fin 3 → Nat) ![1, 1, 1] ![0, 0, 0] ![0, 0, 0] ⟨3, ![128, 4, 1]⟩) (hu : 0 < (⟨0, ![]⟩ : Shape).numel) :
    Host.reduceWindowAdd ![1, 1, 1] ![1, 1, 1] ![0, 0, 0] ![0, 0, 0] x (broadcastInDim (⟨0, ![]⟩ : Shape) ![] hb (constant (⟨0, ![]⟩ : Shape) FTy.f32 0#32)) hw hu = x := by
  funext j
  have hz : (broadcastInDim (⟨0, ![]⟩ : Shape) ![] hb (constant (⟨0, ![]⟩ : Shape) FTy.f32 0#32) : FVec Ideal (⟨0, ![]⟩ : Shape) .f32) (Shape.Idx.first hu) = (0 : EReal) := by
    pointwise
  unfold Host.reduceWindowAdd
  rw [hz]
  rw [Ideal.hostReduceWindowAdd_def]
  unfold Ideal.hostReduceWindowAdd Host.reduceWindow
  show List.foldl _ _ (List.finRange 1) = _
  rw [show List.finRange 1 = [0] from rfl]
  simp only [List.foldl]
  refine (zero_add _).trans ?_
  rw [dif_pos]
  · refine congrArg x (funext fun a => Fin.ext ?_)
    fin_cases a <;> simp [Shape.rowMajor]
  · intro a
    have := (j a).isLt
    fin_cases a <;> simp
    · exact (j 0).isLt
    · exact (j 1).isLt

theorem lt_lane (h : Fin 4) : h.val < 128 := by omega
end Cert.Step
-- ==== Proof.StepAlgebra.lean ====
module

public import proofs.«01_k».proof.Proof.StepTerms
public import proofs.«01_k».proof.Proof.Reals

@[expose] public section

noncomputable section
open Idealize.ShloMosaic
/-! Which values of the step are real numbers, and the two identities between reading a memory after its update and before it. -/
namespace Cert.Step

theorem lt_lanes (p : Fin 8) : p.val < 128 := by omega
theorem lt_nrm (h : Fin 4) (a : Fin 128) : 128 * h.val + a.val < 512 := by omega
theorem lt_query (h : Fin 4) (a : Fin 128) : 128 * h.val + a.val < 1024 := by omega
theorem lt_key (h : Fin 4) (a : Fin 128) : 512 + 128 * h.val + a.val < 1024 := by omega
theorem lt_value (h : Fin 4) (e : Fin 256) : 256 * h.val + e.val < 1024 := by omega

theorem IsReal.logSig {x : EReal} (h : IsReal x) : IsReal (logSig x) := by
  unfold Step.logSig
  have h' := IsReal.zero.sub h
  exact IsReal.zero.sub ((h'.max .zero).add (IsReal.zero.sub h'.absf).log1p_exp)
theorem IsReal.keyScale : IsReal keyScale := by
  unfold Step.keyScale
  show IsReal (Ideal.ieee 8 23 0x3DB504F3#32)
  unfold Ideal.ieee
  dsimp only
  rw [if_neg (by decide), if_neg (by decide)]
  exact ⟨_, rfl⟩

/-- A row read from a memory before its update, plus the update's share, is the row read after the update. -/
theorem read_update {ι : Type} [Fintype ι] (q k C : ι → EReal) (f E s v : EReal) (hq : ∀ a, IsReal (q a)) (hk : ∀ a, IsReal (k a))
    (hC : ∀ a, IsReal (C a)) (hf : IsReal f) (hE : IsReal E) (hs : IsReal s) (hv : IsReal v) :
    f * (∑ a, q a * C a) + (E * ∑ a, q a * (k a * s)) * v = ∑ a, q a * (C a * f + k a * s * E * v) := by
  choose q' hq using hq
  choose k' hk using hk
  choose C' hC using hC
  obtain ⟨f, rfl⟩ := hf
  obtain ⟨E, rfl⟩ := hE
  obtain ⟨s, rfl⟩ := hs
  obtain ⟨v, rfl⟩ := hv
  simp only [hq, hk, hC, ← EReal.coe_mul, ← coe_sum, ← EReal.coe_add]
  congr 1
  simp only [Finset.mul_sum, Finset.sum_mul, ← Finset.sum_add_distrib]
  exact Finset.sum_congr rfl fun a _ => by ring
end Cert.Step
-- ==== Proof.StepReference.lean ====
module

public import proofs.«01_k».proof.Proof.Gen.ReferenceIdeal.Run
public import proofs.«01_k».proof.Proof.StepAlgebra

@[expose] public section

set_option maxRecDepth 16384
noncomputable section
open Idealize.ShloMosaic Idealize.ShloMosaic.TcCoe Idealize.SL.Sem
namespace Cert.ReferenceIdeal.Step
open Cert.ReferenceIdeal Cert.ReferenceIdeal.Gen Cert.ReferenceIdeal.Value Cert.Step
variable (V0 : Valuation τ sig (Elt Ideal))

abbrev qkR : FVec Ideal S128x1024 .f32 := V0 (Proc.devRef .tc main_arg0)
abbrev vR : FVec Ideal S128x1024 .f32 := V0 (Proc.devRef .tc main_arg1)
abbrev oR : FVec Ideal S128x1024 .f32 := V0 (Proc.devRef .tc main_arg2)
abbrev gR : FVec Ideal S128x128 .f32 := V0 (Proc.devRef .tc main_arg3)
abbrev scR : FVec Ideal S128x4x128x256 .f32 := V0 (Proc.devRef .tc main_arg4)
abbrev snR : FVec Ideal S128x4x128 .f32 := V0 (Proc.devRef .tc main_arg5)
abbrev smR : FVec Ideal S128x4 .f32 := V0 (Proc.devRef .tc main_arg6)
abbrev bR : FVec Ideal S8 .f32 := V0 (Proc.devRef .tc main_arg7)
abbrev gainR : FVec Ideal S256 .f32 := V0 (Proc.devRef .tc main_arg8)

/-- the reference's memory -/
def memR : FVec Ideal S128x4x128x256 .f32 := addf (mulf (V0 (Proc.devRef .tc main_arg4)) (broadcastInDim S128x4x128x256 ![0, 1, 2, 3] bcast_S128x4x1x1_S128x4x128x256_0_1_2_3 (broadcastInDim S128x4x1x1 ![0, 1] bcast_S128x4_S128x4x1x1_0_1 (res_main_v56 V0)))) (Host.dotGeneral (φ₁ := .f32) (φ₂ := .f32) dot_S128x4x1x128_S128x4x1x256_S128x4x128x256_2_2_3_3_01_01 none (res_main_v62 V0) (res_main_v6 V0))
/-- the reference's normalizer, flattened -/
def nrmR : FVec Ideal S128x512 .f32 := shapeCast _ (addf (mulf (V0 (Proc.devRef .tc main_arg5)) (broadcastInDim S128x4x128 ![0, 1, 2] bcast_S128x4x1_S128x4x128_0_1_2 (broadcastInDim S128x4x1 ![0, 1] bcast_S128x4_S128x4x1_0_1 (res_main_v56 V0)))) (Host.reduceAdd (res_main_v62 V0) (constant S_ .f32 0x00000000#32) reducesTo_S128x4x1x128_S128x4x128_d2 h_S_)) shapeCasts_S128x4x128_S128x512
/-- the reference's output, flattened -/
def outR : FVec Ideal S128x1024 .f32 := shapeCast _ (mulf (mulf (mulf (res_main_v51 V0) (broadcastInDim S128x4x1x256 ![0, 1, 2, 3] bcast_S128x4x1x1_S128x4x1x256_0_1_2_3 (Host.rsqrt (addf (Host.divf (broadcastInDim S128x4x1x1 ![0, 1, 2] bcast_S128x4x1_S128x4x1x1_0_1_2 (Host.reduceAdd (mulf (res_main_v51 V0) (res_main_v51 V0)) (constant S_ .f32 0x00000000#32) reducesTo_S128x4x1x256_S128x4x1_d3 h_S_)) (broadcastInDim S128x4x1x1 ![] bcast_S_S128x4x1x1 (constant S_ .f32 0x43800000#32))) (broadcastInDim S128x4x1x1 ![] bcast_S_S128x4x1x1 (constant S_ .f32 0x358637BD#32)))))) (broadcastInDim S128x4x1x256 ![0, 1, 2, 3] bcast_S1x1x1x256_S128x4x1x256_0_1_2_3 (broadcastInDim S1x1x1x256 ![3] bcast_S256_S1x1x1x256_3 (V0 (Proc.devRef .tc main_arg8))))) (Host.divf (broadcastInDim S128x4x1x256 ![] bcast_S_S128x4x1x256 (constant S_ .f32 0x3F800000#32)) (addf (broadcastInDim S128x4x1x256 ![] bcast_S_S128x4x1x256 (constant S_ .f32 0x3F800000#32)) (Host.exp (Host.negf (shapeCast _ (V0 (Proc.devRef .tc main_arg2)) shapeCasts_S128x1024_S128x4x1x256)))))) shapeCasts_S128x4x1x256_S128x1024

variable (w : FVec Ideal ⟨2, ![8, 128]⟩ .f32) (hw : ∀ p : Fin 8, w (ix2 0 ⟨p.val, lt_lanes p⟩) = bR V0 (ix1 p)) (b : Fin 128) (h : Fin 4) (z : Fin 1)
include hw

theorem gate_r : res_main_v12 V0 (ix3 b h z) = gateI (gR V0) w b h := by
  pointwise [res_main_v12, res_main_v10, gateI]
  rw [hw ⟨h, by omega⟩]
theorem logF_r : res_main_v16 V0 (ix3 b h z) = logF (gR V0) w b h := by
  unfold res_main_v16
  rw [cum_one]
  pointwise [res_main_v10, res_main_call0_call0_v3, res_main_call0_v0, res_main_call0_call0_cst, logF, logSig]
  rw [hw ⟨4 + h, by omega⟩, if_neg (not_not.2 rfl)]
  simp only [zero_sub]

theorem dlog_r (z' : Fin 1) : res_main_v21 V0 (ix4 b h z z') = logF (gR V0) w b h - logF (gR V0) w b h + gateI (gR V0) w b h := by
  pointwise [res_main_v21]
  simp only [logF_r V0 w hw, gate_r V0 w hw]
theorem inter_r : res_main_v27 V0 (ix3 b h z) = logF (gR V0) w b h + smR V0 (ix2 b h) := by
  pointwise [res_main_v27]
  simp only [logF_r V0 w hw, gate_r V0 w hw]
variable (hl : logF (gR V0) w b h - logF (gR V0) w b h + gateI (gR V0) w b h = gateI (gR V0) w b h)
include hl
theorem stab_r : res_main_v28 V0 (ix3 b h z) = stab (gR V0) w (smR V0) b h := by
  pointwise [res_main_v28, stab]
  rw [inter_r V0 w hw]
  erw [Shape.ReducesTo.fold_fiber_r4_a3]
  simp only [dlog_r V0 w hw]
  rw [show (Finset.univ : Finset (Fin 1)) = {0} from rfl, Finset.fold_singleton]
  have hbot : Ideal.ofBits FTy.f32 0xFF800000#32 = ⊥ := by
    show Ideal.ieee 8 23 (0xFF800000#32) = ⊥
    unfold Ideal.ieee
    dsimp only
    rw [if_pos (by decide), if_pos (by decide), if_pos (by decide)]
  rw [hbot, max_bot_right]
  exact congrArg _ hl
theorem m_r : res_main_v52 V0 (ix2 b h) = stab (gR V0) w (smR V0) b h := by
  pointwise [res_main_v52]
  simp only [stab_r V0 w hw b h _ hl]
theorem decay_r : res_main_v34 V0 (ix3 b h z) = decay (gR V0) w (smR V0) b h := by
  pointwise [res_main_v34, decay]
  simp only [stab_r V0 w hw b h _ hl, inter_r V0 w hw]
theorem decay_s : res_main_v56 V0 (ix2 b h) = decay (gR V0) w (smR V0) b h := by
  pointwise [res_main_v56, decay]
  simp only [m_r V0 w hw b h hl, logF_r V0 w hw]
omit hw hl in
theorem lane_q (h : Fin 4) (a : Fin 128) (p : h.val * 128 + a.val < 1024) : (⟨h.val * 128 + a.val, p⟩ : Fin 1024) = ⟨128 * h.val + a.val, lt_query h a⟩ :=
  Fin.ext (by show h.val * 128 + a.val = 128 * h.val + a.val; omega)
omit hw hl in
theorem lane_k (h : Fin 4) (a : Fin 128) (p : 512 + (h.val * 128 + a.val) < 1024) : (⟨512 + (h.val * 128 + a.val), p⟩ : Fin 1024) = ⟨512 + 128 * h.val + a.val, lt_key h a⟩ :=
  Fin.ext (by show 512 + (h.val * 128 + a.val) = 512 + 128 * h.val + a.val; omega)
omit hw hl in
theorem lane_v (h : Fin 4) (e : Fin 256) (p : h.val * 256 + e.val < 1024) : (⟨h.val * 256 + e.val, p⟩ : Fin 1024) = ⟨256 * h.val + e.val, lt_value h e⟩ :=
  Fin.ext (by show h.val * 256 + e.val = 256 * h.val + e.val; omega)

theorem key_r (a : Fin 128) : res_main_v62 V0 (ix4 b h z a) = key (qkR V0) (gR V0) w (smR V0) b h a := by
  pointwise [res_main_v62, res_main_v5, key, keyScale]
  simp only [m_r V0 w hw b h hl, logF_r V0 w hw, gate_r V0 w hw, hl, lane_k]
theorem mem_r (a : Fin 128) (e : Fin 256) : memR V0 (ix4 b h a e) = mem (qkR V0) (vR V0) (gR V0) w (scR V0) (smR V0) b h a e := by
  unfold memR
  pointwise [mem, res_main_v6]
  simp only [decay_s V0 w hw b h hl, key_r V0 w hw b h _ hl, lane_v]
  rw [Fin.sum_univ_one]
theorem nrm_r (sn : FVec Ideal S128x512 .f32) (hsn : ∀ b h (a : Fin 128), sn (ix2 b ⟨128 * h.val + a.val, lt_nrm h a⟩) = snR V0 (ix3 b h a)) (a : Fin 128) :
    nrmR V0 (ix2 b ⟨128 * h.val + a.val, lt_nrm h a⟩) = nrm (qkR V0) (gR V0) w sn (smR V0) b h a := by
  unfold nrmR
  pointwise [nrm]
  simp only [decay_s V0 w hw b h hl, key_r V0 w hw b h _ hl]
  rw [Fin.sum_univ_one, hsn]
variable (hq : ∀ i, IsReal (qkR V0 i)) (hv : ∀ i, IsReal (vR V0 i)) (hsc : ∀ i, IsReal (scR V0 i)) (hsn : ∀ i, IsReal (snR V0 i))
  (hg : IsReal (gateI (gR V0) w b h)) (hf : IsReal (logF (gR V0) w b h)) (hsm : IsReal (smR V0 (ix2 b h)))
  (sn : FVec Ideal S128x512 .f32) (hN : ∀ b h (a : Fin 128), sn (ix2 b ⟨128 * h.val + a.val, lt_nrm h a⟩) = snR V0 (ix3 b h a))
include hq hv hsc hsn hg hf hsm hN
theorem read_r (e : Fin 256) : res_main_v51 V0 (ix4 b h z e) = readout (qkR V0) (vR V0) (gR V0) w (scR V0) sn (smR V0) b h e := by
  have hstab : IsReal (stab (gR V0) w (smR V0) b h) := (hf.add hsm).max hg
  have hE := (hg.sub hstab).exp
  have hd : IsReal (decay (gR V0) w (smR V0) b h) := ((hf.add hsm).sub hstab).exp
  pointwise [res_main_v51]
  simp only [decay_r V0 w hw b h _ hl, stab_r V0 w hw b h _ hl]
  pointwise [res_main_v32, res_main_v1, res_main_v5, res_main_v6]
  simp only [dlog_r V0 w hw, hl, stab_r V0 w hw b h _ hl, lane_q, lane_k, lane_v, Fin.sum_univ_one]
  unfold readout
  have e1 := read_update (fun a : Fin 128 => qkR V0 (ix2 b ⟨128 * h.val + a.val, by omega⟩)) (fun a => qkR V0 (ix2 b ⟨512 + 128 * h.val + a.val, by omega⟩))
    (fun a => scR V0 (ix4 b h a e)) _ _ _ (vR V0 (ix2 b ⟨256 * h.val + e.val, by omega⟩)) (fun _ => hq _) (fun _ => hq _) (fun _ => hsc _) hd hE .keyScale (hv _)
  have e2 := read_update (fun a : Fin 128 => qkR V0 (ix2 b ⟨128 * h.val + a.val, by omega⟩)) (fun a => qkR V0 (ix2 b ⟨512 + 128 * h.val + a.val, by omega⟩))
    (fun a => snR V0 (ix3 b h a)) _ _ _ 1 (fun _ => hq _) (fun _ => hq _) (fun _ => hsn _) hd hE .keyScale ⟨1, rfl⟩
  simp only [mul_one] at e2
  refine congrArg₂ Ideal.div e1 (congrArg₂ max (congrArg _ (e2.trans ?_)) (by rw [zero_sub]))
  simp only [nrm, hN, key]
theorem out_r (gain : FVec Ideal ⟨2, ![1, 256]⟩ .f32) (hgain : ∀ e : Fin 256, gain (ix2 0 e) = gainR V0 (ix1 e)) (e : Fin 256) : outR V0 (ix2 b ⟨256 * h.val + e.val, lt_value h e⟩)
    = out (qkR V0) (vR V0) (oR V0) (gR V0) w gain (scR V0) sn (smR V0) b h e := by
  unfold outR
  pointwise [out, Ideal.logistic]
  simp only [read_r V0 w hw b h _ hl hq hv hsc hsn hg hf hsm sn hN, hgain, lane_v]
end Cert.ReferenceIdeal.Step
-- ==== Proof.StepClaim.lean ====
module

public import proofs.«01_k».proof.Proof.StepKernel
public import proofs.«01_k».proof.Proof.StepReference
public import proofs.«01_k».proof.Defs
public import proofs.«01_k».proof.Proof.Gen.Pre_finite_inputs
public import Idealize.ShloMosaic.Lib.ReduceAll

@[expose] public section

set_option maxRecDepth 16384
noncomputable section
open Idealize.ShloMosaic Idealize.ShloMosaic.TcCoe Idealize.SL.Sem
/-! The two programs' results are the same terms of the step. -/
namespace Cert.Step

open Cert.Pre_finite_inputs in
theorem inputs_real (a0 a1 a2 : FVec Ideal S128x1024 .f32) (a3 : FVec Ideal S128x128 .f32) (a4 : FVec Ideal S128x4x128x256 .f32)
    (a5 : FVec Ideal S128x4x128 .f32) (a6 : FVec Ideal S128x4 .f32) (a7 : FVec Ideal S8 .f32) (a8 : FVec Ideal S256 .f32)
    (h : fn (F := Ideal) a0 a1 a2 a3 a4 a5 a6 a7 a8 = fun _ => 1#1) :
    (∀ i, IsReal (a0 i)) ∧ (∀ i, IsReal (a1 i)) ∧ (∀ i, IsReal (a3 i)) ∧ (∀ i, IsReal (a4 i)) ∧ (∀ i, IsReal (a5 i)) ∧ (∀ i, IsReal (a6 i)) ∧ (∀ i, IsReal (a7 i)) := by
  have h' := congrFun h (fun k => k.elim0)
  unfold fn fn_part1 at h'
  dsimp only at h'
  obtain ⟨h', r7⟩ := and_one _ _ h'
  obtain ⟨h', r6⟩ := and_one _ _ h'
  obtain ⟨h', r5⟩ := and_one _ _ h'
  obtain ⟨h', r4⟩ := and_one _ _ h'
  obtain ⟨h', r3⟩ := and_one _ _ h'
  obtain ⟨r0, r1⟩ := and_one _ _ h'
  exact ⟨all_real _ _ _ _ _ r0, all_real _ _ _ _ _ r1, all_real _ _ _ _ _ r3, all_real _ _ _ _ _ r4, all_real _ _ _ _ _ r5, all_real _ _ _ _ _ r6, all_real _ _ _ _ _ r7⟩

section
open Cert.KernelIdeal.Step Cert.ReferenceIdeal.Step
variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (e0 : qkR V0 = qkA m c) (e1 : vR V0 = vA m c) (e2 : oR V0 = oA m c) (e3 : gR V0 = gA m c) (e4 : scR V0 = scA m c)
  (e5 : snR V0 = m ((c : Thread Cert.KernelIdeal.nD Cert.KernelIdeal.τ).loc Cert.KernelIdeal.main_arg5)) (e6 : smR V0 = smA m c)
  (e7 : bR V0 = m ((c : Thread Cert.KernelIdeal.nD Cert.KernelIdeal.τ).loc Cert.KernelIdeal.main_arg7))
  (e8 : gainR V0 = m ((c : Thread Cert.KernelIdeal.nD Cert.KernelIdeal.τ).loc Cert.KernelIdeal.main_arg8))
  (f0 : ∀ i, IsReal (qkR V0 i)) (f1 : ∀ i, IsReal (vR V0 i)) (f3 : ∀ i, IsReal (gR V0 i)) (f4 : ∀ i, IsReal (scR V0 i)) (f5 : ∀ i, IsReal (snR V0 i))
  (f6 : ∀ i, IsReal (smR V0 i)) (f7 : ∀ i, IsReal (bR V0 i))
include e7
theorem bias_row (p : Fin 8) : wA m c (ix2 0 ⟨p.val, lt_lanes p⟩) = bR V0 (ix1 p) := by rw [wA_apply, e7]
include f7 f3
theorem logF_real (b : Fin 128) (h : Fin 4) : IsReal (logF (gR V0) (wA m c) b h) := by
  unfold logF
  rw [bias_row m c V0 e7 ⟨4 + h, by omega⟩]
  exact ((f3 _).add (f7 _)).logSig
theorem gateI_real (b : Fin 128) (h : Fin 4) : IsReal (gateI (gR V0) (wA m c) b h) := by
  unfold gateI
  rw [bias_row m c V0 e7 ⟨h, by omega⟩]
  exact (f3 _).add (f7 _)
theorem gate_cancel (b : Fin 128) (h : Fin 4) :
    logF (gR V0) (wA m c) b h - logF (gR V0) (wA m c) b h + gateI (gR V0) (wA m c) b h = gateI (gR V0) (wA m c) b h := by
  rw [(logF_real m c V0 e7 f3 f7 b h).self_sub, zero_add]

include e3 e6
theorem stab_eq : Cert.ReferenceIdeal.Value.res_main_v52 V0 = (Cert.KernelIdeal.Gen.dats m 0 c).arrAt 12 Cert.KernelIdeal.cfg0.N := by
  refine Eq.trans (funext fun j => ?_) (final12 m c).symm
  rw [eq_ix2 j]
  exact (m_r V0 _ (bias_row m c V0 e7) (j 0) (j 1) (gate_cancel m c V0 e7 f3 f7 _ _)).trans (by rw [e3, e6]; rfl)
include e0
theorem nrm_eq (e5 : snR V0 = m ((c : Thread Cert.KernelIdeal.nD Cert.KernelIdeal.τ).loc Cert.KernelIdeal.main_arg5)) :
    nrmR V0 = (Cert.KernelIdeal.Gen.dats m 0 c).arrAt 11 Cert.KernelIdeal.cfg0.N := by
  refine Eq.trans (funext fun j => ?_) (final11 m c).symm
  have hj : (j 1).val < 512 := (j 1).isLt
  have hs : j = ix2 (j 0) ⟨128 * ((j 1).val / 128) + (j 1).val % 128, by omega⟩ := by
    refine (eq_ix2 j).trans (congrArg (ix2 (j 0)) (Fin.ext ?_))
    show (j 1).val = 128 * ((j 1).val / 128) + (j 1).val % 128
    omega
  refine (congrArg (nrmR V0) hs).trans ?_
  refine (nrm_r V0 _ (bias_row m c V0 e7) (j 0) ⟨(j 1).val / 128, by omega⟩ (gate_cancel m c V0 e7 f3 f7 _ _) (snA m c)
    (fun b h a => by rw [snA_apply, e5]) ⟨(j 1).val % 128, by omega⟩).trans ?_
  rw [e0, e3, e6]
include e1 e4
theorem mem_eq : memR V0 = (Cert.KernelIdeal.Gen.dats m 0 c).arrAt 10 Cert.KernelIdeal.cfg0.N := by
  refine Eq.trans (funext fun j => ?_) (final10 m c).symm
  rw [eq_ix4 j]
  exact (mem_r V0 _ (bias_row m c V0 e7) (j 0) (j 1) (gate_cancel m c V0 e7 f3 f7 _ _) (j 2) (j 3)).trans (by rw [e0, e1, e3, e4, e6]; rfl)
include e2 e5 e8 f0 f1 f4 f5 f6
theorem out_eq : outR V0 = (Cert.KernelIdeal.Gen.dats m 0 c).arrAt 9 Cert.KernelIdeal.cfg0.N := by
  refine Eq.trans (funext fun j => ?_) (final9 m c).symm
  have hj : (j 1).val < 1024 := (j 1).isLt
  have hs : j = ix2 (j 0) ⟨256 * ((j 1).val / 256) + (j 1).val % 256, by omega⟩ := by
    refine (eq_ix2 j).trans (congrArg (ix2 (j 0)) (Fin.ext ?_))
    show (j 1).val = 256 * ((j 1).val / 256) + (j 1).val % 256
    omega
  refine (congrArg (outR V0) hs).trans ?_
  refine (out_r V0 _ (bias_row m c V0 e7) (j 0) ⟨(j 1).val / 256, by omega⟩ (gate_cancel m c V0 e7 f3 f7 _ _) f0 f1 f4 f5
    (gateI_real m c V0 e7 f3 f7 _ _) (logF_real m c V0 e7 f3 f7 _ _) (f6 _) (snA m c)
    (fun b h a => by rw [snA_apply, e5]) (gainA m c) (fun e => by rw [gainA_apply, e8]) ⟨(j 1).val % 256, by omega⟩).trans ?_
  rw [e0, e1, e2, e3, e4, e6]
end

theorem claim : Cert.algebraic_KernelIdeal_ReferenceIdeal_pre_finite_inputs := by
  intro m g m' g' hpre hag
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks m g, (θ_run _ _ _).mono (fun r h c => ?_) (Cert.ReferenceIdeal.Value.run m' g')⟩
  obtain ⟨a0, a1, a2, a3, a4, a5, a6, a7, a8⟩ := hag c
  obtain ⟨f0, f1, f3, f4, f5, f6, f7⟩ := inputs_real _ _ _ _ _ _ _ _ _ (hpre c)
  obtain ⟨s0, s1, s2, s3, keep⟩ := h c
  have g3 := real_of_eq a3 f3
  have g7 := real_of_eq a7 f7
  refine ⟨s0.trans (out_eq m c (StableHlo.launchContents m' c) a0 a1 a2 a3 a4 a5 a6 a7 a8 (real_of_eq a0 f0) (real_of_eq a1 f1) g3
      (real_of_eq a4 f4) (real_of_eq a5 f5) (real_of_eq a6 f6) g7),
    s1.trans (mem_eq m c (StableHlo.launchContents m' c) a0 a1 a3 a4 a6 a7 g3 g7),
    s2.trans (nrm_eq m c (StableHlo.launchContents m' c) a0 a3 a6 a7 g3 g7 a5),
    s3.trans (stab_eq m c (StableHlo.launchContents m' c) a3 a6 a7 g3 g7), keep⟩
end Cert.Step
-- ==== Proof.Mlp0First.lean ====
module

public import proofs.«01_k».proof.Proof.Gen.Mlp0Ideal.Frame
public import proofs.«01_k».proof.Proof.Gen.Mlp0Ideal.Skeleton

@[expose] public section

set_option maxRecDepth 16384

noncomputable section

namespace Cert.Mlp0Ideal.Body

open Cert.Mlp0Ideal Cert.Mlp0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at the first grid point, where the sample group is computed as well. -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024x4096 .bf16) (harg7 : arg7.IsWhole)
  (arg8 : Memref sig .tc .vmem S1x4096x1024 .bf16) (harg8 : arg8.IsWhole)
  (arg9 : Memref sig .tc .vmem S512x1024 .f32) (harg9 : arg9.IsWhole)
  (arg10 : Memref sig .tc .vmem S128x1024 .f32) (harg10 : arg10.IsWhole)

set_option maxHeartbeats 1000000 in
/-- The stores each output ends with at the first point, found by running the body on any staging buffers. -/
noncomputable def runA (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) :
    Σ' (L8 : List (View.Piece (Elt F) S512x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_out_mlp i arg1 harg1 arg2 harg2 arg3 harg3 arg4 harg4 arg5 harg5 arg6 harg6 arg7 harg7 arg8 harg8 arg9 harg9 arg10 harg10) K } := by
  refine ⟨?_, ?_, fun E K => ?exec⟩
  case exec =>
    simp only [cc0_out_mlp_eq_skeleton]; unfold cc0_out_mlp_skel
    simp only [k0_part2_eq_skeleton, k0_part3_eq_skeleton, k0_part1_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5; obtain rfl := harg7.eq_unread e6; obtain rfl := harg8.eq_unread e7
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

/-! Every cell of an output's block is stored. -/

theorem coverA8 (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (y : S512x1024.Idx) :
    ∃ pc ∈ (runA c i arg1 harg1 arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (runA c i arg1 harg1 arg2 harg2 arg3 harg3 arg4 harg4 arg5 harg5 arg6 harg6 arg7 harg7 arg8 harg8 arg9 harg9 arg10 harg10 hc x0 x1 x2 x3 x4 x5 x6 x7).1 S512x1024.size (by sl_kernel_rfl) y

theorem coverA9 (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (y : S128x1024.Idx) :
    ∃ pc ∈ (runA c i arg1 harg1 arg2 harg2 arg3 harg3 arg4 harg4 arg5 harg5 arg6 harg6 arg7 harg7 arg8 harg8 arg9 harg9 arg10 harg10 hc x0 x1 x2 x3 x4 x5 x6 x7).2.1, y ∈ pc.1.set :=
  View.cover_of_tiledL (runA c i arg1 harg1 arg2 harg2 arg3 harg3 arg4 harg4 arg5 harg5 arg6 harg6 arg7 harg7 arg8 harg8 arg9 harg9 arg10 harg10 hc x0 x1 x2 x3 x4 x5 x6 x7).2.1 S128x1024.size (by sl_kernel_rfl) y

end

end Cert.Mlp0Ideal.Body

end
-- ==== Proof.Mlp0Later.lean ====
module

public import proofs.«01_k».proof.Proof.Mlp0First

@[expose] public section

set_option maxRecDepth 16384

noncomputable section

namespace Cert.Mlp0Ideal.Body

open Cert.Mlp0Ideal Cert.Mlp0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at a later grid point, where the body leaves the sample outputs alone. -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024x4096 .bf16) (harg7 : arg7.IsWhole)
  (arg8 : Memref sig .tc .vmem S1x4096x1024 .bf16) (harg8 : arg8.IsWhole)
  (arg9 : Memref sig .tc .vmem S512x1024 .f32) (harg9 : arg9.IsWhole)
  (arg10 : Memref sig .tc .vmem S128x1024 .f32) (harg10 : arg10.IsWhole)

set_option maxHeartbeats 1000000 in
/-- The stores each prompt output ends with at a later point; the sample outputs are not touched. -/
noncomputable def runB (hc : ¬k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) :
    { L8 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0_out_mlp i arg1 harg1 arg2 harg2 arg3 harg3 arg4 harg4 arg5 harg5 arg6 harg6 arg7 harg7 arg8 harg8 arg9 harg9 arg10 harg10) K } := by
  refine ⟨?_, fun E K => ?exec⟩
  case exec =>
    simp only [cc0_out_mlp_eq_skeleton]; unfold cc0_out_mlp_skel
    simp only [k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5; obtain rfl := harg7.eq_unread e6; obtain rfl := harg8.eq_unread e7
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-! Every cell of an output's block is stored. -/

theorem coverB8 (hc : ¬k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (y : S512x1024.Idx) :
    ∃ pc ∈ (runB c i arg1 harg1 arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (runB c i arg1 harg1 arg2 harg2 arg3 harg3 arg4 harg4 arg5 harg5 arg6 harg6 arg7 harg7 arg8 harg8 arg9 harg9 arg10 harg10 hc x0 x1 x2 x3 x4 x5 x6 x7).1 S512x1024.size (by sl_kernel_rfl) y

end

end Cert.Mlp0Ideal.Body

end
-- ==== Proof.Held.lean ====
module

public import Idealize.ShloMosaic.Lib.Pipeline.FrameBody
public import Idealize.ShloMosaic.Lib.Pipeline.TableIdle

@[expose] public section

noncomputable section

/-! An output block computed at the first grid point, left alone afterwards and written back after the last. -/

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {cfg : Cfg sig Λ₀} {c : Dev nD} (dat : Dat τ Val Ix Name U Lvl cfg c) (w : Fin cfg.W)

/-- where the window is in use the body leaves what the proof data says -/
theorem leaves_live (t : Fin cfg.N) (h : cfg.idle w (cfg.grid.coords t) = false) :
    dat.leavesExact w t = owns c ((cfg.win w).stage (cfg.slots t w)) fullShare (dat.after w t) := by
  unfold Dat.leavesExact; rw [h]

/-- a window whose buffer holds `X` before and after a point, whether or not it is idle and written back there -/
theorem leaves_kept (t : Fin cfg.N) (X : (cfg.win w).block.Idx → Val (cfg.win w).elt) (ha : dat.after w t = X)
    (hb : ∀ d, dat.before w t d = X) (d₀ : (cfg.win w).block.Idx → Val (cfg.win w).elt) :
    owns c ((cfg.win w).stage (cfg.slots t w)) fullShare X ⊢ (dat.leavesExact w t : sProp (MT nD τ sig Ix Val Name U Lvl)) := by
  unfold Dat.leavesExact
  split
  · split
    · iintro H; iexists d₀; rw [hb]; iexact H
    · rw [ha]
  · rw [ha]

/-- a window in use at the first point only, and not written back before the last -/
theorem before_kept (hw : (cfg.win w).isOut = true) (hclip : ∀ (i : cfg.grid.Coords) a, (cfg.win w).clip i a = none)
    (X : (cfg.win w).block.Idx → Val (cfg.win w).elt) (ha : ∀ t, dat.after w t = X) (n : ℕ) (hN : cfg.N = n + 1)
    (hidle : ∀ t : Fin cfg.N, cfg.idle w (cfg.grid.coords t) = (t.val != 0))
    (hflush : ∀ t : Fin cfg.N, t.val = n ∨ (cfg.win w).flush t = false) (t : Fin cfg.N) (h : t.val ≠ 0) (d) :
    dat.before w t d = X := by
  have hfresh : ∀ k : ℕ, k + 1 ≤ n → cfg.fresh w (k + 1) = false := by
    intro k hk
    induction k with
    | zero =>
      rw [cfg.fresh_succ w 0 (by omega), hidle, (hflush ⟨0, by omega⟩).resolve_left (by simp only; omega)]; rfl
    | succ k ih =>
      rw [cfg.fresh_succ w (k + 1) (by omega), (hflush ⟨k + 1, by omega⟩).resolve_left (by simp only; omega), ih (by omega), Bool.and_false]; rfl
  obtain ⟨k, hk⟩ : ∃ k, t.val = k + 1 := ⟨t.val - 1, by omega⟩
  rw [dat.before_out_traj w hw hclip (fun t _ _ _ => (ha t).trans (ha _).symm) t.val t rfl d, ha, hk, hfresh k (by omega)]
  rfl

end Idealize.ShloMosaic.Pipeline

end
-- ==== Proof.Mlp0Frame.lean ====
module

public import proofs.«01_k».proof.Proof.Mlp0Later
public import proofs.«01_k».proof.Proof.Held
public import Idealize.ShloMosaic.Lib.Claim

@[expose] public section

set_option maxRecDepth 16384

noncomputable section

namespace Cert.Mlp0Ideal.Body

open Cert.Mlp0Ideal Cert.Mlp0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffer of each window at a point, and one fixed buffer per output to read contents through. -/

abbrev ms0 (t : Fin cfg0.N) : Memref sig .tc .vmem S512x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S128x1024 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1024x4096 .bf16 := win0_6.stage (cfg0.slots t 6)
theorem hs6 (t : Fin cfg0.N) : (ms6 t).IsWhole := hstage0_6 ((cfg0.slots t 6).cast nbuf0_6)
abbrev ms7 (t : Fin cfg0.N) : Memref sig .tc .vmem S1x4096x1024 .bf16 := win0_7.stage (cfg0.slots t 7)
theorem hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S128x1024 .f32 := win0_9.stage (cfg0.slots t 9)
theorem hs9 (t : Fin cfg0.N) : (ms9 t).IsWhole := hstage0_9 ((cfg0.slots t 9).cast nbuf0_9)
abbrev vo8 : View sig .tc .vmem S512x1024 .f32 := (Memref.whole cc0_stg8_0 : Memref sig .tc .vmem S512x1024 .f32).view
abbrev vo9 : View sig .tc .vmem S128x1024 .f32 := (Memref.whole cc0_stg9_0 : Memref sig .tc .vmem S128x1024 .f32).view

/-- the grid point that computes the sample group -/
def first : Fin cfg0.N := ⟨0, by decide⟩

/-- the body's condition holds at the first point only -/
theorem cond_iff : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    rw [show t.val = 0 ↔ t.val % 32 = 0 by omega]
    simp only [k0_cond1, e0]
    word_cmp
   : ∀ t : Fin grid0.N, k0_cond1 (grid0.coords t) = 1#1 ↔ t.val = 0)

theorem cond_first : k0_cond1 (grid0.coords first) = 1#1 := (cond_iff first).mpr rfl

/-! What an output's block holds after a point, from the input blocks. -/

section
variable (c : Dev nD) (t : Fin cfg0.N)
def blkA8 (hc : k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) : Vec F S512x1024 .f32 :=
  View.read (Elt F) vo8 (vo8.writes (Elt F) vo8.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc x0 x1 x2 x3 x4 x5 x6 x7).1)
def blkA9 (hc : k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) : Vec F S128x1024 .f32 :=
  View.read (Elt F) vo9 (vo9.writes (Elt F) vo9.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc x0 x1 x2 x3 x4 x5 x6 x7).2.1)
def blkB8 (hc : ¬k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) : Vec F S512x1024 .f32 :=
  View.read (Elt F) vo8 (vo8.writes (Elt F) vo8.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc x0 x1 x2 x3 x4 x5 x6 x7).1)
/-- output 8 after point `t` -/
def held8 : Vec F S512x1024 .f32 :=
  if h : k0_cond1 (grid0.coords t) = 1#1 then blkA8 c t h (iblk m c 0 t) (iblk m c 1 t) (iblk m c 2 t) (iblk m c 3 t) (iblk m c 4 t) (iblk m c 5 t) (iblk m c 6 t) (iblk m c 7 t) else blkB8 c t h (iblk m c 0 t) (iblk m c 1 t) (iblk m c 2 t) (iblk m c 3 t) (iblk m c 4 t) (iblk m c 5 t) (iblk m c 6 t) (iblk m c 7 t)
theorem held8_A (h : k0_cond1 (grid0.coords t) = 1#1) : held8 m c t = blkA8 c t h (iblk m c 0 t) (iblk m c 1 t) (iblk m c 2 t) (iblk m c 3 t) (iblk m c 4 t) (iblk m c 5 t) (iblk m c 6 t) (iblk m c 7 t) := dif_pos h
theorem held8_B (h : ¬k0_cond1 (grid0.coords t) = 1#1) : held8 m c t = blkB8 c t h (iblk m c 0 t) (iblk m c 1 t) (iblk m c 2 t) (iblk m c 3 t) (iblk m c 4 t) (iblk m c 5 t) (iblk m c 6 t) (iblk m c 7 t) := dif_neg h
/-- output 9, computed at the first point and kept -/
def held9 : Vec F S128x1024 .f32 := blkA9 c first cond_first (iblk m c 0 first) (iblk m c 1 first) (iblk m c 2 first) (iblk m c 3 first) (iblk m c 4 first) (iblk m c 5 first) (iblk m c 6 first) (iblk m c 7 first)
end

/-! The pipeline's proof data. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => held8 m c t
    | ⟨9, _⟩ => held9 m c
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = held8 m c t := by dsimp only [dats]
theorem after9 (c : Dev nD) (t : Fin cfg0.N) : (dats m 0 c).after 9 t = held9 m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! A sample output is idle from the second point on and written back at the last. -/

theorem fresh9 : ∀ t : Fin cfg0.N, cfg0.idle 9 (grid0.coords t) = (t.val != 0) ∧ (t.val = 31 ∨ (cfg0.win 9).flush t = false) := by decide +kernel
theorem before9 (c : Dev nD) (t : Fin cfg0.N) (h : t.val ≠ 0) (d) : (dats m 0 c).before 9 t d = held9 m c :=
  (Pipeline.before_kept (dats m 0 c) 9 rfl (fun _ _ => rfl) (held9 m c) (after9 m c) 31 N_0 (fun t => (fresh9 t).1) (fun t => (fresh9 t).2) t h d)

/-! The body's obligation. -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl]
  rw [Pipeline.leaves_live (dats m 0 c) 0 t rfl, after0]
  rw [Pipeline.leaves_live (dats m 0 c) 1 t rfl, after1]
  rw [Pipeline.leaves_live (dats m 0 c) 2 t rfl, after2]
  rw [Pipeline.leaves_live (dats m 0 c) 3 t rfl, after3]
  rw [Pipeline.leaves_live (dats m 0 c) 4 t rfl, after4]
  rw [Pipeline.leaves_live (dats m 0 c) 5 t rfl, after5]
  rw [Pipeline.leaves_live (dats m 0 c) 6 t rfl, after6]
  rw [Pipeline.leaves_live (dats m 0 c) 7 t rfl, after7]
  rw [Pipeline.leaves_live (dats m 0 c) 8 t rfl, after8]
  by_cases hc : k0_cond1 (grid0.coords t) = 1#1
  · obtain rfl : t = first := Fin.ext ((cond_iff t).mp hc)
    rw [Pipeline.leaves_live (dats m 0 c) 9 first (fresh9 first).1, after9]
    rw [held8_A m c first hc]
    unfold blkA8 held9 blkA9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords first) _ _ _ _ _ _ _ _ _ _ _ _ _ _ _ _ _ _ _ _ hc (iblk m c 0 first) (iblk m c 1 first) (iblk m c 2 first) (iblk m c 3 first) (iblk m c 4 first) (iblk m c 5 first) (iblk m c 6 first) (iblk m c 7 first)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA8 c _ _ _ _ _ _ _ _ _ _ _ _ _ _ _ _ _ _ _ _ _ hc _ _ _ _ _ _ _ _ )
    unfold owns; iexists _; isplitr
    swap; · iexact H9
    ipureintro; exact View.read_writes_of_cover _ _ _ _ _ (coverA9 c _ _ _ _ _ _ _ _ _ _ _ _ _ _ _ _ _ _ _ _ _ hc _ _ _ _ _ _ _ _ )
  · have h0 : t.val ≠ 0 := fun h => hc ((cond_iff t).mpr h)
    simp only [before9 m c t h0]
    rw [held8_B m c t hc]
    unfold blkB8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB8 c _ _ _ _ _ _ _ _ _ _ _ _ _ _ _ _ _ _ _ _ _ hc _ _ _ _ _ _ _ _ )
    iapply (Pipeline.leaves_kept (dats m 0 c) 9 t (held9 m c) (after9 m c t) (before9 m c t h0) d9)
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Mlp0Ideal.Body

end
-- ==== Proof.FfnTerms.lean ====
module

public import Idealize.ShloMosaic.Lib.Pipeline.ValueKit

@[expose] public section

noncomputable section

open Idealize.ShloMosaic

/-! The output projection and the feed-forward part of a layer, for one row, over the extended reals. -/

namespace Cert.Ffn

/-- the row after the mixer's output projection, with the residual -/
def mixed (h x : Fin 1024 → EReal) (wo : Fin 1024 → Fin 1024 → EReal) (e : Fin 1024) : EReal := h e + ∑ k : Fin 1024, x k * wo k e

/-- a row divided by its root mean square, with a gain -/
def normed (x g : Fin 1024 → EReal) (e : Fin 1024) : EReal :=
  x e * Ideal.rsqrt (Ideal.div (∑ k : Fin 1024, x k * x k) (Ideal.ofBits .f32 0x44800000#32) + Ideal.ofBits .f32 0x358637BD#32) * g e

/-- hidden unit `j` of a normalized row, its positive part squared -/
def unit (x : Fin 1024 → EReal) (up : Fin 1024 → Fin 4096 → EReal) (j : Fin 4096) : EReal :=
  max (∑ k : Fin 1024, x k * up k j) 0 * max (∑ k : Fin 1024, x k * up k j) 0

/-- the layer's output row -/
def ffn (h x : Fin 1024 → EReal) (wo : Fin 1024 → Fin 1024 → EReal) (g : Fin 1024 → EReal) (up : Fin 1024 → Fin 4096 → EReal)
    (down : Fin 4096 → Fin 1024 → EReal) (e : Fin 1024) : EReal :=
  mixed h x wo e + ∑ j : Fin 4096, unit (normed (mixed h x wo) g) up j * down j e

/-- column `j` of the band of the hidden layer that begins at column `o` -/
def band (o : ℕ) (ho : o + 1024 ≤ 4096) (j : Fin 1024) : Fin 4096 := ⟨o + j, by omega⟩

/-- what a band of the hidden layer contributes to lane `e` -/
def part (x : Fin 1024 → EReal) (up : Fin 1024 → Fin 4096 → EReal) (down : Fin 4096 → Fin 1024 → EReal) (o : ℕ) (ho : o + 1024 ≤ 4096)
    (e : Fin 1024) : EReal := ∑ j : Fin 1024, unit x up (band o ho j) * down (band o ho j) e

theorem sum_bands (f : Fin 4096 → EReal) : ∑ j, f j
    = ∑ j, f (band 0 (by decide) j) + ∑ j, f (band 1024 (by decide) j) + ∑ j, f (band 2048 (by decide) j) + ∑ j, f (band 3072 (by decide) j) := by
  rw [Fin.sum_univ_tiles 4 1024 rfl f, Fin.sum_univ_four]
  rfl

/-- adding the four bands one after the other is adding the whole hidden layer -/
theorem ffn_eq (h x : Fin 1024 → EReal) (wo : Fin 1024 → Fin 1024 → EReal) (g : Fin 1024 → EReal) (up : Fin 1024 → Fin 4096 → EReal)
    (down : Fin 4096 → Fin 1024 → EReal) (e : Fin 1024) :
    mixed h x wo e + part (normed (mixed h x wo) g) up down 0 (by decide) e + part (normed (mixed h x wo) g) up down 1024 (by decide) e
      + part (normed (mixed h x wo) g) up down 2048 (by decide) e + part (normed (mixed h x wo) g) up down 3072 (by decide) e
      = ffn h x wo g up down e := by
  unfold ffn
  rw [sum_bands]
  simp only [part, add_assoc]

/-- row `r` of layer `l`'s output, from the arrays of a batch and of both layers' weights -/
def layer {n : ℕ} (l : Fin 2) (h x : (⟨2, ![n, 1024]⟩ : Shape).Idx → EReal) (wo : (⟨3, ![1, 1024, 1024]⟩ : Shape).Idx → EReal)
    (g : (⟨2, ![2, 1024]⟩ : Shape).Idx → EReal) (up : (⟨3, ![2, 1024, 4096]⟩ : Shape).Idx → EReal)
    (down : (⟨3, ![2, 4096, 1024]⟩ : Shape).Idx → EReal) (r : Fin n) : Fin 1024 → EReal :=
  ffn (fun k => h (ix2 r k)) (fun k => x (ix2 r k)) (fun k e => wo (ix3 0 k e)) (fun k => g (ix2 l k)) (fun k j => up (ix3 l k j))
    (fun j e => down (ix3 l j e))

end Cert.Ffn

end
-- ==== Proof.Mlp0Blocks.lean ====
module

public import proofs.«01_k».proof.Proof.Mlp0Frame
public import proofs.«01_k».proof.Proof.FfnTerms

@[expose] public section

set_option maxRecDepth 16384

noncomputable section

open Idealize.ShloMosaic Idealize.ShloMosaic.TcCoe Idealize.SL.Sem

namespace Cert.Mlp0Ideal.Body

open Cert.Mlp0Ideal Cert.Mlp0Ideal.Gen Cert.Ffn

/-- the block of the first weights that begins at column `o` -/
abbrev upAt (o : ℕ) (h : ∀ a, ![0, 0, o] a + S1x1024x1024.size a ≤ S1x1024x4096.size a) (x : FVec Ideal S1x1024x4096 .bf16) : FVec Ideal S1x1024x1024 .bf16 :=
  View.ld (Val := Elt Ideal) (e' := .bf16) x (Rect.unit (s := S1x1024x4096) ![0, 0, o] ![1, 1024, 1024] h)
/-- the block of the second weights that begins at row `o` -/
abbrev downAt (o : ℕ) (h : ∀ a, ![0, o, 0] a + S1x1024x1024.size a ≤ S1x4096x1024.size a) (x : FVec Ideal S1x4096x1024 .bf16) : FVec Ideal S1x1024x1024 .bf16 :=
  View.ld (Val := Elt Ideal) (e' := .bf16) x (Rect.unit (s := S1x4096x1024) ![0, o, 0] ![1, 1024, 1024] h)

section prompt
variable (x0 : FVec Ideal S512x1024 .f32) (x1 : FVec Ideal S512x1024 .bf16) (x4 : FVec Ideal S1024x1024 .bf16) (x5 : FVec Ideal S1x1024 .f32)
  (x6 : FVec Ideal S1x1024x4096 .bf16) (x7 : FVec Ideal S1x4096x1024 .bf16) (r : Fin 512) (e : Fin 1024)

theorem prompt_mixed : k0_pay6 (F := Ideal) x0 x1 x4 (ix2 r e) = mixed (fun k => x0 (ix2 r k)) (fun k => x1 (ix2 r k)) (fun k e => x4 (ix2 k e)) e := by
  pointwise [k0_pay6, mixed]

theorem prompt_normed : k0_pay7 (F := Ideal) x0 x1 x4 x5 (ix2 r e)
    = normed (mixed (fun k => x0 (ix2 r k)) (fun k => x1 (ix2 r k)) (fun k e => x4 (ix2 k e))) (fun k => x5 (ix2 0 k)) e := by
  pointwise [k0_pay7, normed]
  simp only [prompt_mixed]

/-- a block of rows after the feed-forward part, the hidden layer taken in four bands -/
def promptFfn : FVec Ideal S512x1024 .f32 :=
  k0_pay10 (k0_pay7 x0 x1 x4 x5) (k0_pay8 x0 x1 x4 x5 (upAt 0 inb_S1x1024x4096_S1x1024x1024_0_0_0 x6) (downAt 0 inb_S1x4096x1024_S1x1024x1024_0_0_0 x7))
    (k0_pay9 (upAt 1024 inb_S1x1024x4096_S1x1024x1024_0_0_1024 x6)) (constant S512x1024 .f32 0#32)
    (downAt 1024 inb_S1x4096x1024_S1x1024x1024_0_1024_0 x7) (upAt 2048 inb_S1x1024x4096_S1x1024x1024_0_0_2048 x6)
    (downAt 2048 inb_S1x4096x1024_S1x1024x1024_0_2048_0 x7) (upAt 3072 inb_S1x1024x4096_S1x1024x1024_0_0_3072 x6)
    (downAt 3072 inb_S1x4096x1024_S1x1024x1024_0_3072_0 x7)

set_option backward.isDefEq.respectTransparency false in
theorem promptFfn_apply : promptFfn x0 x1 x4 x5 x6 x7 (ix2 r e)
    = ffn (fun k => x0 (ix2 r k)) (fun k => x1 (ix2 r k)) (fun k e => x4 (ix2 k e)) (fun k => x5 (ix2 0 k)) (fun k j => x6 (ix3 0 k j))
        (fun j e => x7 (ix3 0 j e)) e := by
  rw [← ffn_eq]
  unfold promptFfn upAt downAt
  pointwise [k0_pay10, k0_pay9, k0_pay8, part, unit, band]
  simp only [prompt_mixed, prompt_normed]
end prompt

section sample
variable (x2 : FVec Ideal S128x1024 .f32) (x3 : FVec Ideal S128x1024 .f32) (x4 : FVec Ideal S1024x1024 .bf16) (x5 : FVec Ideal S1x1024 .f32)
  (x6 : FVec Ideal S1x1024x4096 .bf16) (x7 : FVec Ideal S1x4096x1024 .bf16) (r : Fin 128) (e : Fin 1024)

theorem sample_mixed : k0_pay2 (F := Ideal) x2 x3 x4 (ix2 r e) = mixed (fun k => x2 (ix2 r k)) (fun k => x3 (ix2 r k)) (fun k e => x4 (ix2 k e)) e := by
  pointwise [k0_pay2, mixed]

theorem sample_normed : k0_pay3 (F := Ideal) x2 x3 x4 x5 (ix2 r e)
    = normed (mixed (fun k => x2 (ix2 r k)) (fun k => x3 (ix2 r k)) (fun k e => x4 (ix2 k e))) (fun k => x5 (ix2 0 k)) e := by
  pointwise [k0_pay3, normed]
  simp only [sample_mixed]

/-- a block of rows after the feed-forward part, the hidden layer taken in four bands -/
def sampleFfn : FVec Ideal S128x1024 .f32 :=
  k0_pay1 (k0_pay3 x2 x3 x4 x5) (k0_pay4 x2 x3 x4 x5 (upAt 0 inb_S1x1024x4096_S1x1024x1024_0_0_0 x6) (downAt 0 inb_S1x4096x1024_S1x1024x1024_0_0_0 x7))
    (k0_pay5 (upAt 1024 inb_S1x1024x4096_S1x1024x1024_0_0_1024 x6)) (constant S128x1024 .f32 0#32)
    (downAt 1024 inb_S1x4096x1024_S1x1024x1024_0_1024_0 x7) (upAt 2048 inb_S1x1024x4096_S1x1024x1024_0_0_2048 x6)
    (downAt 2048 inb_S1x4096x1024_S1x1024x1024_0_2048_0 x7) (upAt 3072 inb_S1x1024x4096_S1x1024x1024_0_0_3072 x6)
    (downAt 3072 inb_S1x4096x1024_S1x1024x1024_0_3072_0 x7)

set_option backward.isDefEq.respectTransparency false in
theorem sampleFfn_apply : sampleFfn x2 x3 x4 x5 x6 x7 (ix2 r e)
    = ffn (fun k => x2 (ix2 r k)) (fun k => x3 (ix2 r k)) (fun k e => x4 (ix2 k e)) (fun k => x5 (ix2 0 k)) (fun k j => x6 (ix3 0 k j))
        (fun j e => x7 (ix3 0 j e)) e := by
  rw [← ffn_eq]
  unfold sampleFfn upAt downAt
  pointwise [k0_pay1, k0_pay5, k0_pay4, part, unit, band]
  simp only [sample_mixed, sample_normed]
end sample

section
variable (c : Dev nD) (t : Fin cfg0.N)
  (x0 : FVec Ideal S512x1024 .f32) (x1 : FVec Ideal S512x1024 .bf16) (x2 : FVec Ideal S128x1024 .f32) (x3 : FVec Ideal S128x1024 .f32)
  (x4 : FVec Ideal S1024x1024 .bf16) (x5 : FVec Ideal S1x1024 .f32) (x6 : FVec Ideal S1x1024x4096 .bf16) (x7 : FVec Ideal S1x4096x1024 .bf16)

theorem blkA8_eq (hc) : blkA8 (F := Ideal) c t hc x0 x1 x2 x3 x4 x5 x6 x7 = promptFfn x0 x1 x4 x5 x6 x7 := by
  unfold promptFfn upAt downAt
  frame_out
theorem blkB8_eq (hc) : blkB8 (F := Ideal) c t hc x0 x1 x2 x3 x4 x5 x6 x7 = promptFfn x0 x1 x4 x5 x6 x7 := by
  unfold promptFfn upAt downAt
  frame_out
theorem blkA9_eq (hc) : blkA9 (F := Ideal) c t hc x0 x1 x2 x3 x4 x5 x6 x7 = sampleFfn x2 x3 x4 x5 x6 x7 := by
  unfold sampleFfn upAt downAt
  frame_out
end

variable (m : (ℓ : Loc nD τ sig) → Buf (Elt Ideal) ℓ)

theorem held8_eq (c : Dev nD) (t : Fin cfg0.N) : held8 m c t
    = (promptFfn (iblk m c 0 t) (iblk m c 1 t) (iblk m c 4 t) (iblk m c 5 t) (iblk m c 6 t) (iblk m c 7 t) : FVec Ideal S512x1024 .f32) := by
  by_cases h : k0_cond1 (grid0.coords t) = 1#1
  · rw [held8_A m c t h]; exact blkA8_eq c t _ _ _ _ _ _ _ _ h
  · rw [held8_B m c t h]; exact blkB8_eq c t _ _ _ _ _ _ _ _ h
theorem held9_eq (c : Dev nD) : held9 m c
    = (sampleFfn (iblk m c 2 first) (iblk m c 3 first) (iblk m c 4 first) (iblk m c 5 first) (iblk m c 6 first) (iblk m c 7 first) : FVec Ideal S128x1024 .f32) :=
  blkA9_eq c first _ _ _ _ _ _ _ _ cond_first
end Cert.Mlp0Ideal.Body

end
-- ==== Proof.Mlp0Kernel.lean ====
module

public import proofs.«01_k».proof.Proof.Mlp0Blocks

@[expose] public section

set_option maxRecDepth 16384

noncomputable section

open Idealize.ShloMosaic Idealize.ShloMosaic.TcCoe Idealize.SL.Sem
open Idealize.ShloMosaic.Pipeline (Dat)

namespace Cert.Mlp0Ideal.Body

open Cert.Mlp0Ideal Cert.Mlp0Ideal.Gen Cert.Ffn

variable (m : (ℓ : Loc nD τ sig) → Buf (Elt Ideal) ℓ)

/-- where each window's block lies -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0, 0] ∧ win0_7.index t = ![0, 0, 0] ∧ win0_8.index t = ![t.val, 0] ∧ win0_9.index t = ![0, 0] :=
  (by decide +kernel : ∀ t : Fin grid0.N, _)

abbrev hA (c : Dev nD) : FVec Ideal S16384x1024 .f32 := m ((c : Thread nD τ).loc main_arg0)
abbrev xA (c : Dev nD) : FVec Ideal S16384x1024 .bf16 := m ((c : Thread nD τ).loc main_arg1)
abbrev hsA (c : Dev nD) : FVec Ideal S128x1024 .f32 := m ((c : Thread nD τ).loc main_arg2)
abbrev xsA (c : Dev nD) : FVec Ideal S128x1024 .f32 := m ((c : Thread nD τ).loc main_arg3)
abbrev woA (c : Dev nD) : FVec Ideal S1x1024x1024 .f32 := m ((c : Thread nD τ).loc main_arg4)
abbrev gA (c : Dev nD) : FVec Ideal S2x1024 .f32 := m ((c : Thread nD τ).loc main_arg5)
abbrev upA (c : Dev nD) : FVec Ideal S2x1024x4096 .f32 := m ((c : Thread nD τ).loc main_arg6)
abbrev downA (c : Dev nD) : FVec Ideal S2x4096x1024 .f32 := m ((c : Thread nD τ).loc main_arg7)

/-- row `r` of point `t` in the whole prompt -/
def row (t : Fin cfg0.N) (r : Fin 512) : Fin 16384 := ⟨t.val * 512 + r, by have : t.val < 32 := t.isLt; omega⟩

section Reads
variable (c : Dev nD) (t : Fin cfg0.N)
theorem read0 (r : Fin 512) (k : Fin 1024) : (iblk m c 0 t : FVec Ideal S512x1024 .f32) (ix2 r k) = hA m c (ix2 (row t r) k) := by unfold row; blk_ext [iblk, V, idx t]
theorem read1 (r : Fin 512) (k : Fin 1024) : (iblk m c 1 t : FVec Ideal S512x1024 .bf16) (ix2 r k) = xA m c (ix2 (row t r) k) := by unfold row; blk_ext [iblk, V, idx t]
theorem read2 (r : Fin 128) (k : Fin 1024) : (iblk m c 2 t : FVec Ideal S128x1024 .f32) (ix2 r k) = hsA m c (ix2 r k) := by blk_ext [iblk, V, idx t]
theorem read3 (r : Fin 128) (k : Fin 1024) : (iblk m c 3 t : FVec Ideal S128x1024 .f32) (ix2 r k) = xsA m c (ix2 r k) := by blk_ext [iblk, V, idx t]
theorem read4 (k e : Fin 1024) : (iblk m c 4 t : FVec Ideal S1024x1024 .bf16) (ix2 k e) = woA m c (ix3 0 k e) := by
  refine Eq.trans (b := (V m c main_v1 : FVec Ideal S1024x1024 .bf16) (ix2 k e)) (by blk_ext [iblk, idx t]) ?_
  entry_read
  pointwise
theorem read5 (k : Fin 1024) : (iblk m c 5 t : FVec Ideal S1x1024 .f32) (ix2 0 k) = gA m c (ix2 0 k) := by
  refine Eq.trans (b := (V m c main_v6 : FVec Ideal S1x1024 .f32) (ix2 0 k)) (by blk_ext [iblk, idx t]) ?_
  entry_read
  pointwise
theorem read6 (k : Fin 1024) (j : Fin 4096) : (iblk m c 6 t : FVec Ideal S1x1024x4096 .bf16) (ix3 0 k j) = upA m c (ix3 0 k j) := by
  refine Eq.trans (b := (V m c main_v4 : FVec Ideal S2x1024x4096 .bf16) (ix3 0 k j)) (by blk_ext [iblk, idx t]) ?_
  entry_read
  pointwise
theorem read7 (j : Fin 4096) (e : Fin 1024) : (iblk m c 7 t : FVec Ideal S1x4096x1024 .bf16) (ix3 0 j e) = downA m c (ix3 0 j e) := by
  refine Eq.trans (b := (V m c main_v5 : FVec Ideal S2x4096x1024 .bf16) (ix3 0 j e)) (by blk_ext [iblk, idx t]) ?_
  entry_read
  pointwise
end Reads

theorem prompt_block (c : Dev nD) (t : Fin cfg0.N) (r : Fin 512) (e : Fin 1024) :
    held8 m c t (ix2 r e) = layer 0 (hA m c) (xA m c) (woA m c) (gA m c) (upA m c) (downA m c) (row t r) e := by
  rw [held8_eq]
  refine (promptFfn_apply _ _ _ _ _ _ r e).trans ?_
  simp only [layer, read0, read1, read4, read5, read6, read7]
theorem sample_block (c : Dev nD) (r : Fin 128) (e : Fin 1024) : held9 m c (ix2 r e) = layer 0 (hsA m c) (xsA m c) (woA m c) (gA m c) (upA m c) (downA m c) r e := by
  rw [held9_eq]
  refine (sampleFfn_apply _ _ _ _ _ _ r e).trans ?_
  simp only [layer, read2, read3, read4, read5, read6, read7]

theorem prompt_array (c : Dev nD) : (dats m 0 c).arrAt 8 (cfgs 0).N = fun j => layer 0 (hA m c) (xA m c) (woA m c) (gA m c) (upA m c) (downA m c) (j 0) (j 1) := by
  refine (dats m 0 c).arrAt_eq_of_covers 8 _ (by decide +kernel) fun t hf y => ?_
  blk_simp
  rw [after8]
  refine (congrArg (held8 m c t) (eq_ix2 y)).trans ((prompt_block m c t (y 0) (y 1)).trans ?_)
  have h0 : row t (y 0) = (win0_8.blk t).view.emb y 0 := Fin.ext (by blk_simp [idx t]; rfl)
  have h1 : y 1 = (win0_8.blk t).view.emb y 1 := Fin.ext (by blk_simp [idx t])
  rw [← h0, ← h1]

theorem sample_array (c : Dev nD) : (dats m 0 c).arrAt 9 (cfgs 0).N = fun j => layer 0 (hsA m c) (xsA m c) (woA m c) (gA m c) (upA m c) (downA m c) (j 0) (j 1) := by
  refine (dats m 0 c).arrAt_eq_of_covers 9 _ (by decide +kernel) fun t hf y => ?_
  blk_simp
  rw [after9]
  refine (congrArg (held9 m c) (eq_ix2 y)).trans ((sample_block m c (y 0) (y 1)).trans ?_)
  have h0 : y 0 = (win0_9.blk t).view.emb y 0 := Fin.ext (by blk_simp [idx t])
  have h1 : y 1 = (win0_9.blk t).view.emb y 1 := Fin.ext (by blk_simp [idx t])
  rw [← h0, ← h1]
end Cert.Mlp0Ideal.Body

end
-- ==== Proof.Mlp0Claim.lean ====
module

public import proofs.«01_k».proof.Proof.Mlp0Kernel
public import proofs.«01_k».proof.Proof.Gen.Mlp0RefIdeal.Run
public import proofs.«01_k».proof.Proof.Gen.Mlp0.Launch
public import proofs.«01_k».proof.Defs

@[expose] public section

set_option maxRecDepth 16384

noncomputable section

open Idealize.ShloMosaic Idealize.ShloMosaic.TcCoe Idealize.SL.Sem

namespace Cert.Mlp0RefIdeal.Body

open Cert.Mlp0RefIdeal Cert.Mlp0RefIdeal.Gen Cert.Ffn

variable (m : (ℓ : Loc nD τ sig) → Buf (Elt Ideal) ℓ) (ρ : Dev nD → PrngReg)

section prompt
variable (h x v : FVec Ideal S16384x1024 .f32) (wo : FVec Ideal S1x1024x1024 .f32) (g : FVec Ideal S1024 .f32) (u : FVec Ideal S2x1024 .f32)
  (up : FVec Ideal S2x1024x4096 .f32) (down : FVec Ideal S2x4096x1024 .f32) (r : Fin 16384) (e : Fin 1024) (j : Fin 4096)

/-- the rows with the projected mix added -/
def promptMix : FVec Ideal S16384x1024 .f32 :=
  addf h (Host.dotGeneral dot_S16384x1024_S1024x1024_S16384x1024_1_0_0_1_n_n none x (shapeCast S1024x1024 wo shapeCasts_S1x1024x1024_S1024x1024))
/-- the rows brought to unit mean square and scaled -/
def promptNorm : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0
    (Host.reduceAdd (mulf v v) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
/-- the hidden units before squaring -/
def promptHidden : FVec Ideal S16384x4096 .f32 :=
  maximumf (Host.dotGeneral dot_S16384x1024_S1024x4096_S16384x4096_1_0_0_1_n_n none v (shapeCast S1024x4096 (extractStridedSlice S1x1024x4096 ![0, 0, 0] up slices_S2x1024x4096_S1x1024x4096_0_0_0) shapeCasts_S1x1024x4096_S1024x4096))
    (broadcastInDim S16384x4096 ![] bcast_S_S16384x4096 (constant S_ .f32 0x00000000#32))
/-- the hidden units -/
def promptUnit : FVec Ideal S16384x4096 .f32 := mulf (promptHidden v up) (promptHidden v up)
/-- the layer's scale -/
def promptGain : FVec Ideal S1024 .f32 :=
  shapeCast S1024 (extractStridedSlice S1x1024 ![0, 0] u slices_S2x1024_S1x1024_0_0) shapeCasts_S1x1024_S1024
/-- the layer's rows -/
def promptLayer : FVec Ideal S16384x1024 .f32 :=
  addf (promptMix h x wo) (Host.dotGeneral dot_S16384x4096_S4096x1024_S16384x1024_1_0_0_1_n_n none
    (promptUnit (promptNorm (promptMix h x wo) (promptGain u)) up)
    (shapeCast S4096x1024 (extractStridedSlice S1x4096x1024 ![0, 0, 0] down slices_S2x4096x1024_S1x4096x1024_0_0_0) shapeCasts_S1x4096x1024_S4096x1024))

theorem promptMix_apply : promptMix h x wo (ix2 r e) = mixed (fun k => h (ix2 r k)) (fun k => x (ix2 r k)) (fun k e => wo (ix3 0 k e)) e := by
  pointwise [promptMix, mixed]
theorem promptNorm_apply : promptNorm v g (ix2 r e) = normed (fun k => v (ix2 r k)) (fun k => g (ix1 k)) e := by
  pointwise [promptNorm, normed]
theorem promptGain_apply : promptGain u (ix1 e) = u (ix2 0 e) := by
  pointwise [promptGain]
theorem promptUnit_apply : promptUnit v up (ix2 r j) = unit (fun k => v (ix2 r k)) (fun k j => up (ix3 0 k j)) j := by
  pointwise [promptUnit, promptHidden, unit]
theorem promptLayer_apply : promptLayer h x wo u up down (ix2 r e) = layer 0 h x wo u up down r e := by
  unfold promptLayer layer ffn
  pointwise
  simp only [promptMix_apply, promptUnit_apply, promptNorm_apply, promptGain_apply]
end prompt

section sample
variable (h x v : FVec Ideal S128x1024 .f32) (wo : FVec Ideal S1x1024x1024 .f32) (g : FVec Ideal S1024 .f32) (u : FVec Ideal S2x1024 .f32)
  (up : FVec Ideal S2x1024x4096 .f32) (down : FVec Ideal S2x4096x1024 .f32) (r : Fin 128) (e : Fin 1024) (j : Fin 4096)

/-- the rows with the projected mix added -/
def sampleMix : FVec Ideal S128x1024 .f32 :=
  addf h (Host.dotGeneral dot_S128x1024_S1024x1024_S128x1024_1_0_0_1_n_n none x (shapeCast S1024x1024 wo shapeCasts_S1x1024x1024_S1024x1024))
/-- the rows brought to unit mean square and scaled -/
def sampleNorm : FVec Ideal S128x1024 .f32 :=
  mulf (mulf v (broadcastInDim S128x1024 ![0, 1] bcast_S128x1_S128x1024_0_1 (Host.rsqrt (addf (Host.divf (broadcastInDim S128x1 ![0] bcast_S128_S128x1_0
    (Host.reduceAdd (mulf v v) (constant S_ .f32 0x00000000#32) reducesTo_S128x1024_S128_d1 h_S_)) (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))
/-- the hidden units before squaring -/
def sampleHidden : FVec Ideal S128x4096 .f32 :=
  maximumf (Host.dotGeneral dot_S128x1024_S1024x4096_S128x4096_1_0_0_1_n_n none v (shapeCast S1024x4096 (extractStridedSlice S1x1024x4096 ![0, 0, 0] up slices_S2x1024x4096_S1x1024x4096_0_0_0) shapeCasts_S1x1024x4096_S1024x4096))
    (broadcastInDim S128x4096 ![] bcast_S_S128x4096 (constant S_ .f32 0x00000000#32))
/-- the hidden units -/
def sampleUnit : FVec Ideal S128x4096 .f32 := mulf (sampleHidden v up) (sampleHidden v up)
/-- the layer's scale -/
def sampleGain : FVec Ideal S1024 .f32 :=
  shapeCast S1024 (extractStridedSlice S1x1024 ![0, 0] u slices_S2x1024_S1x1024_0_0) shapeCasts_S1x1024_S1024
/-- the layer's rows -/
def sampleLayer : FVec Ideal S128x1024 .f32 :=
  addf (sampleMix h x wo) (Host.dotGeneral dot_S128x4096_S4096x1024_S128x1024_1_0_0_1_n_n none
    (sampleUnit (sampleNorm (sampleMix h x wo) (sampleGain u)) up)
    (shapeCast S4096x1024 (extractStridedSlice S1x4096x1024 ![0, 0, 0] down slices_S2x4096x1024_S1x4096x1024_0_0_0) shapeCasts_S1x4096x1024_S4096x1024))

theorem sampleMix_apply : sampleMix h x wo (ix2 r e) = mixed (fun k => h (ix2 r k)) (fun k => x (ix2 r k)) (fun k e => wo (ix3 0 k e)) e := by
  pointwise [sampleMix, mixed]
theorem sampleNorm_apply : sampleNorm v g (ix2 r e) = normed (fun k => v (ix2 r k)) (fun k => g (ix1 k)) e := by
  pointwise [sampleNorm, normed]
theorem sampleGain_apply : sampleGain u (ix1 e) = u (ix2 0 e) := by
  pointwise [sampleGain]
theorem sampleUnit_apply : sampleUnit v up (ix2 r j) = unit (fun k => v (ix2 r k)) (fun k j => up (ix3 0 k j)) j := by
  pointwise [sampleUnit, sampleHidden, unit]
theorem sampleLayer_apply : sampleLayer h x wo u up down (ix2 r e) = layer 0 h x wo u up down r e := by
  unfold sampleLayer layer ffn
  pointwise
  simp only [sampleMix_apply, sampleUnit_apply, sampleNorm_apply, sampleGain_apply]
end sample

/-- the reference's two arrays are the layer's rows -/
theorem run_layer : θ_run defs (onTc (τ := τ) (main (F := Ideal))) ⟨m, fun _ => 0, ρ⟩ (fun r => ∀ c : Dev nD,
      r.2.mem ((c.tc : Thread nD τ).loc main_v27) = (fun j => layer 0 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (j 0) (j 1) : FVec Ideal S16384x1024 .f32)
      ∧ r.2.mem ((c.tc : Thread nD τ).loc main_v54) = (fun j => layer 0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) (j 1) : FVec Ideal S128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono (fun r h c => ⟨(h c).1.trans ?_, (h c).2.1.trans ?_, (h c).2.2⟩) (Value.run m ρ)
  · refine Eq.trans (b := promptLayer (m ((c : Thread nD τ).loc main_arg0)) (extf .f32 (m ((c : Thread nD τ).loc main_arg1)) bitsLt_bf16_f32) (m ((c : Thread nD τ).loc main_arg4)) (m ((c : Thread nD τ).loc main_arg5)) (m ((c : Thread nD τ).loc main_arg6)) (m ((c : Thread nD τ).loc main_arg7))) rfl (funext fun j => ?_)
    refine (congrArg _ (eq_ix2 j)).trans ?_
    exact promptLayer_apply _ _ _ _ _ _ (j 0) (j 1)
  · refine Eq.trans (b := sampleLayer (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) rfl (funext fun j => ?_)
    refine (congrArg _ (eq_ix2 j)).trans ?_
    exact sampleLayer_apply _ _ _ _ _ _ (j 0) (j 1)
end Cert.Mlp0RefIdeal.Body

namespace Cert.Mlp0Claim

open Cert.Ffn

theorem frame_reference : Cert.quiescent_Mlp0RefIdeal := fun m g _ =>
  (θ_run Cert.Mlp0RefIdeal.defs _ _).mono (fun r h => ⟨fun c => (h c).2.2, sem_eq_zero_of_no_sems (by decide) r.2⟩) (Cert.Mlp0RefIdeal.Body.run_layer m g)

/-- the program and its idealization run the same bodies -/
theorem bodies_same {F : FTy → Type} [FloatOps F] : Cert.Mlp0.defs₀ (F := F) = Cert.Mlp0Ideal.defs₀ (F := F) := by
  unfold Cert.Mlp0.defs₀ Cert.Mlp0Ideal.defs₀
  refine congrArg Defs.onTc (funext fun l => funext fun a => ?_)
  match l, a with
  | 0, (t, s) => rfl
  | ⟨_ + 1, h⟩, _ => exact absurd h (Nat.not_lt.2 (Nat.le_add_left _ _))
theorem defs_same {F : FTy → Type} [FloatOps F] : Cert.Mlp0.defs (F := F) = Cert.Mlp0Ideal.defs (F := F) := congrArg (Pipeline.defs Cert.Mlp0.pcfgs) bodies_same

theorem frame_kernel : Cert.quiescent_Mlp0 := fun m g _ => by
  have h := Cert.Mlp0Ideal.Body.frame (F := Bits) m g
  rw [← defs_same] at h
  exact h

open Cert.Mlp0Ideal Cert.Mlp0Ideal.Gen Cert.Mlp0Ideal.Body in
theorem claim : Cert.algebraic_Mlp0Ideal_Mlp0RefIdeal := by
  intro m g m' g' hpre hag
  refine ⟨fun c => (dats m 0 c).arrAt 8 (cfgs 0).N, fun c => (dats m 0 c).arrAt 9 (cfgs 0).N,
    (θ_run _ _ _).mono (fun r h c => ⟨(h.1 c).1 8, (h.1 c).1 9, h.2 c⟩) (θ_run_and (run_main m g) (unchanged m g)),
    (θ_run _ _ _).mono (fun r h c => ?_) (Cert.Mlp0RefIdeal.Body.run_layer m' g')⟩
  obtain ⟨a0, a1, a2, a3, a4, a5, a6, a7⟩ := hag c
  obtain ⟨s0, s1, keep⟩ := h c
  refine ⟨s0.trans (Eq.trans ?_ (prompt_array m c).symm), s1.trans (Eq.trans ?_ (sample_array m c).symm), keep⟩
  · rw [a0, a1, a4, a5, a6, a7]; rfl
  · rw [a2, a3, a4, a5, a6, a7]; rfl
end Cert.Mlp0Claim

end
-- ==== Proof.Mlp1First.lean ====
module

public import proofs.«01_k».proof.Proof.Gen.Mlp1Ideal.Frame
public import proofs.«01_k».proof.Proof.Gen.Mlp1Ideal.Skeleton

@[expose] public section

set_option maxRecDepth 16384

noncomputable section

namespace Cert.Mlp1Ideal.Body

open Cert.Mlp1Ideal Cert.Mlp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at the first grid point, where the sample group is computed as well. -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024x4096 .bf16) (harg7 : arg7.IsWhole)
  (arg8 : Memref sig .tc .vmem S1x4096x1024 .bf16) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S128x1024 .f32) (harg11 : arg11.IsWhole)

set_option maxHeartbeats 1000000 in
/-- The stores each output ends with at the first point, found by running the body on any staging buffers. -/
noncomputable def runA (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) :
    Σ' (L9 : List (View.Piece (Elt F) S512x1024 .f32)), { L10 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11) K } := by
  refine ⟨?_, ?_, fun E K => ?exec⟩
  case exec =>
    simp only [cc0_out_mlp_eq_skeleton]; unfold cc0_out_mlp_skel
    simp only [k0_part3_eq_skeleton, k0_part4_eq_skeleton, k0_part1_eq_skeleton, k0_part2_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5; obtain rfl := harg7.eq_unread e6; obtain rfl := harg8.eq_unread e7; obtain rfl := harg9.eq_unread e8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact H10

/-! Every cell of an output's block is stored. -/

theorem coverA9 (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) (y : S512x1024.Idx) :
    ∃ pc ∈ (runA c i arg1 harg1 arg2 harg2 arg3 harg3 arg4 harg4 arg5 harg5 arg6 harg6 arg7 harg7 arg8 harg8 arg9 harg9 arg10 harg10 arg11 harg11 hc x0 x1 x2 x3 x4 x5 x6 x7 x8).1, y ∈ pc.1.set :=
  View.cover_of_tiledL (runA c i arg1 harg1 arg2 harg2 arg3 harg3 arg4 harg4 arg5 harg5 arg6 harg6 arg7 harg7 arg8 harg8 arg9 harg9 arg10 harg10 arg11 harg11 hc x0 x1 x2 x3 x4 x5 x6 x7 x8).1 S512x1024.size (by sl_kernel_rfl) y

theorem coverA10 (hc : k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) (y : S128x1024.Idx) :
    ∃ pc ∈ (runA c i arg1 harg1 arg2 harg2 arg3 harg3 arg4 harg4 arg5 harg5 arg6 harg6 arg7 harg7 arg8 harg8 arg9 harg9 arg10 harg10 arg11 harg11 hc x0 x1 x2 x3 x4 x5 x6 x7 x8).2.1, y ∈ pc.1.set :=
  View.cover_of_tiledL (runA c i arg1 harg1 arg2 harg2 arg3 harg3 arg4 harg4 arg5 harg5 arg6 harg6 arg7 harg7 arg8 harg8 arg9 harg9 arg10 harg10 arg11 harg11 hc x0 x1 x2 x3 x4 x5 x6 x7 x8).2.1 S128x1024.size (by sl_kernel_rfl) y

end

end Cert.Mlp1Ideal.Body

end
-- ==== Proof.Mlp1Later.lean ====
module

public import proofs.«01_k».proof.Proof.Mlp1First

@[expose] public section

set_option maxRecDepth 16384

noncomputable section

namespace Cert.Mlp1Ideal.Body

open Cert.Mlp1Ideal Cert.Mlp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at a later grid point, where the body leaves the sample outputs alone. -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024x4096 .bf16) (harg7 : arg7.IsWhole)
  (arg8 : Memref sig .tc .vmem S1x4096x1024 .bf16) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S128x1024 .f32) (harg11 : arg11.IsWhole)

set_option maxHeartbeats 1000000 in
/-- The stores each prompt output ends with at a later point; the sample outputs are not touched. -/
noncomputable def runB (hc : ¬k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) :
    { L9 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11) K } := by
  refine ⟨?_, fun E K => ?exec⟩
  case exec =>
    simp only [cc0_out_mlp_eq_skeleton]; unfold cc0_out_mlp_skel
    simp only [k0_part3_eq_skeleton, k0_part4_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5; obtain rfl := harg7.eq_unread e6; obtain rfl := harg8.eq_unread e7; obtain rfl := harg9.eq_unread e8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

/-! Every cell of an output's block is stored. -/

theorem coverB9 (hc : ¬k0_cond1 i = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) (y : S512x1024.Idx) :
    ∃ pc ∈ (runB c i arg1 harg1 arg2 harg2 arg3 harg3 arg4 harg4 arg5 harg5 arg6 harg6 arg7 harg7 arg8 harg8 arg9 harg9 arg10 harg10 arg11 harg11 hc x0 x1 x2 x3 x4 x5 x6 x7 x8).1, y ∈ pc.1.set :=
  View.cover_of_tiledL (runB c i arg1 harg1 arg2 harg2 arg3 harg3 arg4 harg4 arg5 harg5 arg6 harg6 arg7 harg7 arg8 harg8 arg9 harg9 arg10 harg10 arg11 harg11 hc x0 x1 x2 x3 x4 x5 x6 x7 x8).1 S512x1024.size (by sl_kernel_rfl) y

end

end Cert.Mlp1Ideal.Body

end
-- ==== Proof.Mlp1Frame.lean ====
module

public import proofs.«01_k».proof.Proof.Mlp1Later
public import proofs.«01_k».proof.Proof.Held
public import Idealize.ShloMosaic.Lib.Claim

@[expose] public section

set_option maxRecDepth 16384

noncomputable section

namespace Cert.Mlp1Ideal.Body

open Cert.Mlp1Ideal Cert.Mlp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffer of each window at a point, and one fixed buffer per output to read contents through. -/

abbrev ms0 (t : Fin cfg0.N) : Memref sig .tc .vmem S512x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S128x1024 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1024x4096 .bf16 := win0_6.stage (cfg0.slots t 6)
theorem hs6 (t : Fin cfg0.N) : (ms6 t).IsWhole := hstage0_6 ((cfg0.slots t 6).cast nbuf0_6)
abbrev ms7 (t : Fin cfg0.N) : Memref sig .tc .vmem S1x4096x1024 .bf16 := win0_7.stage (cfg0.slots t 7)
theorem hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S512x1024 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S128x1024 .f32 := win0_10.stage (cfg0.slots t 10)
theorem hs10 (t : Fin cfg0.N) : (ms10 t).IsWhole := hstage0_10 ((cfg0.slots t 10).cast nbuf0_10)
abbrev vo9 : View sig .tc .vmem S512x1024 .f32 := (Memref.whole cc0_stg9_0 : Memref sig .tc .vmem S512x1024 .f32).view
abbrev vo10 : View sig .tc .vmem S128x1024 .f32 := (Memref.whole cc0_stg10_0 : Memref sig .tc .vmem S128x1024 .f32).view

/-- the grid point that computes the sample group -/
def first : Fin cfg0.N := ⟨0, by decide⟩

/-- the body's condition holds at the first point only -/
theorem cond_iff : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    rw [show t.val = 0 ↔ t.val % 32 = 0 by omega]
    simp only [k0_cond1, e0]
    word_cmp
   : ∀ t : Fin grid0.N, k0_cond1 (grid0.coords t) = 1#1 ↔ t.val = 0)

theorem cond_first : k0_cond1 (grid0.coords first) = 1#1 := (cond_iff first).mpr rfl

/-! What an output's block holds after a point, from the input blocks. -/

section
variable (c : Dev nD) (t : Fin cfg0.N)
def blkA9 (hc : k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) : Vec F S512x1024 .f32 :=
  View.read (Elt F) vo9 (vo9.writes (Elt F) vo9.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) hc x0 x1 x2 x3 x4 x5 x6 x7 x8).1)
def blkA10 (hc : k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) : Vec F S128x1024 .f32 :=
  View.read (Elt F) vo10 (vo10.writes (Elt F) vo10.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) hc x0 x1 x2 x3 x4 x5 x6 x7 x8).2.1)
def blkB9 (hc : ¬k0_cond1 (grid0.coords t) = 1#1) (x0 : Vec F S512x1024 .f32) (x1 : Vec F S512x1024 .bf16) (x2 : Vec F S128x1024 .f32) (x3 : Vec F S128x1024 .f32) (x4 : Vec F S1024x1024 .bf16) (x5 : Vec F S1x1024 .f32) (x6 : Vec F S1x1024x4096 .bf16) (x7 : Vec F S1x4096x1024 .bf16) (x8 : Vec F S1x1024 .f32) : Vec F S512x1024 .f32 :=
  View.read (Elt F) vo9 (vo9.writes (Elt F) vo9.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) hc x0 x1 x2 x3 x4 x5 x6 x7 x8).1)
/-- output 9 after point `t` -/
def held9 : Vec F S512x1024 .f32 :=
  if h : k0_cond1 (grid0.coords t) = 1#1 then blkA9 c t h (iblk m c 0 t) (iblk m c 1 t) (iblk m c 2 t) (iblk m c 3 t) (iblk m c 4 t) (iblk m c 5 t) (iblk m c 6 t) (iblk m c 7 t) (iblk m c 8 t) else blkB9 c t h (iblk m c 0 t) (iblk m c 1 t) (iblk m c 2 t) (iblk m c 3 t) (iblk m c 4 t) (iblk m c 5 t) (iblk m c 6 t) (iblk m c 7 t) (iblk m c 8 t)
theorem held9_A (h : k0_cond1 (grid0.coords t) = 1#1) : held9 m c t = blkA9 c t h (iblk m c 0 t) (iblk m c 1 t) (iblk m c 2 t) (iblk m c 3 t) (iblk m c 4 t) (iblk m c 5 t) (iblk m c 6 t) (iblk m c 7 t) (iblk m c 8 t) := dif_pos h
theorem held9_B (h : ¬k0_cond1 (grid0.coords t) = 1#1) : held9 m c t = blkB9 c t h (iblk m c 0 t) (iblk m c 1 t) (iblk m c 2 t) (iblk m c 3 t) (iblk m c 4 t) (iblk m c 5 t) (iblk m c 6 t) (iblk m c 7 t) (iblk m c 8 t) := dif_neg h
/-- output 10, computed at the first point and kept -/
def held10 : Vec F S128x1024 .f32 := blkA10 c first cond_first (iblk m c 0 first) (iblk m c 1 first) (iblk m c 2 first) (iblk m c 3 first) (iblk m c 4 first) (iblk m c 5 first) (iblk m c 6 first) (iblk m c 7 first) (iblk m c 8 first)
end

/-! The pipeline's proof data. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => held9 m c t
    | ⟨10, _⟩ => held10 m c
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = held9 m c t := by dsimp only [dats]
theorem after10 (c : Dev nD) (t : Fin cfg0.N) : (dats m 0 c).after 10 t = held10 m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! A sample output is idle from the second point on and written back at the last. -/

theorem fresh10 : ∀ t : Fin cfg0.N, cfg0.idle 10 (grid0.coords t) = (t.val != 0) ∧ (t.val = 31 ∨ (cfg0.win 10).flush t = false) := by decide +kernel
theorem before10 (c : Dev nD) (t : Fin cfg0.N) (h : t.val ≠ 0) (d) : (dats m 0 c).before 10 t d = held10 m c :=
  (Pipeline.before_kept (dats m 0 c) 10 rfl (fun _ _ => rfl) (held10 m c) (after10 m c) 31 N_0 (fun t => (fresh10 t).1) (fun t => (fresh10 t).2) t h d)

/-! The body's obligation. -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  rw [Pipeline.leaves_live (dats m 0 c) 0 t rfl, after0]
  rw [Pipeline.leaves_live (dats m 0 c) 1 t rfl, after1]
  rw [Pipeline.leaves_live (dats m 0 c) 2 t rfl, after2]
  rw [Pipeline.leaves_live (dats m 0 c) 3 t rfl, after3]
  rw [Pipeline.leaves_live (dats m 0 c) 4 t rfl, after4]
  rw [Pipeline.leaves_live (dats m 0 c) 5 t rfl, after5]
  rw [Pipeline.leaves_live (dats m 0 c) 6 t rfl, after6]
  rw [Pipeline.leaves_live (dats m 0 c) 7 t rfl, after7]
  rw [Pipeline.leaves_live (dats m 0 c) 8 t rfl, after8]
  rw [Pipeline.leaves_live (dats m 0 c) 9 t rfl, after9]
  by_cases hc : k0_cond1 (grid0.coords t) = 1#1
  · obtain rfl : t = first := Fin.ext ((cond_iff t).mp hc)
    rw [Pipeline.leaves_live (dats m 0 c) 10 first (fresh10 first).1, after10]
    rw [held9_A m c first hc]
    unfold blkA9 held10 blkA10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords first) _ _ _ _ _ _ _ _ _ _ _ _ _ _ _ _ _ _ _ _ _ _ hc (iblk m c 0 first) (iblk m c 1 first) (iblk m c 2 first) (iblk m c 3 first) (iblk m c 4 first) (iblk m c 5 first) (iblk m c 6 first) (iblk m c 7 first) (iblk m c 8 first)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverA9 c _ _ _ _ _ _ _ _ _ _ _ _ _ _ _ _ _ _ _ _ _ _ _ hc _ _ _ _ _ _ _ _ _ )
    unfold owns; iexists _; isplitr
    swap; · iexact H10
    ipureintro; exact View.read_writes_of_cover _ _ _ _ _ (coverA10 c _ _ _ _ _ _ _ _ _ _ _ _ _ _ _ _ _ _ _ _ _ _ _ hc _ _ _ _ _ _ _ _ _ )
  · have h0 : t.val ≠ 0 := fun h => hc ((cond_iff t).mpr h)
    simp only [before10 m c t h0]
    rw [held9_B m c t hc]
    unfold blkB9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverB9 c _ _ _ _ _ _ _ _ _ _ _ _ _ _ _ _ _ _ _ _ _ _ _ hc _ _ _ _ _ _ _ _ _ )
    iapply (Pipeline.leaves_kept (dats m 0 c) 10 t (held10 m c) (after10 m c t) (before10 m c t h0) d10)
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Mlp1Ideal.Body

end
-- ==== Proof.Mlp1Blocks.lean ====
module

public import proofs.«01_k».proof.Proof.Mlp1Frame
public import proofs.«01_k».proof.Proof.FfnTerms

@[expose] public section

set_option maxRecDepth 16384

noncomputable section

open Idealize.ShloMosaic Idealize.ShloMosaic.TcCoe Idealize.SL.Sem

namespace Cert.Mlp1Ideal.Body

open Cert.Mlp1Ideal Cert.Mlp1Ideal.Gen Cert.Ffn

/-- the block of the first weights that begins at column `o` -/
abbrev upAt (o : ℕ) (h : ∀ a, ![0, 0, o] a + S1x1024x1024.size a ≤ S1x1024x4096.size a) (x : FVec Ideal S1x1024x4096 .bf16) : FVec Ideal S1x1024x1024 .bf16 :=
  View.ld (Val := Elt Ideal) (e' := .bf16) x (Rect.unit (s := S1x1024x4096) ![0, 0, o] ![1, 1024, 1024] h)
/-- the block of the second weights that begins at row `o` -/
abbrev downAt (o : ℕ) (h : ∀ a, ![0, o, 0] a + S1x1024x1024.size a ≤ S1x4096x1024.size a) (x : FVec Ideal S1x4096x1024 .bf16) : FVec Ideal S1x1024x1024 .bf16 :=
  View.ld (Val := Elt Ideal) (e' := .bf16) x (Rect.unit (s := S1x4096x1024) ![0, o, 0] ![1, 1024, 1024] h)

section prompt
variable (x0 : FVec Ideal S512x1024 .f32) (x1 : FVec Ideal S512x1024 .bf16) (x4 : FVec Ideal S1024x1024 .bf16) (x5 : FVec Ideal S1x1024 .f32)
  (x6 : FVec Ideal S1x1024x4096 .bf16) (x7 : FVec Ideal S1x4096x1024 .bf16) (r : Fin 512) (e : Fin 1024)

theorem prompt_mixed : k0_pay10 (F := Ideal) x0 x1 x4 (ix2 r e) = mixed (fun k => x0 (ix2 r k)) (fun k => x1 (ix2 r k)) (fun k e => x4 (ix2 k e)) e := by
  pointwise [k0_pay10, mixed]

theorem prompt_normed : k0_pay11 (F := Ideal) x0 x1 x4 x5 (ix2 r e)
    = normed (mixed (fun k => x0 (ix2 r k)) (fun k => x1 (ix2 r k)) (fun k e => x4 (ix2 k e))) (fun k => x5 (ix2 0 k)) e := by
  pointwise [k0_pay11, normed]
  simp only [prompt_mixed]

/-- a block of rows after the feed-forward part, the hidden layer taken in four bands -/
def promptFfn : FVec Ideal S512x1024 .f32 :=
  k0_pay14 (k0_pay11 x0 x1 x4 x5) (k0_pay12 x0 x1 x4 x5 (upAt 0 inb_S1x1024x4096_S1x1024x1024_0_0_0 x6) (downAt 0 inb_S1x4096x1024_S1x1024x1024_0_0_0 x7))
    (k0_pay13 (upAt 1024 inb_S1x1024x4096_S1x1024x1024_0_0_1024 x6)) (constant S512x1024 .f32 0#32)
    (downAt 1024 inb_S1x4096x1024_S1x1024x1024_0_1024_0 x7) (upAt 2048 inb_S1x1024x4096_S1x1024x1024_0_0_2048 x6)
    (downAt 2048 inb_S1x4096x1024_S1x1024x1024_0_2048_0 x7) (upAt 3072 inb_S1x1024x4096_S1x1024x1024_0_0_3072 x6)
    (downAt 3072 inb_S1x4096x1024_S1x1024x1024_0_3072_0 x7)

set_option backward.isDefEq.respectTransparency false in
theorem promptFfn_apply : promptFfn x0 x1 x4 x5 x6 x7 (ix2 r e)
    = ffn (fun k => x0 (ix2 r k)) (fun k => x1 (ix2 r k)) (fun k e => x4 (ix2 k e)) (fun k => x5 (ix2 0 k)) (fun k j => x6 (ix3 0 k j))
        (fun j e => x7 (ix3 0 j e)) e := by
  rw [← ffn_eq]
  unfold promptFfn upAt downAt
  pointwise [k0_pay14, k0_pay13, k0_pay12, part, unit, band]
  simp only [prompt_mixed, prompt_normed]

theorem prompt_final (v w : FVec Ideal S512x1024 .f32) (u : FVec Ideal S1x1024 .f32) (h : w = mulf v v) :
    k0_pay1 v u w (ix2 r e) = normed (fun k => v (ix2 r k)) (fun k => u (ix2 0 k)) e := by
  subst h
  pointwise [k0_pay1, normed]
end prompt

section sample
variable (x2 : FVec Ideal S128x1024 .f32) (x3 : FVec Ideal S128x1024 .f32) (x4 : FVec Ideal S1024x1024 .bf16) (x5 : FVec Ideal S1x1024 .f32)
  (x6 : FVec Ideal S1x1024x4096 .bf16) (x7 : FVec Ideal S1x4096x1024 .bf16) (r : Fin 128) (e : Fin 1024)

theorem sample_mixed : k0_pay3 (F := Ideal) x2 x3 x4 (ix2 r e) = mixed (fun k => x2 (ix2 r k)) (fun k => x3 (ix2 r k)) (fun k e => x4 (ix2 k e)) e := by
  pointwise [k0_pay3, mixed]

theorem sample_normed : k0_pay4 (F := Ideal) x2 x3 x4 x5 (ix2 r e)
    = normed (mixed (fun k => x2 (ix2 r k)) (fun k => x3 (ix2 r k)) (fun k e => x4 (ix2 k e))) (fun k => x5 (ix2 0 k)) e := by
  pointwise [k0_pay4, normed]
  simp only [sample_mixed]

/-- a block of rows after the feed-forward part, the hidden layer taken in four bands -/
def sampleFfn : FVec Ideal S128x1024 .f32 :=
  k0_pay7 (k0_pay4 x2 x3 x4 x5) (k0_pay5 x2 x3 x4 x5 (upAt 0 inb_S1x1024x4096_S1x1024x1024_0_0_0 x6) (downAt 0 inb_S1x4096x1024_S1x1024x1024_0_0_0 x7))
    (k0_pay6 (upAt 1024 inb_S1x1024x4096_S1x1024x1024_0_0_1024 x6)) (constant S128x1024 .f32 0#32)
    (downAt 1024 inb_S1x4096x1024_S1x1024x1024_0_1024_0 x7) (upAt 2048 inb_S1x1024x4096_S1x1024x1024_0_0_2048 x6)
    (downAt 2048 inb_S1x4096x1024_S1x1024x1024_0_2048_0 x7) (upAt 3072 inb_S1x1024x4096_S1x1024x1024_0_0_3072 x6)
    (downAt 3072 inb_S1x4096x1024_S1x1024x1024_0_3072_0 x7)

set_option backward.isDefEq.respectTransparency false in
theorem sampleFfn_apply : sampleFfn x2 x3 x4 x5 x6 x7 (ix2 r e)
    = ffn (fun k => x2 (ix2 r k)) (fun k => x3 (ix2 r k)) (fun k e => x4 (ix2 k e)) (fun k => x5 (ix2 0 k)) (fun k j => x6 (ix3 0 k j))
        (fun j e => x7 (ix3 0 j e)) e := by
  rw [← ffn_eq]
  unfold sampleFfn upAt downAt
  pointwise [k0_pay7, k0_pay6, k0_pay5, part, unit, band]
  simp only [sample_mixed, sample_normed]

theorem sample_final (v w : FVec Ideal S128x1024 .f32) (u : FVec Ideal S1x1024 .f32) (h : w = mulf v v) :
    k0_pay2 v u w (ix2 r e) = normed (fun k => v (ix2 r k)) (fun k => u (ix2 0 k)) e := by
  subst h
  pointwise [k0_pay2, normed]
end sample

section
variable (c : Dev nD) (t : Fin cfg0.N)
  (x0 : FVec Ideal S512x1024 .f32) (x1 : FVec Ideal S512x1024 .bf16) (x2 : FVec Ideal S128x1024 .f32) (x3 : FVec Ideal S128x1024 .f32)
  (x4 : FVec Ideal S1024x1024 .bf16) (x5 : FVec Ideal S1x1024 .f32) (x6 : FVec Ideal S1x1024x4096 .bf16) (x7 : FVec Ideal S1x4096x1024 .bf16) (x8 : FVec Ideal S1x1024 .f32)

theorem blkA9_eq (hc) : blkA9 (F := Ideal) c t hc x0 x1 x2 x3 x4 x5 x6 x7 x8 = k0_pay1 (F := Ideal) (promptFfn x0 x1 x4 x5 x6 x7) (k0_pay15 x8) (mulf (promptFfn x0 x1 x4 x5 x6 x7) (promptFfn x0 x1 x4 x5 x6 x7)) := by
  unfold promptFfn upAt downAt
  frame_out
  rfl
theorem blkB9_eq (hc) : blkB9 (F := Ideal) c t hc x0 x1 x2 x3 x4 x5 x6 x7 x8 = k0_pay1 (F := Ideal) (promptFfn x0 x1 x4 x5 x6 x7) (k0_pay15 x8) (mulf (promptFfn x0 x1 x4 x5 x6 x7) (promptFfn x0 x1 x4 x5 x6 x7)) := by
  unfold promptFfn upAt downAt
  frame_out
  rfl
theorem blkA10_eq (hc) : blkA10 (F := Ideal) c t hc x0 x1 x2 x3 x4 x5 x6 x7 x8 = k0_pay2 (F := Ideal) (sampleFfn x2 x3 x4 x5 x6 x7) (k0_pay8 x8) (mulf (sampleFfn x2 x3 x4 x5 x6 x7) (sampleFfn x2 x3 x4 x5 x6 x7)) := by
  unfold sampleFfn upAt downAt
  frame_out
  rfl
end

variable (m : (ℓ : Loc nD τ sig) → Buf (Elt Ideal) ℓ)

theorem held9_eq (c : Dev nD) (t : Fin cfg0.N) : held9 m c t
    = (k0_pay1 (F := Ideal) (promptFfn (iblk m c 0 t) (iblk m c 1 t) (iblk m c 4 t) (iblk m c 5 t) (iblk m c 6 t) (iblk m c 7 t)) (k0_pay15 (iblk m c 8 t)) (mulf (promptFfn (iblk m c 0 t) (iblk m c 1 t) (iblk m c 4 t) (iblk m c 5 t) (iblk m c 6 t) (iblk m c 7 t)) (promptFfn (iblk m c 0 t) (iblk m c 1 t) (iblk m c 4 t) (iblk m c 5 t) (iblk m c 6 t) (iblk m c 7 t))) : FVec Ideal S512x1024 .f32) := by
  by_cases h : k0_cond1 (grid0.coords t) = 1#1
  · rw [held9_A m c t h]; exact blkA9_eq c t _ _ _ _ _ _ _ _ _ h
  · rw [held9_B m c t h]; exact blkB9_eq c t _ _ _ _ _ _ _ _ _ h
theorem held10_eq (c : Dev nD) : held10 m c
    = (k0_pay2 (F := Ideal) (sampleFfn (iblk m c 2 first) (iblk m c 3 first) (iblk m c 4 first) (iblk m c 5 first) (iblk m c 6 first) (iblk m c 7 first)) (k0_pay8 (iblk m c 8 first)) (mulf (sampleFfn (iblk m c 2 first) (iblk m c 3 first) (iblk m c 4 first) (iblk m c 5 first) (iblk m c 6 first) (iblk m c 7 first)) (sampleFfn (iblk m c 2 first) (iblk m c 3 first) (iblk m c 4 first) (iblk m c 5 first) (iblk m c 6 first) (iblk m c 7 first))) : FVec Ideal S128x1024 .f32) :=
  blkA10_eq c first _ _ _ _ _ _ _ _ _ cond_first
end Cert.Mlp1Ideal.Body

end
-- ==== Proof.Mlp1Kernel.lean ====
module

public import proofs.«01_k».proof.Proof.Mlp1Blocks

@[expose] public section

set_option maxRecDepth 16384

noncomputable section

open Idealize.ShloMosaic Idealize.ShloMosaic.TcCoe Idealize.SL.Sem
open Idealize.ShloMosaic.Pipeline (Dat)

namespace Cert.Mlp1Ideal.Body

open Cert.Mlp1Ideal Cert.Mlp1Ideal.Gen Cert.Ffn

variable (m : (ℓ : Loc nD τ sig) → Buf (Elt Ideal) ℓ)

/-- where each window's block lies -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![1, 0, 0] ∧ win0_7.index t = ![1, 0, 0] ∧ win0_8.index t = ![0, 0] ∧ win0_9.index t = ![t.val, 0] ∧ win0_10.index t = ![0, 0] :=
  (by decide +kernel : ∀ t : Fin grid0.N, _)

abbrev hA (c : Dev nD) : FVec Ideal S16384x1024 .f32 := m ((c : Thread nD τ).loc main_arg0)
abbrev xA (c : Dev nD) : FVec Ideal S16384x1024 .bf16 := m ((c : Thread nD τ).loc main_arg1)
abbrev hsA (c : Dev nD) : FVec Ideal S128x1024 .f32 := m ((c : Thread nD τ).loc main_arg2)
abbrev xsA (c : Dev nD) : FVec Ideal S128x1024 .f32 := m ((c : Thread nD τ).loc main_arg3)
abbrev woA (c : Dev nD) : FVec Ideal S1x1024x1024 .f32 := m ((c : Thread nD τ).loc main_arg4)
abbrev gA (c : Dev nD) : FVec Ideal S2x1024 .f32 := m ((c : Thread nD τ).loc main_arg5)
abbrev upA (c : Dev nD) : FVec Ideal S2x1024x4096 .f32 := m ((c : Thread nD τ).loc main_arg6)
abbrev downA (c : Dev nD) : FVec Ideal S2x4096x1024 .f32 := m ((c : Thread nD τ).loc main_arg7)
abbrev gfA (c : Dev nD) : FVec Ideal S1024 .f32 := m ((c : Thread nD τ).loc main_arg8)

/-- row `r` of point `t` in the whole prompt -/
def row (t : Fin cfg0.N) (r : Fin 512) : Fin 16384 := ⟨t.val * 512 + r, by have : t.val < 32 := t.isLt; omega⟩

section Reads
variable (c : Dev nD) (t : Fin cfg0.N)
theorem read0 (r : Fin 512) (k : Fin 1024) : (iblk m c 0 t : FVec Ideal S512x1024 .f32) (ix2 r k) = hA m c (ix2 (row t r) k) := by unfold row; blk_ext [iblk, V, idx t]
theorem read1 (r : Fin 512) (k : Fin 1024) : (iblk m c 1 t : FVec Ideal S512x1024 .bf16) (ix2 r k) = xA m c (ix2 (row t r) k) := by unfold row; blk_ext [iblk, V, idx t]
theorem read2 (r : Fin 128) (k : Fin 1024) : (iblk m c 2 t : FVec Ideal S128x1024 .f32) (ix2 r k) = hsA m c (ix2 r k) := by blk_ext [iblk, V, idx t]
theorem read3 (r : Fin 128) (k : Fin 1024) : (iblk m c 3 t : FVec Ideal S128x1024 .f32) (ix2 r k) = xsA m c (ix2 r k) := by blk_ext [iblk, V, idx t]
theorem read4 (k e : Fin 1024) : (iblk m c 4 t : FVec Ideal S1024x1024 .bf16) (ix2 k e) = woA m c (ix3 0 k e) := by
  refine Eq.trans (b := (V m c main_v1 : FVec Ideal S1024x1024 .bf16) (ix2 k e)) (by blk_ext [iblk, idx t]) ?_
  entry_read
  pointwise
theorem read5 (k : Fin 1024) : (iblk m c 5 t : FVec Ideal S1x1024 .f32) (ix2 0 k) = gA m c (ix2 1 k) := by
  refine Eq.trans (b := (V m c main_v6 : FVec Ideal S1x1024 .f32) (ix2 0 k)) (by blk_ext [iblk, idx t]) ?_
  entry_read
  pointwise
theorem read6 (k : Fin 1024) (j : Fin 4096) : (iblk m c 6 t : FVec Ideal S1x1024x4096 .bf16) (ix3 0 k j) = upA m c (ix3 1 k j) := by
  refine Eq.trans (b := (V m c main_v4 : FVec Ideal S2x1024x4096 .bf16) (ix3 1 k j)) (by blk_ext [iblk, idx t]) ?_
  entry_read
  pointwise
theorem read7 (j : Fin 4096) (e : Fin 1024) : (iblk m c 7 t : FVec Ideal S1x4096x1024 .bf16) (ix3 0 j e) = downA m c (ix3 1 j e) := by
  refine Eq.trans (b := (V m c main_v5 : FVec Ideal S2x4096x1024 .bf16) (ix3 1 j e)) (by blk_ext [iblk, idx t]) ?_
  entry_read
  pointwise
theorem read8 (k : Fin 1024) : (iblk m c 8 t : FVec Ideal S1x1024 .f32) (ix2 0 k) = gfA m c (ix1 k) := by
  refine Eq.trans (b := (V m c main_v7 : FVec Ideal S1x1024 .f32) (ix2 0 k)) (by blk_ext [iblk, idx t]) ?_
  entry_read
  pointwise
end Reads

theorem prompt_block (c : Dev nD) (t : Fin cfg0.N) (r : Fin 512) (e : Fin 1024) :
    held9 m c t (ix2 r e) = normed (layer 1 (hA m c) (xA m c) (woA m c) (gA m c) (upA m c) (downA m c) (row t r)) (fun k => gfA m c (ix1 k)) e := by
  rw [held9_eq]
  refine (prompt_final r e _ _ _ rfl).trans ?_
  unfold k0_pay15
  simp only [shapeCast_self]
  simp only [promptFfn_apply]
  simp only [layer, read0, read1, read4, read5, read6, read7, read8]
theorem sample_block (c : Dev nD) (r : Fin 128) (e : Fin 1024) : held10 m c (ix2 r e) = normed (layer 1 (hsA m c) (xsA m c) (woA m c) (gA m c) (upA m c) (downA m c) r) (fun k => gfA m c (ix1 k)) e := by
  rw [held10_eq]
  refine (sample_final r e _ _ _ rfl).trans ?_
  unfold k0_pay8
  simp only [shapeCast_self]
  simp only [sampleFfn_apply]
  simp only [layer, read2, read3, read4, read5, read6, read7, read8]

theorem prompt_array (c : Dev nD) : (dats m 0 c).arrAt 9 (cfgs 0).N = fun j => normed (layer 1 (hA m c) (xA m c) (woA m c) (gA m c) (upA m c) (downA m c) (j 0)) (fun k => gfA m c (ix1 k)) (j 1) := by
  refine (dats m 0 c).arrAt_eq_of_covers 9 _ (by decide +kernel) fun t hf y => ?_
  blk_simp
  rw [after9]
  refine (congrArg (held9 m c t) (eq_ix2 y)).trans ((prompt_block m c t (y 0) (y 1)).trans ?_)
  have h0 : row t (y 0) = (win0_9.blk t).view.emb y 0 := Fin.ext (by blk_simp [idx t]; rfl)
  have h1 : y 1 = (win0_9.blk t).view.emb y 1 := Fin.ext (by blk_simp [idx t])
  rw [← h0, ← h1]

theorem sample_array (c : Dev nD) : (dats m 0 c).arrAt 10 (cfgs 0).N = fun j => normed (layer 1 (hsA m c) (xsA m c) (woA m c) (gA m c) (upA m c) (downA m c) (j 0)) (fun k => gfA m c (ix1 k)) (j 1) := by
  refine (dats m 0 c).arrAt_eq_of_covers 10 _ (by decide +kernel) fun t hf y => ?_
  blk_simp
  rw [after10]
  refine (congrArg (held10 m c) (eq_ix2 y)).trans ((sample_block m c (y 0) (y 1)).trans ?_)
  have h0 : y 0 = (win0_10.blk t).view.emb y 0 := Fin.ext (by blk_simp [idx t])
  have h1 : y 1 = (win0_10.blk t).view.emb y 1 := Fin.ext (by blk_simp [idx t])
  rw [← h0, ← h1]
end Cert.Mlp1Ideal.Body

end
-- ==== Proof.Mlp1Claim.lean ====
module

public import proofs.«01_k».proof.Proof.Mlp1Kernel
public import proofs.«01_k».proof.Proof.Gen.Mlp1RefIdeal.Run
public import proofs.«01_k».proof.Proof.Gen.Mlp1.Launch
public import proofs.«01_k».proof.Defs

@[expose] public section

set_option maxRecDepth 16384

noncomputable section

open Idealize.ShloMosaic Idealize.ShloMosaic.TcCoe Idealize.SL.Sem

namespace Cert.Mlp1RefIdeal.Body

open Cert.Mlp1RefIdeal Cert.Mlp1RefIdeal.Gen Cert.Ffn

variable (m : (ℓ : Loc nD τ sig) → Buf (Elt Ideal) ℓ) (ρ : Dev nD → PrngReg)

section prompt
variable (h x v : FVec Ideal S16384x1024 .f32) (wo : FVec Ideal S1x1024x1024 .f32) (g : FVec Ideal S1024 .f32) (u : FVec Ideal S2x1024 .f32)
  (up : FVec Ideal S2x1024x4096 .f32) (down : FVec Ideal S2x4096x1024 .f32) (r : Fin 16384) (e : Fin 1024) (j : Fin 4096)

/-- the rows with the projected mix added -/
def promptMix : FVec Ideal S16384x1024 .f32 :=
  addf h (Host.dotGeneral dot_S16384x1024_S1024x1024_S16384x1024_1_0_0_1_n_n none x (shapeCast S1024x1024 wo shapeCasts_S1x1024x1024_S1024x1024))
/-- the rows brought to unit mean square and scaled -/
def promptNorm : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0
    (Host.reduceAdd (mulf v v) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
/-- the hidden units before squaring -/
def promptHidden : FVec Ideal S16384x4096 .f32 :=
  maximumf (Host.dotGeneral dot_S16384x1024_S1024x4096_S16384x4096_1_0_0_1_n_n none v (shapeCast S1024x4096 (extractStridedSlice S1x1024x4096 ![1, 0, 0] up slices_S2x1024x4096_S1x1024x4096_1_0_0) shapeCasts_S1x1024x4096_S1024x4096))
    (broadcastInDim S16384x4096 ![] bcast_S_S16384x4096 (constant S_ .f32 0x00000000#32))
/-- the hidden units -/
def promptUnit : FVec Ideal S16384x4096 .f32 := mulf (promptHidden v up) (promptHidden v up)
/-- the layer's scale -/
def promptGain : FVec Ideal S1024 .f32 :=
  shapeCast S1024 (extractStridedSlice S1x1024 ![1, 0] u slices_S2x1024_S1x1024_1_0) shapeCasts_S1x1024_S1024
/-- the layer's rows -/
def promptLayer : FVec Ideal S16384x1024 .f32 :=
  addf (promptMix h x wo) (Host.dotGeneral dot_S16384x4096_S4096x1024_S16384x1024_1_0_0_1_n_n none
    (promptUnit (promptNorm (promptMix h x wo) (promptGain u)) up)
    (shapeCast S4096x1024 (extractStridedSlice S1x4096x1024 ![1, 0, 0] down slices_S2x4096x1024_S1x4096x1024_1_0_0) shapeCasts_S1x4096x1024_S4096x1024))

theorem promptMix_apply : promptMix h x wo (ix2 r e) = mixed (fun k => h (ix2 r k)) (fun k => x (ix2 r k)) (fun k e => wo (ix3 0 k e)) e := by
  pointwise [promptMix, mixed]
theorem promptNorm_apply : promptNorm v g (ix2 r e) = normed (fun k => v (ix2 r k)) (fun k => g (ix1 k)) e := by
  pointwise [promptNorm, normed]
theorem promptGain_apply : promptGain u (ix1 e) = u (ix2 1 e) := by
  pointwise [promptGain]
theorem promptUnit_apply : promptUnit v up (ix2 r j) = unit (fun k => v (ix2 r k)) (fun k j => up (ix3 1 k j)) j := by
  pointwise [promptUnit, promptHidden, unit]
theorem promptLayer_apply : promptLayer h x wo u up down (ix2 r e) = layer 1 h x wo u up down r e := by
  unfold promptLayer layer ffn
  pointwise
  simp only [promptMix_apply, promptUnit_apply, promptNorm_apply, promptGain_apply]
end prompt

section sample
variable (h x v : FVec Ideal S128x1024 .f32) (wo : FVec Ideal S1x1024x1024 .f32) (g : FVec Ideal S1024 .f32) (u : FVec Ideal S2x1024 .f32)
  (up : FVec Ideal S2x1024x4096 .f32) (down : FVec Ideal S2x4096x1024 .f32) (r : Fin 128) (e : Fin 1024) (j : Fin 4096)

/-- the rows with the projected mix added -/
def sampleMix : FVec Ideal S128x1024 .f32 :=
  addf h (Host.dotGeneral dot_S128x1024_S1024x1024_S128x1024_1_0_0_1_n_n none x (shapeCast S1024x1024 wo shapeCasts_S1x1024x1024_S1024x1024))
/-- the rows brought to unit mean square and scaled -/
def sampleNorm : FVec Ideal S128x1024 .f32 :=
  mulf (mulf v (broadcastInDim S128x1024 ![0, 1] bcast_S128x1_S128x1024_0_1 (Host.rsqrt (addf (Host.divf (broadcastInDim S128x1 ![0] bcast_S128_S128x1_0
    (Host.reduceAdd (mulf v v) (constant S_ .f32 0x00000000#32) reducesTo_S128x1024_S128_d1 h_S_)) (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))
/-- the hidden units before squaring -/
def sampleHidden : FVec Ideal S128x4096 .f32 :=
  maximumf (Host.dotGeneral dot_S128x1024_S1024x4096_S128x4096_1_0_0_1_n_n none v (shapeCast S1024x4096 (extractStridedSlice S1x1024x4096 ![1, 0, 0] up slices_S2x1024x4096_S1x1024x4096_1_0_0) shapeCasts_S1x1024x4096_S1024x4096))
    (broadcastInDim S128x4096 ![] bcast_S_S128x4096 (constant S_ .f32 0x00000000#32))
/-- the hidden units -/
def sampleUnit : FVec Ideal S128x4096 .f32 := mulf (sampleHidden v up) (sampleHidden v up)
/-- the layer's scale -/
def sampleGain : FVec Ideal S1024 .f32 :=
  shapeCast S1024 (extractStridedSlice S1x1024 ![1, 0] u slices_S2x1024_S1x1024_1_0) shapeCasts_S1x1024_S1024
/-- the layer's rows -/
def sampleLayer : FVec Ideal S128x1024 .f32 :=
  addf (sampleMix h x wo) (Host.dotGeneral dot_S128x4096_S4096x1024_S128x1024_1_0_0_1_n_n none
    (sampleUnit (sampleNorm (sampleMix h x wo) (sampleGain u)) up)
    (shapeCast S4096x1024 (extractStridedSlice S1x4096x1024 ![1, 0, 0] down slices_S2x4096x1024_S1x4096x1024_1_0_0) shapeCasts_S1x4096x1024_S4096x1024))

theorem sampleMix_apply : sampleMix h x wo (ix2 r e) = mixed (fun k => h (ix2 r k)) (fun k => x (ix2 r k)) (fun k e => wo (ix3 0 k e)) e := by
  pointwise [sampleMix, mixed]
theorem sampleNorm_apply : sampleNorm v g (ix2 r e) = normed (fun k => v (ix2 r k)) (fun k => g (ix1 k)) e := by
  pointwise [sampleNorm, normed]
theorem sampleGain_apply : sampleGain u (ix1 e) = u (ix2 1 e) := by
  pointwise [sampleGain]
theorem sampleUnit_apply : sampleUnit v up (ix2 r j) = unit (fun k => v (ix2 r k)) (fun k j => up (ix3 1 k j)) j := by
  pointwise [sampleUnit, sampleHidden, unit]
theorem sampleLayer_apply : sampleLayer h x wo u up down (ix2 r e) = layer 1 h x wo u up down r e := by
  unfold sampleLayer layer ffn
  pointwise
  simp only [sampleMix_apply, sampleUnit_apply, sampleNorm_apply, sampleGain_apply]
end sample

/-- the reference's two arrays are the layer's rows -/
theorem run_layer : θ_run defs (onTc (τ := τ) (main (F := Ideal))) ⟨m, fun _ => 0, ρ⟩ (fun r => ∀ c : Dev nD,
      r.2.mem ((c.tc : Thread nD τ).loc main_v40) = (fun j => normed (layer 1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (j 0)) (fun k => m ((c : Thread nD τ).loc main_arg8) (ix1 k)) (j 1) : FVec Ideal S16384x1024 .f32)
      ∧ r.2.mem ((c.tc : Thread nD τ).loc main_v80) = (fun j => normed (layer 1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0)) (fun k => m ((c : Thread nD τ).loc main_arg8) (ix1 k)) (j 1) : FVec Ideal S128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ⟨(h c).1.trans ?_, (h c).2.1.trans ?_, (h c).2.2⟩) (Value.run m ρ)
  · refine Eq.trans (b := promptNorm (promptLayer (m ((c : Thread nD τ).loc main_arg0)) (extf .f32 (m ((c : Thread nD τ).loc main_arg1)) bitsLt_bf16_f32) (m ((c : Thread nD τ).loc main_arg4)) (m ((c : Thread nD τ).loc main_arg5)) (m ((c : Thread nD τ).loc main_arg6)) (m ((c : Thread nD τ).loc main_arg7))) (m ((c : Thread nD τ).loc main_arg8))) rfl (funext fun j => ?_)
    refine (congrArg _ (eq_ix2 j)).trans ?_
    exact (promptNorm_apply _ _ (j 0) (j 1)).trans (congrArg (fun f => normed f _ (j 1)) (funext fun k => promptLayer_apply _ _ _ _ _ _ (j 0) k))
  · refine Eq.trans (b := sampleNorm (sampleLayer (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) rfl (funext fun j => ?_)
    refine (congrArg _ (eq_ix2 j)).trans ?_
    exact (sampleNorm_apply _ _ (j 0) (j 1)).trans (congrArg (fun f => normed f _ (j 1)) (funext fun k => sampleLayer_apply _ _ _ _ _ _ (j 0) k))
end Cert.Mlp1RefIdeal.Body

namespace Cert.Mlp1Claim

open Cert.Ffn

theorem frame_reference : Cert.quiescent_Mlp1RefIdeal := fun m g _ =>
  (θ_run Cert.Mlp1RefIdeal.defs _ _).mono (fun r h => ⟨fun c => (h c).2.2, sem_eq_zero_of_no_sems (by decide) r.2⟩) (Cert.Mlp1RefIdeal.Body.run_layer m g)

/-- the program and its idealization run the same bodies -/
theorem bodies_same {F : FTy → Type} [FloatOps F] : Cert.Mlp1.defs₀ (F := F) = Cert.Mlp1Ideal.defs₀ (F := F) := by
  unfold Cert.Mlp1.defs₀ Cert.Mlp1Ideal.defs₀
  refine congrArg Defs.onTc (funext fun l => funext fun a => ?_)
  match l, a with
  | 0, (t, s) => rfl
  | ⟨_ + 1, h⟩, _ => exact absurd h (Nat.not_lt.2 (Nat.le_add_left _ _))
theorem defs_same {F : FTy → Type} [FloatOps F] : Cert.Mlp1.defs (F := F) = Cert.Mlp1Ideal.defs (F := F) := congrArg (Pipeline.defs Cert.Mlp1.pcfgs) bodies_same

theorem frame_kernel : Cert.quiescent_Mlp1 := fun m g _ => by
  have h := Cert.Mlp1Ideal.Body.frame (F := Bits) m g
  rw [← defs_same] at h
  exact h

open Cert.Mlp1Ideal Cert.Mlp1Ideal.Gen Cert.Mlp1Ideal.Body in
theorem claim : Cert.algebraic_Mlp1Ideal_Mlp1RefIdeal := by
  intro m g m' g' hpre hag
  refine ⟨fun c => (dats m 0 c).arrAt 9 (cfgs 0).N, fun c => (dats m 0 c).arrAt 10 (cfgs 0).N,
    (θ_run _ _ _).mono (fun r h c => ⟨(h.1 c).1 9, (h.1 c).1 10, h.2 c⟩) (θ_run_and (run_main m g) (unchanged m g)),
    (θ_run _ _ _).mono (fun r h c => ?_) (Cert.Mlp1RefIdeal.Body.run_layer m' g')⟩
  obtain ⟨a0, a1, a2, a3, a4, a5, a6, a7, a8⟩ := hag c
  obtain ⟨s0, s1, keep⟩ := h c
  refine ⟨s0.trans (Eq.trans ?_ (prompt_array m c).symm), s1.trans (Eq.trans ?_ (sample_array m c).symm), keep⟩
  · rw [a0, a1, a4, a5, a6, a7, a8]; rfl
  · rw [a2, a3, a4, a5, a6, a7, a8]; rfl
end Cert.Mlp1Claim

end
-- ==== Proof.ProjFirst.lean ====
module

public import proofs.«01_k».proof.Proof.Gen.ProjIdeal.Frame
public import proofs.«01_k».proof.Proof.Gen.ProjIdeal.Skeleton

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at the first grid point, where the sample group is computed as well. -/

section
variable (c : Dev nD) (i : grid0.Coords)
  (arg1 : Memref sig .tc .vmem S512x1024 .f32) (harg1 : arg1.IsWhole)
  (arg2 : Memref sig .tc .vmem S128x1024 .f32) (harg2 : arg2.IsWhole)
  (arg3 : Memref sig .tc .vmem S1x1024 .f32) (harg3 : arg3.IsWhole)
  (arg4 : Memref sig .tc .vmem S1024x3080 .bf16) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x128 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .f32) (harg11 : arg11.IsWhole)
  (arg12 : Memref sig .tc .vmem S128x128 .f32) (harg12 : arg12.IsWhole)

set_option maxHeartbeats 1000000 in
/-- The stores each output ends with at the first point, found by running the body on any staging buffers. -/
noncomputable def runA (hc : k0_cond1 i = 1#1) (x0 : Vec F S512x1024 .f32) (x1 : Vec F S128x1024 .f32) (x2 : Vec F S1x1024 .f32) (x3 : Vec F S1024x3080 .bf16) :
    Σ' (L4 : List (View.Piece (Elt F) S512x1024 .f32)), Σ' (L5 : List (View.Piece (Elt F) S512x1024 .f32)), Σ' (L6 : List (View.Piece (Elt F) S512x1024 .f32)), Σ' (L7 : List (View.Piece (Elt F) S512x128 .f32)), Σ' (L8 : List (View.Piece (Elt F) S128x1024 .f32)), Σ' (L9 : List (View.Piece (Elt F) S128x1024 .f32)), Σ' (L10 : List (View.Piece (Elt F) S128x1024 .f32)), { L11 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_norm_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?exec⟩
  case exec =>
    simp only [cc0_norm_proj_eq_skeleton]; unfold cc0_norm_proj_skel
    simp only [k0_part2_eq_skeleton, k0_part1_eq_skeleton]
    unfold owns
    iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread e0; obtain rfl := harg2.eq_unread e1; obtain rfl := harg3.eq_unread e2; obtain rfl := harg4.eq_unread e3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-! Every cell of an output's block is stored. -/

theorem coverA4 (hc : k0_cond1 i = 1#1) (x0 : Vec F S512x1024 .f32) (x1 : Vec F S128x1024 .f32) (x2 : Vec F S1x1024 .f32) (x3 : Vec F S1024x3080 .bf16) (y : S512x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).1 S512x1024.size (by sl_kernel_rfl) y

theorem coverA5 (hc : k0_cond1 i = 1#1) (x0 : Vec F S512x1024 .f32) (x1 : Vec F S128x1024 .f32) (x2 : Vec F S1x1024 .f32) (x3 : Vec F S1024x3080 .bf16) (y : S512x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.1 S512x1024.size (by sl_kernel_rfl) y

theorem coverA6 (hc : k0_cond1 i = 1#1) (x0 : Vec F S512x1024 .f32) (x1 : Vec F S128x1024 .f32) (x2 : Vec F S1x1024 .f32) (x3 : Vec F S1024x3080 .bf16) (y : S512x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.1 S512x1024.size (by sl_kernel_rfl) y

theorem coverA7 (hc : k0_cond1 i = 1#1) (x0 : Vec F S512x1024 .f32) (x1 : Vec F S128x1024 .f32) (x2 : Vec F S1x1024 .f32) (x3 : Vec F S1024x3080 .bf16) (y : S512x128.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.2.1 S512x128.size (by sl_kernel_rfl) y

theorem coverA8 (hc : k0_cond1 i = 1#1) (x0 : Vec F S512x1024 .f32) (x1 : Vec F S128x1024 .f32) (x2 : Vec F S1x1024 .f32) (x3 : Vec F S1024x3080 .bf16) (y : S128x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.2.2.1 S128x1024.size (by sl_kernel_rfl) y

theorem coverA9 (hc : k0_cond1 i = 1#1) (x0 : Vec F S512x1024 .f32) (x1 : Vec F S128x1024 .f32) (x2 : Vec F S1x1024 .f32) (x3 : Vec F S1024x3080 .bf16) (y : S128x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.1 S128x1024.size (by sl_kernel_rfl) y

theorem coverA10 (hc : k0_cond1 i = 1#1) (x0 : Vec F S512x1024 .f32) (x1 : Vec F S128x1024 .f32) (x2 : Vec F S1x1024 .f32) (x3 : Vec F S1024x3080 .bf16) (y : S128x1024.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.2.1 S128x1024.size (by sl_kernel_rfl) y

theorem coverA11 (hc : k0_cond1 i = 1#1) (x0 : Vec F S512x1024 .f32) (x1 : Vec F S128x1024 .f32) (x2 : Vec F S1x1024 .f32) (x3 : Vec F S1024x3080 .bf16) (y : S128x128.Idx) :
    ∃ pc ∈ (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc x0 x1 x2 x3).2.2.2.2.2.2.2.1 S128x128.size (by sl_kernel_rfl) y

end

end Cert.ProjIdeal.Body

end
-- ==== Proof.ProjLater.lean ====
module

public import proofs.«01_k».proof.Proof.ProjFirst

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at a later grid point, where the body leaves the sample outputs alone. -/

section
variable (c : Dev nD) (i : grid0.Coords)
  (arg1 : Memref sig .tc .vmem S512x1024 .f32) (harg1 : arg1.IsWhole)
  (arg2 : Memref sig .tc .vmem S128x1024 .f32) (harg2 : arg2.IsWhole)
  (arg3 : Memref sig .tc .vmem S1x1024 .f32) (harg3 : arg3.IsWhole)
  (arg4 : Memref sig .tc .vmem S1024x3080 .bf16) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x128 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .f32) (harg11 : arg11.IsWhole)
  (arg12 : Memref sig .tc .vmem S128x128 .f32) (harg12 : arg12.IsWhole)

set_option maxHeartbeats 1000000 in
/-- The stores each prompt output ends with at a later point; the sample outputs are not touched. -/
noncomputable def runB (hc : ¬k0_cond1 i = 1#1) (x0 : Vec F S512x1024 .f32) (x1 : Vec F S128x1024 .f32) (x2 : Vec F S1x1024 .f32) (x3 : Vec F S1024x3080 .bf16) :
    Σ' (L4 : List (View.Piece (Elt F) S512x1024 .f32)), Σ' (L5 : List (View.Piece (Elt F) S512x1024 .f32)), Σ' (L6 : List (View.Piece (Elt F) S512x1024 .f32)), { L7 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_norm_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?exec⟩
  case exec =>
    simp only [cc0_norm_proj_eq_skeleton]; unfold cc0_norm_proj_skel
    simp only [k0_part2_eq_skeleton]
    unfold owns
    iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, Hk⟩
    obtain rfl := harg1.eq_unread e0; obtain rfl := harg2.eq_unread e1; obtain rfl := harg3.eq_unread e2; obtain rfl := harg4.eq_unread e3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-! Every cell of an output's block is stored. -/

theorem coverB4 (hc : ¬k0_cond1 i = 1#1) (x0 : Vec F S512x1024 .f32) (x1 : Vec F S128x1024 .f32) (x2 : Vec F S1x1024 .f32) (x3 : Vec F S1024x3080 .bf16) (y : S512x1024.Idx) :
    ∃ pc ∈ (runB c i arg1 harg1 arg2 harg2 arg3 harg3 arg4 harg4 arg5 harg5 arg6 harg6 arg7 harg7 arg8 harg8 arg9 harg9 arg10 harg10 arg11 harg11 arg12 harg12 hc x0 x1 x2 x3).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc x0 x1 x2 x3).1 S512x1024.size (by sl_kernel_rfl) y

theorem coverB5 (hc : ¬k0_cond1 i = 1#1) (x0 : Vec F S512x1024 .f32) (x1 : Vec F S128x1024 .f32) (x2 : Vec F S1x1024 .f32) (x3 : Vec F S1024x3080 .bf16) (y : S512x1024.Idx) :
    ∃ pc ∈ (runB c i arg1 harg1 arg2 harg2 arg3 harg3 arg4 harg4 arg5 harg5 arg6 harg6 arg7 harg7 arg8 harg8 arg9 harg9 arg10 harg10 arg11 harg11 arg12 harg12 hc x0 x1 x2 x3).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc x0 x1 x2 x3).2.1 S512x1024.size (by sl_kernel_rfl) y

theorem coverB6 (hc : ¬k0_cond1 i = 1#1) (x0 : Vec F S512x1024 .f32) (x1 : Vec F S128x1024 .f32) (x2 : Vec F S1x1024 .f32) (x3 : Vec F S1024x3080 .bf16) (y : S512x1024.Idx) :
    ∃ pc ∈ (runB c i arg1 harg1 arg2 harg2 arg3 harg3 arg4 harg4 arg5 harg5 arg6 harg6 arg7 harg7 arg8 harg8 arg9 harg9 arg10 harg10 arg11 harg11 arg12 harg12 hc x0 x1 x2 x3).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc x0 x1 x2 x3).2.2.1 S512x1024.size (by sl_kernel_rfl) y

theorem coverB7 (hc : ¬k0_cond1 i = 1#1) (x0 : Vec F S512x1024 .f32) (x1 : Vec F S128x1024 .f32) (x2 : Vec F S1x1024 .f32) (x3 : Vec F S1024x3080 .bf16) (y : S512x128.Idx) :
    ∃ pc ∈ (runB c i arg1 harg1 arg2 harg2 arg3 harg3 arg4 harg4 arg5 harg5 arg6 harg6 arg7 harg7 arg8 harg8 arg9 harg9 arg10 harg10 arg11 harg11 arg12 harg12 hc x0 x1 x2 x3).2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc x0 x1 x2 x3).2.2.2.1 S512x128.size (by sl_kernel_rfl) y

end

end Cert.ProjIdeal.Body

end
-- ==== Proof.ProjFrame.lean ====
module

public import proofs.«01_k».proof.Proof.ProjLater
public import proofs.«01_k».proof.Proof.Held
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffer of each window at a point, and one fixed buffer per output to read contents through. -/

abbrev ms0 (t : Fin cfg0.N) : Memref sig .tc .vmem S512x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S128x1024 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1024x3080 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S512x1024 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S128x1024 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S128x1024 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S128x1024 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S128x128 .f32 := win0_11.stage (cfg0.slots t 11)
theorem hs11 (t : Fin cfg0.N) : (ms11 t).IsWhole := hstage0_11 ((cfg0.slots t 11).cast nbuf0_11)
abbrev vo4 : View sig .tc .vmem S512x1024 .f32 := (Memref.whole cc0_stg4_0 : Memref sig .tc .vmem S512x1024 .f32).view
abbrev vo5 : View sig .tc .vmem S512x1024 .f32 := (Memref.whole cc0_stg5_0 : Memref sig .tc .vmem S512x1024 .f32).view
abbrev vo6 : View sig .tc .vmem S512x1024 .f32 := (Memref.whole cc0_stg6_0 : Memref sig .tc .vmem S512x1024 .f32).view
abbrev vo7 : View sig .tc .vmem S512x128 .f32 := (Memref.whole cc0_stg7_0 : Memref sig .tc .vmem S512x128 .f32).view
abbrev vo8 : View sig .tc .vmem S128x1024 .f32 := (Memref.whole cc0_stg8_0 : Memref sig .tc .vmem S128x1024 .f32).view
abbrev vo9 : View sig .tc .vmem S128x1024 .f32 := (Memref.whole cc0_stg9_0 : Memref sig .tc .vmem S128x1024 .f32).view
abbrev vo10 : View sig .tc .vmem S128x1024 .f32 := (Memref.whole cc0_stg10_0 : Memref sig .tc .vmem S128x1024 .f32).view
abbrev vo11 : View sig .tc .vmem S128x128 .f32 := (Memref.whole cc0_stg11_0 : Memref sig .tc .vmem S128x128 .f32).view

/-- the grid point that computes the sample group -/
def first : Fin cfg0.N := ⟨0, by decide⟩

/-- the body's condition holds at the first point only -/
theorem cond_iff : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    rw [show t.val = 0 ↔ t.val % 32 = 0 by omega]
    simp only [k0_cond1, e0]
    word_cmp
   : ∀ t : Fin grid0.N, k0_cond1 (grid0.coords t) = 1#1 ↔ t.val = 0)

theorem cond_first : k0_cond1 (grid0.coords first) = 1#1 := (cond_iff first).mpr rfl

/-! What an output's block holds after a point, from the input blocks. -/

section
variable (c : Dev nD) (t : Fin cfg0.N)
def blkA4 (hc : k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo4 (vo4.writes (Elt F) vo4.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).1)
def blkA5 (hc : k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo5 (vo5.writes (Elt F) vo5.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.1)
def blkA6 (hc : k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo6 (vo6.writes (Elt F) vo6.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.1)
def blkA7 (hc : k0_cond1 (grid0.coords t) = 1#1) (x0 : Vec F S512x1024 .f32) (x1 : Vec F S128x1024 .f32) (x2 : Vec F S1x1024 .f32) (x3 : Vec F S1024x3080 .bf16) : Vec F S512x128 .f32 :=
  View.read (Elt F) vo7 (vo7.writes (Elt F) vo7.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.1)
def blkA8 (hc : k0_cond1 (grid0.coords t) = 1#1) (x0 : Vec F S512x1024 .f32) (x1 : Vec F S128x1024 .f32) (x2 : Vec F S1x1024 .f32) (x3 : Vec F S1024x3080 .bf16) : Vec F S128x1024 .f32 :=
  View.read (Elt F) vo8 (vo8.writes (Elt F) vo8.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.2.1)
def blkA9 (hc : k0_cond1 (grid0.coords t) = 1#1) (x0 : Vec F S512x1024 .f32) (x1 : Vec F S128x1024 .f32) (x2 : Vec F S1x1024 .f32) (x3 : Vec F S1024x3080 .bf16) : Vec F S128x1024 .f32 :=
  View.read (Elt F) vo9 (vo9.writes (Elt F) vo9.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.2.2.1)
def blkA10 (hc : k0_cond1 (grid0.coords t) = 1#1) (x0 : Vec F S512x1024 .f32) (x1 : Vec F S128x1024 .f32) (x2 : Vec F S1x1024 .f32) (x3 : Vec F S1024x3080 .bf16) : Vec F S128x1024 .f32 :=
  View.read (Elt F) vo10 (vo10.writes (Elt F) vo10.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.2.2.2.1)
def blkA11 (hc : k0_cond1 (grid0.coords t) = 1#1) (x0 : Vec F S512x1024 .f32) (x1 : Vec F S128x1024 .f32) (x2 : Vec F S1x1024 .f32) (x3 : Vec F S1024x3080 .bf16) : Vec F S128x128 .f32 :=
  View.read (Elt F) vo11 (vo11.writes (Elt F) vo11.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.2.2.2.2.1)
def blkB4 (hc : ¬k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo4 (vo4.writes (Elt F) vo4.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).1)
def blkB5 (hc : ¬k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo5 (vo5.writes (Elt F) vo5.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.1)
def blkB6 (hc : ¬k0_cond1 (grid0.coords t) = 1#1) (x0 : Vec F S512x1024 .f32) (x1 : Vec F S128x1024 .f32) (x2 : Vec F S1x1024 .f32) (x3 : Vec F S1024x3080 .bf16) : Vec F S512x1024 .f32 :=
  View.read (Elt F) vo6 (vo6.writes (Elt F) vo6.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.1)
def blkB7 (hc : ¬k0_cond1 (grid0.coords t) = 1#1) (x0 : Vec F S512x1024 .f32) (x1 : Vec F S128x1024 .f32) (x2 : Vec F S1x1024 .f32) (x3 : Vec F S1024x3080 .bf16) : Vec F S512x128 .f32 :=
  View.read (Elt F) vo7 (vo7.writes (Elt F) vo7.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) hc x0 x1 x2 x3).2.2.2.1)
/-- output 4 after point `t` -/
def held4 : Vec F S512x1024 .f32 :=
  if h : k0_cond1 (grid0.coords t) = 1#1 then blkA4 c t h (iblk m c 0 t) (iblk m c 1 t) (iblk m c 2 t) (iblk m c 3 t) else blkB4 c t h (iblk m c 0 t) (iblk m c 1 t) (iblk m c 2 t) (iblk m c 3 t)
theorem held4_A (h : k0_cond1 (grid0.coords t) = 1#1) : held4 m c t = blkA4 c t h (iblk m c 0 t) (iblk m c 1 t) (iblk m c 2 t) (iblk m c 3 t) := dif_pos h
theorem held4_B (h : ¬k0_cond1 (grid0.coords t) = 1#1) : held4 m c t = blkB4 c t h (iblk m c 0 t) (iblk m c 1 t) (iblk m c 2 t) (iblk m c 3 t) := dif_neg h
/-- output 5 after point `t` -/
def held5 : Vec F S512x1024 .f32 :=
  if h : k0_cond1 (grid0.coords t) = 1#1 then blkA5 c t h (iblk m c 0 t) (iblk m c 1 t) (iblk m c 2 t) (iblk m c 3 t) else blkB5 c t h (iblk m c 0 t) (iblk m c 1 t) (iblk m c 2 t) (iblk m c 3 t)
theorem held5_A (h : k0_cond1 (grid0.coords t) = 1#1) : held5 m c t = blkA5 c t h (iblk m c 0 t) (iblk m c 1 t) (iblk m c 2 t) (iblk m c 3 t) := dif_pos h
theorem held5_B (h : ¬k0_cond1 (grid0.coords t) = 1#1) : held5 m c t = blkB5 c t h (iblk m c 0 t) (iblk m c 1 t) (iblk m c 2 t) (iblk m c 3 t) := dif_neg h
/-- output 6 after point `t` -/
def held6 : Vec F S512x1024 .f32 :=
  if h : k0_cond1 (grid0.coords t) = 1#1 then blkA6 c t h (iblk m c 0 t) (iblk m c 1 t) (iblk m c 2 t) (iblk m c 3 t) else blkB6 c t h (iblk m c 0 t) (iblk m c 1 t) (iblk m c 2 t) (iblk m c 3 t)
theorem held6_A (h : k0_cond1 (grid0.coords t) = 1#1) : held6 m c t = blkA6 c t h (iblk m c 0 t) (iblk m c 1 t) (iblk m c 2 t) (iblk m c 3 t) := dif_pos h
theorem held6_B (h : ¬k0_cond1 (grid0.coords t) = 1#1) : held6 m c t = blkB6 c t h (iblk m c 0 t) (iblk m c 1 t) (iblk m c 2 t) (iblk m c 3 t) := dif_neg h
/-- output 7 after point `t` -/
def held7 : Vec F S512x128 .f32 :=
  if h : k0_cond1 (grid0.coords t) = 1#1 then blkA7 c t h (iblk m c 0 t) (iblk m c 1 t) (iblk m c 2 t) (iblk m c 3 t) else blkB7 c t h (iblk m c 0 t) (iblk m c 1 t) (iblk m c 2 t) (iblk m c 3 t)
theorem held7_A (h : k0_cond1 (grid0.coords t) = 1#1) : held7 m c t = blkA7 c t h (iblk m c 0 t) (iblk m c 1 t) (iblk m c 2 t) (iblk m c 3 t) := dif_pos h
theorem held7_B (h : ¬k0_cond1 (grid0.coords t) = 1#1) : held7 m c t = blkB7 c t h (iblk m c 0 t) (iblk m c 1 t) (iblk m c 2 t) (iblk m c 3 t) := dif_neg h
/-- output 8, computed at the first point and kept -/
def held8 : Vec F S128x1024 .f32 := blkA8 c first cond_first (iblk m c 0 first) (iblk m c 1 first) (iblk m c 2 first) (iblk m c 3 first)
/-- output 9, computed at the first point and kept -/
def held9 : Vec F S128x1024 .f32 := blkA9 c first cond_first (iblk m c 0 first) (iblk m c 1 first) (iblk m c 2 first) (iblk m c 3 first)
/-- output 10, computed at the first point and kept -/
def held10 : Vec F S128x1024 .f32 := blkA10 c first cond_first (iblk m c 0 first) (iblk m c 1 first) (iblk m c 2 first) (iblk m c 3 first)
/-- output 11, computed at the first point and kept -/
def held11 : Vec F S128x128 .f32 := blkA11 c first cond_first (iblk m c 0 first) (iblk m c 1 first) (iblk m c 2 first) (iblk m c 3 first)
end

/-! The pipeline's proof data. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held4 m c t
    | ⟨5, _⟩ => held5 m c t
    | ⟨6, _⟩ => held6 m c t
    | ⟨7, _⟩ => held7 m c t
    | ⟨8, _⟩ => held8 m c
    | ⟨9, _⟩ => held9 m c
    | ⟨10, _⟩ => held10 m c
    | ⟨11, _⟩ => held11 m c
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = held4 m c t := by dsimp only [dats]
theorem after5 (c : Dev nD) (t : Fin cfg0.N) : (dats m 0 c).after 5 t = held5 m c t := by dsimp only [dats]
theorem after6 (c : Dev nD) (t : Fin cfg0.N) : (dats m 0 c).after 6 t = held6 m c t := by dsimp only [dats]
theorem after7 (c : Dev nD) (t : Fin cfg0.N) : (dats m 0 c).after 7 t = held7 m c t := by dsimp only [dats]
theorem after8 (c : Dev nD) (t : Fin cfg0.N) : (dats m 0 c).after 8 t = held8 m c := by dsimp only [dats]
theorem after9 (c : Dev nD) (t : Fin cfg0.N) : (dats m 0 c).after 9 t = held9 m c := by dsimp only [dats]
theorem after10 (c : Dev nD) (t : Fin cfg0.N) : (dats m 0 c).after 10 t = held10 m c := by dsimp only [dats]
theorem after11 (c : Dev nD) (t : Fin cfg0.N) : (dats m 0 c).after 11 t = held11 m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! A sample output is idle from the second point on and written back at the last. -/

theorem fresh8 : ∀ t : Fin cfg0.N, cfg0.idle 8 (grid0.coords t) = (t.val != 0) ∧ (t.val = 31 ∨ (cfg0.win 8).flush t = false) := by decide +kernel
theorem fresh9 : ∀ t : Fin cfg0.N, cfg0.idle 9 (grid0.coords t) = (t.val != 0) ∧ (t.val = 31 ∨ (cfg0.win 9).flush t = false) := by decide +kernel
theorem fresh10 : ∀ t : Fin cfg0.N, cfg0.idle 10 (grid0.coords t) = (t.val != 0) ∧ (t.val = 31 ∨ (cfg0.win 10).flush t = false) := by decide +kernel
theorem fresh11 : ∀ t : Fin cfg0.N, cfg0.idle 11 (grid0.coords t) = (t.val != 0) ∧ (t.val = 31 ∨ (cfg0.win 11).flush t = false) := by decide +kernel
theorem before8 (c : Dev nD) (t : Fin cfg0.N) (h : t.val ≠ 0) (d) : (dats m 0 c).before 8 t d = held8 m c :=
  (Pipeline.before_kept (dats m 0 c) 8 rfl (fun _ _ => rfl) (held8 m c) (after8 m c) 31 N_0 (fun t => (fresh8 t).1) (fun t => (fresh8 t).2) t h d)
theorem before9 (c : Dev nD) (t : Fin cfg0.N) (h : t.val ≠ 0) (d) : (dats m 0 c).before 9 t d = held9 m c :=
  (Pipeline.before_kept (dats m 0 c) 9 rfl (fun _ _ => rfl) (held9 m c) (after9 m c) 31 N_0 (fun t => (fresh9 t).1) (fun t => (fresh9 t).2) t h d)
theorem before10 (c : Dev nD) (t : Fin cfg0.N) (h : t.val ≠ 0) (d) : (dats m 0 c).before 10 t d = held10 m c :=
  (Pipeline.before_kept (dats m 0 c) 10 rfl (fun _ _ => rfl) (held10 m c) (after10 m c) 31 N_0 (fun t => (fresh10 t).1) (fun t => (fresh10 t).2) t h d)
theorem before11 (c : Dev nD) (t : Fin cfg0.N) (h : t.val ≠ 0) (d) : (dats m 0 c).before 11 t d = held11 m c :=
  (Pipeline.before_kept (dats m 0 c) 11 rfl (fun _ _ => rfl) (held11 m c) (after11 m c) 31 N_0 (fun t => (fresh11 t).1) (fun t => (fresh11 t).2) t h d)

/-! The body's obligation. -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [Pipeline.leaves_live (dats m 0 c) 0 t rfl, after0]
  rw [Pipeline.leaves_live (dats m 0 c) 1 t rfl, after1]
  rw [Pipeline.leaves_live (dats m 0 c) 2 t rfl, after2]
  rw [Pipeline.leaves_live (dats m 0 c) 3 t rfl, after3]
  rw [Pipeline.leaves_live (dats m 0 c) 4 t rfl, after4]
  rw [Pipeline.leaves_live (dats m 0 c) 5 t rfl, after5]
  rw [Pipeline.leaves_live (dats m 0 c) 6 t rfl, after6]
  rw [Pipeline.leaves_live (dats m 0 c) 7 t rfl, after7]
  by_cases hc : k0_cond1 (grid0.coords t) = 1#1
  · obtain rfl : t = first := Fin.ext ((cond_iff t).mp hc)
    rw [Pipeline.leaves_live (dats m 0 c) 8 first (fresh8 first).1, after8]
    rw [Pipeline.leaves_live (dats m 0 c) 9 first (fresh9 first).1, after9]
    rw [Pipeline.leaves_live (dats m 0 c) 10 first (fresh10 first).1, after10]
    rw [Pipeline.leaves_live (dats m 0 c) 11 first (fresh11 first).1, after11]
    rw [held4_A m c first hc]
    rw [held5_A m c first hc]
    rw [held6_A m c first hc]
    rw [held7_A m c first hc]
    unfold blkA4 blkA5 blkA6 blkA7 held8 blkA8 held9 blkA9 held10 blkA10 held11 blkA11
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords first) _ _ _ _ _ _ _ _ _ _ _ _ _ _ _ _ _ _ _ _ _ _ _ _ hc (iblk m c 0 first) (iblk m c 1 first) (iblk m c 2 first) (iblk m c 3 first)).2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _ _ _ _ _ _ _ _ hc _ _ _ _ )
    isplitl [H5]
    · unfold owns; iexists _; isplitr
      swap; · iexact H5
      ipureintro; exact View.read_writes_of_cover _ _ _ _ _ (coverA5 c _ _ _ _ _ _ _ _ _ _ _ _ _ _ _ _ _ _ _ _ _ _ _ _ _ hc _ _ _ _ )
    isplitl [H6]
    · unfold owns; iexists _; isplitr
      swap; · iexact H6
      ipureintro; exact View.read_writes_of_cover _ _ _ _ _ (coverA6 c _ _ _ _ _ _ _ _ _ _ _ _ _ _ _ _ _ _ _ _ _ _ _ _ _ hc _ _ _ _ )
    isplitl [H7]
    · unfold owns; iexists _; isplitr
      swap; · iexact H7
      ipureintro; exact View.read_writes_of_cover _ _ _ _ _ (coverA7 c _ _ _ _ _ _ _ _ _ _ _ _ _ _ _ _ _ _ _ _ _ _ _ _ _ hc _ _ _ _ )
    isplitl [H8]
    · unfold owns; iexists _; isplitr
      swap; · iexact H8
      ipureintro; exact View.read_writes_of_cover _ _ _ _ _ (coverA8 c _ _ _ _ _ _ _ _ _ _ _ _ _ _ _ _ _ _ _ _ _ _ _ _ _ hc _ _ _ _ )
    isplitl [H9]
    · unfold owns; iexists _; isplitr
      swap; · iexact H9
      ipureintro; exact View.read_writes_of_cover _ _ _ _ _ (coverA9 c _ _ _ _ _ _ _ _ _ _ _ _ _ _ _ _ _ _ _ _ _ _ _ _ _ hc _ _ _ _ )
    isplitl [H10]
    · unfold owns; iexists _; isplitr
      swap; · iexact H10
      ipureintro; exact View.read_writes_of_cover _ _ _ _ _ (coverA10 c _ _ _ _ _ _ _ _ _ _ _ _ _ _ _ _ _ _ _ _ _ _ _ _ _ hc _ _ _ _ )
    unfold owns; iexists _; isplitr
    swap; · iexact H11
    ipureintro; exact View.read_writes_of_cover _ _ _ _ _ (coverA11 c _ _ _ _ _ _ _ _ _ _ _ _ _ _ _ _ _ _ _ _ _ _ _ _ _ hc _ _ _ _ )
  · have h0 : t.val ≠ 0 := fun h => hc ((cond_iff t).mpr h)
    simp only [before8 m c t h0]
    simp only [before9 m c t h0]
    simp only [before10 m c t h0]
    simp only [before11 m c t h0]
    rw [held4_B m c t hc]
    rw [held5_B m c t hc]
    rw [held6_B m c t hc]
    rw [held7_B m c t hc]
    unfold blkB4 blkB5 blkB6 blkB7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) _ _ _ _ _ _ _ _ _ _ _ _ _ _ _ _ _ _ _ _ _ _ _ _ hc (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _ _ _ _ _ _ hc _ _ _ _ )
    isplitl [H5]
    · unfold owns; iexists _; isplitr
      swap; · iexact H5
      ipureintro; exact View.read_writes_of_cover _ _ _ _ _ (coverB5 c _ _ _ _ _ _ _ _ _ _ _ _ _ _ _ _ _ _ _ _ _ _ _ _ _ hc _ _ _ _ )
    isplitl [H6]
    · unfold owns; iexists _; isplitr
      swap; · iexact H6
      ipureintro; exact View.read_writes_of_cover _ _ _ _ _ (coverB6 c _ _ _ _ _ _ _ _ _ _ _ _ _ _ _ _ _ _ _ _ _ _ _ _ _ hc _ _ _ _ )
    isplitl [H7]
    · unfold owns; iexists _; isplitr
      swap; · iexact H7
      ipureintro; exact View.read_writes_of_cover _ _ _ _ _ (coverB7 c _ _ _ _ _ _ _ _ _ _ _ _ _ _ _ _ _ _ _ _ _ _ _ _ _ hc _ _ _ _ )
    isplitl [H8]
    · iapply (Pipeline.leaves_kept (dats m 0 c) 8 t (held8 m c) (after8 m c t) (before8 m c t h0) d8)
      iexact H8
    isplitl [H9]
    · iapply (Pipeline.leaves_kept (dats m 0 c) 9 t (held9 m c) (after9 m c t) (before9 m c t h0) d9)
      iexact H9
    isplitl [H10]
    · iapply (Pipeline.leaves_kept (dats m 0 c) 10 t (held10 m c) (after10 m c t) (before10 m c t h0) d10)
      iexact H10
    iapply (Pipeline.leaves_kept (dats m 0 c) 11 t (held11 m c) (after11 m c t) (before11 m c t h0) d11)
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ProjIdeal.Body

end
-- ==== Proof.ProjTerms.lean ====
module

public import proofs.«01_k».proof.Proof.FfnTerms

@[expose] public section

noncomputable section

open Idealize.ShloMosaic
/-! The rows of a normed batch times the columns of the input projection. -/
namespace Cert.Ffn

/-- column `p` of a row's projection -/
def column (x g : Fin 1024 → EReal) (w : Fin 1024 → Fin 3080 → EReal) (p : Fin 3080) : EReal := ∑ k, normed x g k * w k p
/-- lane `l` of the gates: the eight last columns, then zeros -/
def lane (x g : Fin 1024 → EReal) (w : Fin 1024 → Fin 3080 → EReal) (l : Fin 128) : EReal :=
  if h : l.val < 8 then column x g w ⟨3072 + l, by omega⟩ else 0

theorem third0 : 0 + 1024 ≤ 3080 := by decide
theorem third1 : 1024 + 1024 ≤ 3080 := by decide
theorem third2 : 2048 + 1024 ≤ 3080 := by decide
/-- column `e` of the thousand that begin at `o` -/
def at_ (o : ℕ) (ho : o + 1024 ≤ 3080) (e : Fin 1024) : Fin 3080 := ⟨o + e, by omega⟩

section
variable {n : ℕ} (h : (⟨2, ![n, 1024]⟩ : Shape).Idx → EReal) (g : (⟨2, ![1, 1024]⟩ : Shape).Idx → EReal)
  (w : (⟨3, ![1, 1024, 3080]⟩ : Shape).Idx → EReal) (r : Fin n)
def cols (o : ℕ) (ho : o + 1024 ≤ 3080) (e : Fin 1024) : EReal :=
  column (fun k => h (ix2 r k)) (fun k => g (ix2 0 k)) (fun k p => w (ix3 0 k p)) (at_ o ho e)
def gates (l : Fin 128) : EReal := lane (fun k => h (ix2 r k)) (fun k => g (ix2 0 k)) (fun k p => w (ix3 0 k p)) l
end
end Cert.Ffn

end
-- ==== Proof.ProjBlocks.lean ====
module

public import proofs.«01_k».proof.Proof.ProjFrame
public import proofs.«01_k».proof.Proof.ProjTerms

@[expose] public section

set_option maxRecDepth 16384

noncomputable section

open Idealize.ShloMosaic Idealize.ShloMosaic.TcCoe Idealize.SL.Sem

namespace Cert.ProjIdeal.Body

open Cert.ProjIdeal Cert.ProjIdeal.Gen Cert.Ffn

/-- the block of a thousand columns of the weights that begins at column `o` -/
abbrev colsAt (o : ℕ) (h : ∀ a, ![0, o] a + S1024x1024.size a ≤ S1024x3080.size a) (x : FVec Ideal S1024x3080 .bf16) : FVec Ideal S1024x1024 .bf16 :=
  View.ld (Val := Elt Ideal) (e' := .bf16) x (Rect.unit (s := S1024x3080) ![0, o] ![1024, 1024] h)
/-- the eight last columns of the weights -/
abbrev gateAt (x : FVec Ideal S1024x3080 .bf16) : FVec Ideal S1024x8 .bf16 :=
  View.ld (Val := Elt Ideal) (e' := .bf16) x (Rect.unit (s := S1024x3080) ![0, 3072] ![1024, 8] inb_S1024x3080_S1024x8_0_3072)

section prompt
variable (x : FVec Ideal S512x1024 .f32) (x2 : FVec Ideal S1x1024 .f32) (x3 : FVec Ideal S1024x3080 .bf16) (r : Fin 512) (e : Fin 1024) (l : Fin 128)

theorem prompt_norm : k0_pay8 (F := Ideal) x x2 (ix2 r e) = normed (fun k => x (ix2 r k)) (fun k => x2 (ix2 0 k)) e := by
  pointwise [k0_pay8, normed]
set_option backward.isDefEq.respectTransparency false in
theorem prompt_cols0 : k0_pay9 (F := Ideal) x x2 (colsAt 0 inb_S1024x3080_S1024x1024_0_0 x3) (ix2 r e)
    = column (fun k => x (ix2 r k)) (fun k => x2 (ix2 0 k)) (fun k p => x3 (ix2 k p)) (at_ 0 third0 e) := by
  unfold colsAt
  pointwise [k0_pay9, column, at_]
  simp only [prompt_norm]
set_option backward.isDefEq.respectTransparency false in
theorem prompt_cols1 : k0_pay10 (F := Ideal) x x2 (colsAt 1024 inb_S1024x3080_S1024x1024_0_1024 x3) (ix2 r e)
    = column (fun k => x (ix2 r k)) (fun k => x2 (ix2 0 k)) (fun k p => x3 (ix2 k p)) (at_ 1024 third1 e) := by
  unfold colsAt
  pointwise [k0_pay10, column, at_]
  simp only [prompt_norm]
set_option backward.isDefEq.respectTransparency false in
theorem prompt_cols2 : k0_pay11 (F := Ideal) x x2 (colsAt 2048 inb_S1024x3080_S1024x1024_0_2048 x3) (ix2 r e)
    = column (fun k => x (ix2 r k)) (fun k => x2 (ix2 0 k)) (fun k p => x3 (ix2 k p)) (at_ 2048 third2 e) := by
  unfold colsAt
  pointwise [k0_pay11, column, at_]
  simp only [prompt_norm]
set_option backward.isDefEq.respectTransparency false in
theorem prompt_gates : k0_pay1 (F := Ideal) (k0_pay12 x x2 (gateAt x3)) (ix2 r l)
    = lane (fun k => x (ix2 r k)) (fun k => x2 (ix2 0 k)) (fun k p => x3 (ix2 k p)) l := by
  unfold gateAt
  pointwise [k0_pay1, k0_pay12, column, lane]
  simp only [prompt_norm]
end prompt

section sample
variable (x : FVec Ideal S128x1024 .f32) (x2 : FVec Ideal S1x1024 .f32) (x3 : FVec Ideal S1024x3080 .bf16) (r : Fin 128) (e : Fin 1024) (l : Fin 128)

theorem sample_norm : k0_pay3 (F := Ideal) x x2 (ix2 r e) = normed (fun k => x (ix2 r k)) (fun k => x2 (ix2 0 k)) e := by
  pointwise [k0_pay3, normed]
set_option backward.isDefEq.respectTransparency false in
theorem sample_cols0 : k0_pay4 (F := Ideal) x x2 (colsAt 0 inb_S1024x3080_S1024x1024_0_0 x3) (ix2 r e)
    = column (fun k => x (ix2 r k)) (fun k => x2 (ix2 0 k)) (fun k p => x3 (ix2 k p)) (at_ 0 third0 e) := by
  unfold colsAt
  pointwise [k0_pay4, column, at_]
  simp only [sample_norm]
set_option backward.isDefEq.respectTransparency false in
theorem sample_cols1 : k0_pay5 (F := Ideal) x x2 (colsAt 1024 inb_S1024x3080_S1024x1024_0_1024 x3) (ix2 r e)
    = column (fun k => x (ix2 r k)) (fun k => x2 (ix2 0 k)) (fun k p => x3 (ix2 k p)) (at_ 1024 third1 e) := by
  unfold colsAt
  pointwise [k0_pay5, column, at_]
  simp only [sample_norm]
set_option backward.isDefEq.respectTransparency false in
theorem sample_cols2 : k0_pay6 (F := Ideal) x x2 (colsAt 2048 inb_S1024x3080_S1024x1024_0_2048 x3) (ix2 r e)
    = column (fun k => x (ix2 r k)) (fun k => x2 (ix2 0 k)) (fun k p => x3 (ix2 k p)) (at_ 2048 third2 e) := by
  unfold colsAt
  pointwise [k0_pay6, column, at_]
  simp only [sample_norm]
set_option backward.isDefEq.respectTransparency false in
theorem sample_gates : k0_pay2 (F := Ideal) (k0_pay7 x x2 (gateAt x3)) (Scalar.ofBits .f32 0x00000000#32) (ix2 r l)
    = lane (fun k => x (ix2 r k)) (fun k => x2 (ix2 0 k)) (fun k p => x3 (ix2 k p)) l := by
  unfold gateAt
  pointwise [k0_pay2, k0_pay7, column, lane]
  simp only [sample_norm]
end sample

section
variable (c : Dev nD) (t : Fin cfg0.N) (x0 : FVec Ideal S512x1024 .f32) (x1 : FVec Ideal S128x1024 .f32) (x2 : FVec Ideal S1x1024 .f32)
  (x3 : FVec Ideal S1024x3080 .bf16)
theorem blkA4_eq (hc) : blkA4 (F := Ideal) c t hc x0 x1 x2 x3 = k0_pay9 (F := Ideal) x0 x2 (colsAt 0 inb_S1024x3080_S1024x1024_0_0 x3) := by
  frame_out
theorem blkB4_eq (hc) : blkB4 (F := Ideal) c t hc x0 x1 x2 x3 = k0_pay9 (F := Ideal) x0 x2 (colsAt 0 inb_S1024x3080_S1024x1024_0_0 x3) := by
  frame_out
theorem blkA5_eq (hc) : blkA5 (F := Ideal) c t hc x0 x1 x2 x3 = k0_pay10 (F := Ideal) x0 x2 (colsAt 1024 inb_S1024x3080_S1024x1024_0_1024 x3) := by
  frame_out
theorem blkB5_eq (hc) : blkB5 (F := Ideal) c t hc x0 x1 x2 x3 = k0_pay10 (F := Ideal) x0 x2 (colsAt 1024 inb_S1024x3080_S1024x1024_0_1024 x3) := by
  frame_out
theorem blkA6_eq (hc) : blkA6 (F := Ideal) c t hc x0 x1 x2 x3 = k0_pay11 (F := Ideal) x0 x2 (colsAt 2048 inb_S1024x3080_S1024x1024_0_2048 x3) := by
  frame_out
theorem blkB6_eq (hc) : blkB6 (F := Ideal) c t hc x0 x1 x2 x3 = k0_pay11 (F := Ideal) x0 x2 (colsAt 2048 inb_S1024x3080_S1024x1024_0_2048 x3) := by
  frame_out
theorem blkA7_eq (hc) : blkA7 (F := Ideal) c t hc x0 x1 x2 x3 = k0_pay1 (F := Ideal) (k0_pay12 x0 x2 (gateAt x3)) := by
  frame_out
theorem blkB7_eq (hc) : blkB7 (F := Ideal) c t hc x0 x1 x2 x3 = k0_pay1 (F := Ideal) (k0_pay12 x0 x2 (gateAt x3)) := by
  frame_out
theorem blkA8_eq (hc) : blkA8 (F := Ideal) c t hc x0 x1 x2 x3 = k0_pay4 (F := Ideal) x1 x2 (colsAt 0 inb_S1024x3080_S1024x1024_0_0 x3) := by
  frame_out
theorem blkA9_eq (hc) : blkA9 (F := Ideal) c t hc x0 x1 x2 x3 = k0_pay5 (F := Ideal) x1 x2 (colsAt 1024 inb_S1024x3080_S1024x1024_0_1024 x3) := by
  frame_out
theorem blkA10_eq (hc) : blkA10 (F := Ideal) c t hc x0 x1 x2 x3 = k0_pay6 (F := Ideal) x1 x2 (colsAt 2048 inb_S1024x3080_S1024x1024_0_2048 x3) := by
  frame_out
theorem blkA11_eq (hc) : blkA11 (F := Ideal) c t hc x0 x1 x2 x3 = k0_pay2 (F := Ideal) (k0_pay7 x1 x2 (gateAt x3)) (Scalar.ofBits .f32 0x00000000#32) := by
  frame_out
end

variable (m : (ℓ : Loc nD τ sig) → Buf (Elt Ideal) ℓ)

theorem held4_eq (c : Dev nD) (t : Fin cfg0.N) : held4 m c t = (k0_pay9 (F := Ideal) (iblk m c 0 t) (iblk m c 2 t) (colsAt 0 inb_S1024x3080_S1024x1024_0_0 (iblk m c 3 t)) : FVec Ideal S512x1024 .f32) := by
  by_cases h : k0_cond1 (grid0.coords t) = 1#1
  · rw [held4_A m c t h]; exact blkA4_eq c t _ _ _ _ h
  · rw [held4_B m c t h]; exact blkB4_eq c t _ _ _ _ h
theorem held5_eq (c : Dev nD) (t : Fin cfg0.N) : held5 m c t = (k0_pay10 (F := Ideal) (iblk m c 0 t) (iblk m c 2 t) (colsAt 1024 inb_S1024x3080_S1024x1024_0_1024 (iblk m c 3 t)) : FVec Ideal S512x1024 .f32) := by
  by_cases h : k0_cond1 (grid0.coords t) = 1#1
  · rw [held5_A m c t h]; exact blkA5_eq c t _ _ _ _ h
  · rw [held5_B m c t h]; exact blkB5_eq c t _ _ _ _ h
theorem held6_eq (c : Dev nD) (t : Fin cfg0.N) : held6 m c t = (k0_pay11 (F := Ideal) (iblk m c 0 t) (iblk m c 2 t) (colsAt 2048 inb_S1024x3080_S1024x1024_0_2048 (iblk m c 3 t)) : FVec Ideal S512x1024 .f32) := by
  by_cases h : k0_cond1 (grid0.coords t) = 1#1
  · rw [held6_A m c t h]; exact blkA6_eq c t _ _ _ _ h
  · rw [held6_B m c t h]; exact blkB6_eq c t _ _ _ _ h
theorem held7_eq (c : Dev nD) (t : Fin cfg0.N) : held7 m c t = (k0_pay1 (F := Ideal) (k0_pay12 (iblk m c 0 t) (iblk m c 2 t) (gateAt (iblk m c 3 t))) : FVec Ideal S512x128 .f32) := by
  by_cases h : k0_cond1 (grid0.coords t) = 1#1
  · rw [held7_A m c t h]; exact blkA7_eq c t _ _ _ _ h
  · rw [held7_B m c t h]; exact blkB7_eq c t _ _ _ _ h
theorem held8_eq (c : Dev nD) : held8 m c = (k0_pay4 (F := Ideal) (iblk m c 1 first) (iblk m c 2 first) (colsAt 0 inb_S1024x3080_S1024x1024_0_0 (iblk m c 3 first)) : FVec Ideal S128x1024 .f32) :=
  blkA8_eq c first _ _ _ _ cond_first
theorem held9_eq (c : Dev nD) : held9 m c = (k0_pay5 (F := Ideal) (iblk m c 1 first) (iblk m c 2 first) (colsAt 1024 inb_S1024x3080_S1024x1024_0_1024 (iblk m c 3 first)) : FVec Ideal S128x1024 .f32) :=
  blkA9_eq c first _ _ _ _ cond_first
theorem held10_eq (c : Dev nD) : held10 m c = (k0_pay6 (F := Ideal) (iblk m c 1 first) (iblk m c 2 first) (colsAt 2048 inb_S1024x3080_S1024x1024_0_2048 (iblk m c 3 first)) : FVec Ideal S128x1024 .f32) :=
  blkA10_eq c first _ _ _ _ cond_first
theorem held11_eq (c : Dev nD) : held11 m c = (k0_pay2 (F := Ideal) (k0_pay7 (iblk m c 1 first) (iblk m c 2 first) (gateAt (iblk m c 3 first))) (Scalar.ofBits .f32 0x00000000#32) : FVec Ideal S128x128 .f32) :=
  blkA11_eq c first _ _ _ _ cond_first
end Cert.ProjIdeal.Body

end
-- ==== Proof.ProjKernel.lean ====
module

public import proofs.«01_k».proof.Proof.ProjBlocks

@[expose] public section

set_option maxRecDepth 16384

noncomputable section

open Idealize.ShloMosaic Idealize.ShloMosaic.TcCoe Idealize.SL.Sem
open Idealize.ShloMosaic.Pipeline (Dat)

namespace Cert.ProjIdeal.Body

open Cert.ProjIdeal Cert.ProjIdeal.Gen Cert.Ffn

variable (m : (ℓ : Loc nD τ sig) → Buf (Elt Ideal) ℓ)

/-- where each window's block lies -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![0, 0] ∧ win0_11.index t = ![0, 0] :=
  (by decide +kernel : ∀ t : Fin grid0.N, _)

abbrev hA (c : Dev nD) : FVec Ideal S16384x1024 .f32 := m ((c : Thread nD τ).loc main_arg0)
abbrev hsA (c : Dev nD) : FVec Ideal S128x1024 .f32 := m ((c : Thread nD τ).loc main_arg1)
abbrev gA (c : Dev nD) : FVec Ideal S1x1024 .f32 := m ((c : Thread nD τ).loc main_arg2)
abbrev wA (c : Dev nD) : FVec Ideal S1x1024x3080 .f32 := m ((c : Thread nD τ).loc main_arg3)

/-- row `r` of point `t` in the whole prompt -/
def row (t : Fin cfg0.N) (r : Fin 512) : Fin 16384 := ⟨t.val * 512 + r, by have : t.val < 32 := t.isLt; omega⟩

section Reads
variable (c : Dev nD) (t : Fin cfg0.N)
theorem read0 (r : Fin 512) (k : Fin 1024) : (iblk m c 0 t : FVec Ideal S512x1024 .f32) (ix2 r k) = hA m c (ix2 (row t r) k) := by unfold row; blk_ext [iblk, V, idx t]
theorem read1 (r : Fin 128) (k : Fin 1024) : (iblk m c 1 t : FVec Ideal S128x1024 .f32) (ix2 r k) = hsA m c (ix2 r k) := by blk_ext [iblk, V, idx t]
theorem read2 (k : Fin 1024) : (iblk m c 2 t : FVec Ideal S1x1024 .f32) (ix2 0 k) = gA m c (ix2 0 k) := by
  refine Eq.trans (b := (V m c main_v3 : FVec Ideal S1x1024 .f32) (ix2 0 k)) (by blk_ext [iblk, idx t]) ?_
  entry_read
  pointwise
theorem read3 (k : Fin 1024) (p : Fin 3080) : (iblk m c 3 t : FVec Ideal S1024x3080 .bf16) (ix2 k p) = wA m c (ix3 0 k p) := by
  refine Eq.trans (b := (V m c main_v2 : FVec Ideal S1024x3080 .bf16) (ix2 k p)) (by blk_ext [iblk, idx t]) ?_
  entry_read
  pointwise
end Reads

theorem block4 (c : Dev nD) (t : Fin cfg0.N) (r : Fin 512) (e : Fin 1024) : held4 m c t (ix2 r e) = cols (hA m c) (gA m c) (wA m c) (row t r) 0 third0 e := by
  rw [held4_eq]
  refine (prompt_cols0 _ _ _ r e).trans ?_
  simp only [cols, read0, read2, read3]
theorem array4 (c : Dev nD) : (dats m 0 c).arrAt 4 (cfgs 0).N = fun j => cols (hA m c) (gA m c) (wA m c) (j 0) 0 third0 (j 1) := by
  refine (dats m 0 c).arrAt_eq_of_covers 4 _ (by decide +kernel) fun t hf y => ?_
  blk_simp
  rw [after4]
  refine (congrArg (held4 m c t) (eq_ix2 y)).trans ((block4 m c t (y 0) (y 1)).trans ?_)
  have h0 : row t (y 0) = (win0_4.blk t).view.emb y 0 := Fin.ext (by blk_simp [idx t]; rfl)
  have h1 : y 1 = (win0_4.blk t).view.emb y 1 := Fin.ext (by blk_simp [idx t])
  rw [← h0, ← h1]

theorem block5 (c : Dev nD) (t : Fin cfg0.N) (r : Fin 512) (e : Fin 1024) : held5 m c t (ix2 r e) = cols (hA m c) (gA m c) (wA m c) (row t r) 1024 third1 e := by
  rw [held5_eq]
  refine (prompt_cols1 _ _ _ r e).trans ?_
  simp only [cols, read0, read2, read3]
theorem array5 (c : Dev nD) : (dats m 0 c).arrAt 5 (cfgs 0).N = fun j => cols (hA m c) (gA m c) (wA m c) (j 0) 1024 third1 (j 1) := by
  refine (dats m 0 c).arrAt_eq_of_covers 5 _ (by decide +kernel) fun t hf y => ?_
  blk_simp
  rw [after5]
  refine (congrArg (held5 m c t) (eq_ix2 y)).trans ((block5 m c t (y 0) (y 1)).trans ?_)
  have h0 : row t (y 0) = (win0_5.blk t).view.emb y 0 := Fin.ext (by blk_simp [idx t]; rfl)
  have h1 : y 1 = (win0_5.blk t).view.emb y 1 := Fin.ext (by blk_simp [idx t])
  rw [← h0, ← h1]

theorem block6 (c : Dev nD) (t : Fin cfg0.N) (r : Fin 512) (e : Fin 1024) : held6 m c t (ix2 r e) = cols (hA m c) (gA m c) (wA m c) (row t r) 2048 third2 e := by
  rw [held6_eq]
  refine (prompt_cols2 _ _ _ r e).trans ?_
  simp only [cols, read0, read2, read3]
theorem array6 (c : Dev nD) : (dats m 0 c).arrAt 6 (cfgs 0).N = fun j => cols (hA m c) (gA m c) (wA m c) (j 0) 2048 third2 (j 1) := by
  refine (dats m 0 c).arrAt_eq_of_covers 6 _ (by decide +kernel) fun t hf y => ?_
  blk_simp
  rw [after6]
  refine (congrArg (held6 m c t) (eq_ix2 y)).trans ((block6 m c t (y 0) (y 1)).trans ?_)
  have h0 : row t (y 0) = (win0_6.blk t).view.emb y 0 := Fin.ext (by blk_simp [idx t]; rfl)
  have h1 : y 1 = (win0_6.blk t).view.emb y 1 := Fin.ext (by blk_simp [idx t])
  rw [← h0, ← h1]

theorem block7 (c : Dev nD) (t : Fin cfg0.N) (r : Fin 512) (e : Fin 128) : held7 m c t (ix2 r e) = gates (hA m c) (gA m c) (wA m c) (row t r) e := by
  rw [held7_eq]
  refine (prompt_gates _ _ _ r e).trans ?_
  simp only [gates, read0, read2, read3]
theorem array7 (c : Dev nD) : (dats m 0 c).arrAt 7 (cfgs 0).N = fun j => gates (hA m c) (gA m c) (wA m c) (j 0) (j 1) := by
  refine (dats m 0 c).arrAt_eq_of_covers 7 _ (by decide +kernel) fun t hf y => ?_
  blk_simp
  rw [after7]
  refine (congrArg (held7 m c t) (eq_ix2 y)).trans ((block7 m c t (y 0) (y 1)).trans ?_)
  have h0 : row t (y 0) = (win0_7.blk t).view.emb y 0 := Fin.ext (by blk_simp [idx t]; rfl)
  have h1 : y 1 = (win0_7.blk t).view.emb y 1 := Fin.ext (by blk_simp [idx t])
  rw [← h0, ← h1]

theorem block8 (c : Dev nD) (r : Fin 128) (e : Fin 1024) : held8 m c (ix2 r e) = cols (hsA m c) (gA m c) (wA m c) r 0 third0 e := by
  rw [held8_eq]
  refine (sample_cols0 _ _ _ r e).trans ?_
  simp only [cols, read1, read2, read3]
theorem array8 (c : Dev nD) : (dats m 0 c).arrAt 8 (cfgs 0).N = fun j => cols (hsA m c) (gA m c) (wA m c) (j 0) 0 third0 (j 1) := by
  refine (dats m 0 c).arrAt_eq_of_covers 8 _ (by decide +kernel) fun t hf y => ?_
  blk_simp
  rw [after8]
  refine (congrArg (held8 m c) (eq_ix2 y)).trans ((block8 m c (y 0) (y 1)).trans ?_)
  have h0 : y 0 = (win0_8.blk t).view.emb y 0 := Fin.ext (by blk_simp [idx t])
  have h1 : y 1 = (win0_8.blk t).view.emb y 1 := Fin.ext (by blk_simp [idx t])
  rw [← h0, ← h1]

theorem block9 (c : Dev nD) (r : Fin 128) (e : Fin 1024) : held9 m c (ix2 r e) = cols (hsA m c) (gA m c) (wA m c) r 1024 third1 e := by
  rw [held9_eq]
  refine (sample_cols1 _ _ _ r e).trans ?_
  simp only [cols, read1, read2, read3]
theorem array9 (c : Dev nD) : (dats m 0 c).arrAt 9 (cfgs 0).N = fun j => cols (hsA m c) (gA m c) (wA m c) (j 0) 1024 third1 (j 1) := by
  refine (dats m 0 c).arrAt_eq_of_covers 9 _ (by decide +kernel) fun t hf y => ?_
  blk_simp
  rw [after9]
  refine (congrArg (held9 m c) (eq_ix2 y)).trans ((block9 m c (y 0) (y 1)).trans ?_)
  have h0 : y 0 = (win0_9.blk t).view.emb y 0 := Fin.ext (by blk_simp [idx t])
  have h1 : y 1 = (win0_9.blk t).view.emb y 1 := Fin.ext (by blk_simp [idx t])
  rw [← h0, ← h1]

theorem block10 (c : Dev nD) (r : Fin 128) (e : Fin 1024) : held10 m c (ix2 r e) = cols (hsA m c) (gA m c) (wA m c) r 2048 third2 e := by
  rw [held10_eq]
  refine (sample_cols2 _ _ _ r e).trans ?_
  simp only [cols, read1, read2, read3]
theorem array10 (c : Dev nD) : (dats m 0 c).arrAt 10 (cfgs 0).N = fun j => cols (hsA m c) (gA m c) (wA m c) (j 0) 2048 third2 (j 1) := by
  refine (dats m 0 c).arrAt_eq_of_covers 10 _ (by decide +kernel) fun t hf y => ?_
  blk_simp
  rw [after10]
  refine (congrArg (held10 m c) (eq_ix2 y)).trans ((block10 m c (y 0) (y 1)).trans ?_)
  have h0 : y 0 = (win0_10.blk t).view.emb y 0 := Fin.ext (by blk_simp [idx t])
  have h1 : y 1 = (win0_10.blk t).view.emb y 1 := Fin.ext (by blk_simp [idx t])
  rw [← h0, ← h1]

theorem block11 (c : Dev nD) (r : Fin 128) (e : Fin 128) : held11 m c (ix2 r e) = gates (hsA m c) (gA m c) (wA m c) r e := by
  rw [held11_eq]
  refine (sample_gates _ _ _ r e).trans ?_
  simp only [gates, read1, read2, read3]
theorem array11 (c : Dev nD) : (dats m 0 c).arrAt 11 (cfgs 0).N = fun j => gates (hsA m c) (gA m c) (wA m c) (j 0) (j 1) := by
  refine (dats m 0 c).arrAt_eq_of_covers 11 _ (by decide +kernel) fun t hf y => ?_
  blk_simp
  rw [after11]
  refine (congrArg (held11 m c) (eq_ix2 y)).trans ((block11 m c (y 0) (y 1)).trans ?_)
  have h0 : y 0 = (win0_11.blk t).view.emb y 0 := Fin.ext (by blk_simp [idx t])
  have h1 : y 1 = (win0_11.blk t).view.emb y 1 := Fin.ext (by blk_simp [idx t])
  rw [← h0, ← h1]

end Cert.ProjIdeal.Body

end
-- ==== Proof.ProjClaim.lean ====
module

public import proofs.«01_k».proof.Proof.ProjKernel
public import proofs.«01_k».proof.Proof.Gen.ProjRefIdeal.Run
public import proofs.«01_k».proof.Proof.Gen.Proj.Launch
public import proofs.«01_k».proof.Defs
public import Idealize.ShloMosaic.Lib.KernelVsHost

@[expose] public section

set_option maxRecDepth 16384

noncomputable section

open Idealize.ShloMosaic Idealize.ShloMosaic.TcCoe Idealize.SL.Sem

namespace Cert.ProjRefIdeal.Body

open Cert.ProjRefIdeal Cert.ProjRefIdeal.Gen Cert.Ffn

variable (m : (ℓ : Loc nD τ sig) → Buf (Elt Ideal) ℓ) (ρ : Dev nD → PrngReg)

section prompt
variable (h : FVec Ideal S16384x1024 .f32) (g : FVec Ideal S1x1024 .f32) (w : FVec Ideal S1x1024x3080 .f32) (r : Fin 16384) (e : Fin 1024) (p : Fin 3080) (l : Fin 128)

/-- the rows brought to unit mean square and scaled -/
def promptNorm : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0
    (Host.reduceAdd (mulf h h) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 g shapeCasts_S1x1024_S1024)))
/-- all the columns of the projection -/
def promptProj : FVec Ideal S16384x3080 .f32 :=
  Host.dotGeneral dot_S16384x1024_S1024x3080_S16384x3080_1_0_0_1_n_n none (promptNorm h g) (shapeCast S1024x3080 w shapeCasts_S1x1024x3080_S1024x3080)
/-- the gates, padded -/
def promptGates : FVec Ideal S16384x128 .f32 :=
  pad S16384x128 ![0, 0] ![0, 120] ![0, 0] (extractStridedSlice S16384x8 ![0, 3072] (promptProj h g w) slices_S16384x3080_S16384x8_0_3072)
    (sitofp .f32 (constantI S_ 32 0#32)) pads_S16384x8_S16384x128_000_01200 h_S_

theorem promptNorm_apply : promptNorm h g (ix2 r e) = normed (fun k => h (ix2 r k)) (fun k => g (ix2 0 k)) e := by
  pointwise [promptNorm, normed]
theorem promptProj_apply : promptProj h g w (ix2 r p) = column (fun k => h (ix2 r k)) (fun k => g (ix2 0 k)) (fun k p => w (ix3 0 k p)) p := by
  unfold promptProj column
  pointwise
  simp only [promptNorm_apply]
theorem promptGates_apply : promptGates h g w (ix2 r l) = gates h g w r l := by
  have z : (FloatOps.sitofp (F := Ideal) .f32 (0#32 : BitVec 32) : EReal) = 0 := sitofp_zero
  unfold promptGates gates lane
  pointwise
  simp only [promptProj_apply, z]
theorem promptCols0_apply : extractStridedSlice S16384x1024 ![0, 0] (promptProj h g w) slices_S16384x3080_S16384x1024_0_0 (ix2 r e) = cols h g w r 0 third0 e := by
  unfold cols at_
  pointwise
  simp only [promptProj_apply]
theorem promptCols1_apply : extractStridedSlice S16384x1024 ![0, 1024] (promptProj h g w) slices_S16384x3080_S16384x1024_0_1024 (ix2 r e) = cols h g w r 1024 third1 e := by
  unfold cols at_
  pointwise
  simp only [promptProj_apply]
theorem promptCols2_apply : extractStridedSlice S16384x1024 ![0, 2048] (promptProj h g w) slices_S16384x3080_S16384x1024_0_2048 (ix2 r e) = cols h g w r 2048 third2 e := by
  unfold cols at_
  pointwise
  simp only [promptProj_apply]
end prompt

section sample
variable (h : FVec Ideal S128x1024 .f32) (g : FVec Ideal S1x1024 .f32) (w : FVec Ideal S1x1024x3080 .f32) (r : Fin 128) (e : Fin 1024) (p : Fin 3080) (l : Fin 128)

/-- the rows brought to unit mean square and scaled -/
def sampleNorm : FVec Ideal S128x1024 .f32 :=
  mulf (mulf h (broadcastInDim S128x1024 ![0, 1] bcast_S128x1_S128x1024_0_1 (Host.rsqrt (addf (Host.divf (broadcastInDim S128x1 ![0] bcast_S128_S128x1_0
    (Host.reduceAdd (mulf h h) (constant S_ .f32 0x00000000#32) reducesTo_S128x1024_S128_d1 h_S_)) (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 (shapeCast S1024 g shapeCasts_S1x1024_S1024)))
/-- all the columns of the projection -/
def sampleProj : FVec Ideal S128x3080 .f32 :=
  Host.dotGeneral dot_S128x1024_S1024x3080_S128x3080_1_0_0_1_n_n none (sampleNorm h g) (shapeCast S1024x3080 w shapeCasts_S1x1024x3080_S1024x3080)
/-- the gates, padded -/
def sampleGates : FVec Ideal S128x128 .f32 :=
  pad S128x128 ![0, 0] ![0, 120] ![0, 0] (extractStridedSlice S128x8 ![0, 3072] (sampleProj h g w) slices_S128x3080_S128x8_0_3072)
    (sitofp .f32 (constantI S_ 32 0#32)) pads_S128x8_S128x128_000_01200 h_S_

theorem sampleNorm_apply : sampleNorm h g (ix2 r e) = normed (fun k => h (ix2 r k)) (fun k => g (ix2 0 k)) e := by
  pointwise [sampleNorm, normed]
theorem sampleProj_apply : sampleProj h g w (ix2 r p) = column (fun k => h (ix2 r k)) (fun k => g (ix2 0 k)) (fun k p => w (ix3 0 k p)) p := by
  unfold sampleProj column
  pointwise
  simp only [sampleNorm_apply]
theorem sampleGates_apply : sampleGates h g w (ix2 r l) = gates h g w r l := by
  have z : (FloatOps.sitofp (F := Ideal) .f32 (0#32 : BitVec 32) : EReal) = 0 := sitofp_zero
  unfold sampleGates gates lane
  pointwise
  simp only [sampleProj_apply, z]
theorem sampleCols0_apply : extractStridedSlice S128x1024 ![0, 0] (sampleProj h g w) slices_S128x3080_S128x1024_0_0 (ix2 r e) = cols h g w r 0 third0 e := by
  unfold cols at_
  pointwise
  simp only [sampleProj_apply]
theorem sampleCols1_apply : extractStridedSlice S128x1024 ![0, 1024] (sampleProj h g w) slices_S128x3080_S128x1024_0_1024 (ix2 r e) = cols h g w r 1024 third1 e := by
  unfold cols at_
  pointwise
  simp only [sampleProj_apply]
theorem sampleCols2_apply : extractStridedSlice S128x1024 ![0, 2048] (sampleProj h g w) slices_S128x3080_S128x1024_0_2048 (ix2 r e) = cols h g w r 2048 third2 e := by
  unfold cols at_
  pointwise
  simp only [sampleProj_apply]
end sample

/-- the reference's arrays are the columns of the projection -/
theorem run_columns : θ_run defs (onTc (τ := τ) (main (F := Ideal))) ⟨m, fun _ => 0, ρ⟩ (fun r => ∀ c : Dev nD,
      r.2.mem ((c.tc : Thread nD τ).loc main_v16) = (fun j => cols (m ((c : Thread nD τ).loc main_arg0)) (m ((c : Thread nD τ).loc main_arg2)) (m ((c : Thread nD τ).loc main_arg3)) (j 0) 0 third0 (j 1) : FVec Ideal S16384x1024 .f32)
      ∧ r.2.mem ((c.tc : Thread nD τ).loc main_v17) = (fun j => cols (m ((c : Thread nD τ).loc main_arg0)) (m ((c : Thread nD τ).loc main_arg2)) (m ((c : Thread nD τ).loc main_arg3)) (j 0) 1024 third1 (j 1) : FVec Ideal S16384x1024 .f32)
      ∧ r.2.mem ((c.tc : Thread nD τ).loc main_v18) = (fun j => cols (m ((c : Thread nD τ).loc main_arg0)) (m ((c : Thread nD τ).loc main_arg2)) (m ((c : Thread nD τ).loc main_arg3)) (j 0) 2048 third2 (j 1) : FVec Ideal S16384x1024 .f32)
      ∧ r.2.mem ((c.tc : Thread nD τ).loc main_v20) = (fun j => gates (m ((c : Thread nD τ).loc main_arg0)) (m ((c : Thread nD τ).loc main_arg2)) (m ((c : Thread nD τ).loc main_arg3)) (j 0) (j 1) : FVec Ideal S16384x128 .f32)
      ∧ r.2.mem ((c.tc : Thread nD τ).loc main_v37) = (fun j => cols (m ((c : Thread nD τ).loc main_arg1)) (m ((c : Thread nD τ).loc main_arg2)) (m ((c : Thread nD τ).loc main_arg3)) (j 0) 0 third0 (j 1) : FVec Ideal S128x1024 .f32)
      ∧ r.2.mem ((c.tc : Thread nD τ).loc main_v38) = (fun j => cols (m ((c : Thread nD τ).loc main_arg1)) (m ((c : Thread nD τ).loc main_arg2)) (m ((c : Thread nD τ).loc main_arg3)) (j 0) 1024 third1 (j 1) : FVec Ideal S128x1024 .f32)
      ∧ r.2.mem ((c.tc : Thread nD τ).loc main_v39) = (fun j => cols (m ((c : Thread nD τ).loc main_arg1)) (m ((c : Thread nD τ).loc main_arg2)) (m ((c : Thread nD τ).loc main_arg3)) (j 0) 2048 third2 (j 1) : FVec Ideal S128x1024 .f32)
      ∧ r.2.mem ((c.tc : Thread nD τ).loc main_v41) = (fun j => gates (m ((c : Thread nD τ).loc main_arg1)) (m ((c : Thread nD τ).loc main_arg2)) (m ((c : Thread nD τ).loc main_arg3)) (j 0) (j 1) : FVec Ideal S128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Value.run m ρ)
  · refine Eq.trans (b := extractStridedSlice S16384x1024 ![0, 0] (promptProj (m ((c : Thread nD τ).loc main_arg0)) (m ((c : Thread nD τ).loc main_arg2)) (m ((c : Thread nD τ).loc main_arg3))) slices_S16384x3080_S16384x1024_0_0) (by unfold promptProj promptNorm; congr 2) (funext fun j => ?_)
    refine (congrArg _ (eq_ix2 j)).trans ?_
    exact promptCols0_apply _ _ _ (j 0) (j 1)
  · refine Eq.trans (b := extractStridedSlice S16384x1024 ![0, 1024] (promptProj (m ((c : Thread nD τ).loc main_arg0)) (m ((c : Thread nD τ).loc main_arg2)) (m ((c : Thread nD τ).loc main_arg3))) slices_S16384x3080_S16384x1024_0_1024) (by unfold promptProj promptNorm; congr 2) (funext fun j => ?_)
    refine (congrArg _ (eq_ix2 j)).trans ?_
    exact promptCols1_apply _ _ _ (j 0) (j 1)
  · refine Eq.trans (b := extractStridedSlice S16384x1024 ![0, 2048] (promptProj (m ((c : Thread nD τ).loc main_arg0)) (m ((c : Thread nD τ).loc main_arg2)) (m ((c : Thread nD τ).loc main_arg3))) slices_S16384x3080_S16384x1024_0_2048) (by unfold promptProj promptNorm; congr 2) (funext fun j => ?_)
    refine (congrArg _ (eq_ix2 j)).trans ?_
    exact promptCols2_apply _ _ _ (j 0) (j 1)
  · refine Eq.trans (b := promptGates (m ((c : Thread nD τ).loc main_arg0)) (m ((c : Thread nD τ).loc main_arg2)) (m ((c : Thread nD τ).loc main_arg3))) (by unfold promptGates promptProj promptNorm; congr 3) (funext fun j => ?_)
    refine (congrArg _ (eq_ix2 j)).trans ?_
    exact promptGates_apply _ _ _ (j 0) (j 1)
  · refine Eq.trans (b := extractStridedSlice S128x1024 ![0, 0] (sampleProj (m ((c : Thread nD τ).loc main_arg1)) (m ((c : Thread nD τ).loc main_arg2)) (m ((c : Thread nD τ).loc main_arg3))) slices_S128x3080_S128x1024_0_0) (by unfold sampleProj sampleNorm; congr 2) (funext fun j => ?_)
    refine (congrArg _ (eq_ix2 j)).trans ?_
    exact sampleCols0_apply _ _ _ (j 0) (j 1)
  · refine Eq.trans (b := extractStridedSlice S128x1024 ![0, 1024] (sampleProj (m ((c : Thread nD τ).loc main_arg1)) (m ((c : Thread nD τ).loc main_arg2)) (m ((c : Thread nD τ).loc main_arg3))) slices_S128x3080_S128x1024_0_1024) (by unfold sampleProj sampleNorm; congr 2) (funext fun j => ?_)
    refine (congrArg _ (eq_ix2 j)).trans ?_
    exact sampleCols1_apply _ _ _ (j 0) (j 1)
  · refine Eq.trans (b := extractStridedSlice S128x1024 ![0, 2048] (sampleProj (m ((c : Thread nD τ).loc main_arg1)) (m ((c : Thread nD τ).loc main_arg2)) (m ((c : Thread nD τ).loc main_arg3))) slices_S128x3080_S128x1024_0_2048) (by unfold sampleProj sampleNorm; congr 2) (funext fun j => ?_)
    refine (congrArg _ (eq_ix2 j)).trans ?_
    exact sampleCols2_apply _ _ _ (j 0) (j 1)
  · refine Eq.trans (b := sampleGates (m ((c : Thread nD τ).loc main_arg1)) (m ((c : Thread nD τ).loc main_arg2)) (m ((c : Thread nD τ).loc main_arg3))) (by unfold sampleGates sampleProj sampleNorm; congr 3) (funext fun j => ?_)
    refine (congrArg _ (eq_ix2 j)).trans ?_
    exact sampleGates_apply _ _ _ (j 0) (j 1)
end Cert.ProjRefIdeal.Body

namespace Cert.ProjClaim

open Cert.Ffn

theorem frame_reference : Cert.quiescent_ProjRefIdeal := fun m g _ =>
  (θ_run Cert.ProjRefIdeal.defs _ _).mono (fun r h => ⟨fun c => (h c).2.2.2.2.2.2.2.2, sem_eq_zero_of_no_sems (by decide) r.2⟩) (Cert.ProjRefIdeal.Body.run_columns m g)

/-- the program and its idealization run the same bodies -/
theorem bodies_same {F : FTy → Type} [FloatOps F] : Cert.Proj.defs₀ (F := F) = Cert.ProjIdeal.defs₀ (F := F) := by
  unfold Cert.Proj.defs₀ Cert.ProjIdeal.defs₀
  refine congrArg Defs.onTc (funext fun l => funext fun a => ?_)
  match l, a with
  | 0, (t, s) => rfl
  | ⟨_ + 1, h⟩, _ => exact absurd h (Nat.not_lt.2 (Nat.le_add_left _ _))
theorem defs_same {F : FTy → Type} [FloatOps F] : Cert.Proj.defs (F := F) = Cert.ProjIdeal.defs (F := F) := congrArg (Pipeline.defs Cert.Proj.pcfgs) bodies_same

theorem frame_kernel : Cert.quiescent_Proj := fun m g _ => by
  have h := Cert.ProjIdeal.Body.frame (F := Bits) m g
  rw [← defs_same] at h
  exact h

open Cert.ProjIdeal Cert.ProjIdeal.Gen Cert.ProjIdeal.Body in
theorem claim : Cert.algebraic_ProjIdeal_ProjRefIdeal := by
  intro m g m' g' hpre hag
  refine ⟨fun c => (dats m 0 c).arrAt 4 (cfgs 0).N, fun c => (dats m 0 c).arrAt 5 (cfgs 0).N, fun c => (dats m 0 c).arrAt 6 (cfgs 0).N, fun c => (dats m 0 c).arrAt 7 (cfgs 0).N, fun c => (dats m 0 c).arrAt 8 (cfgs 0).N, fun c => (dats m 0 c).arrAt 9 (cfgs 0).N, fun c => (dats m 0 c).arrAt 10 (cfgs 0).N, fun c => (dats m 0 c).arrAt 11 (cfgs 0).N,
    (θ_run _ _ _).mono (fun r h c => ⟨(h.1 c).1 4, (h.1 c).1 5, (h.1 c).1 6, (h.1 c).1 7, (h.1 c).1 8, (h.1 c).1 9, (h.1 c).1 10, (h.1 c).1 11, h.2 c⟩) (θ_run_and (run_main m g) (unchanged m g)),
    (θ_run _ _ _).mono (fun r h c => ?_) (Cert.ProjRefIdeal.Body.run_columns m' g')⟩
  obtain ⟨a0, a1, a2, a3⟩ := hag c
  obtain ⟨s4, s5, s6, s7, s8, s9, s10, s11, keep⟩ := h c
  rw [a0, a2, a3] at s4 s5 s6 s7
  rw [a1, a2, a3] at s8 s9 s10 s11
  exact ⟨s4.trans (array4 m c).symm, s5.trans (array5 m c).symm, s6.trans (array6 m c).symm, s7.trans (array7 m c).symm, s8.trans (array8 m c).symm, s9.trans (array9 m c).symm, s10.trans (array10 m c).symm, s11.trans (array11 m c).symm, keep⟩
end Cert.ProjClaim

end
-- ==== Proof.AbTerms.lean ====
module

public import proofs.«01_k».proof.Proof.Masked
public import proofs.«01_k».proof.Proof.Gen.AbIdeal.Value

@[expose] public section

set_option maxRecDepth 16384
noncomputable section
open Idealize.ShloMosaic Idealize.ShloMosaic.TcCoe Idealize.SL.Sem
/-! One step of layer 0's retention, written over arrays of `n` rows: the same terms serve a block of rows and the whole array. -/
namespace Cert.Retain

theorem lt_low (a : Fin 64) : a.val < 128 := by omega
theorem lt_rest (h : Fin 4) (e : Fin 128) : 1536 + 128 * h.val + e.val < 2560 := by omega
theorem lt_high (a : Fin 64) : 64 + a.val < 128 := by omega
theorem lt_buf (w : Fin 3) (k : Fin 1536) : 1536 * w.val + k.val < 4608 := by omega

/-- the factor by which head `h`'s state decays in a step -/
def decay (h : Fin 4) : EReal :=
  ![Ideal.ofBits .f32 0x3F780000#32, Ideal.ofBits .f32 0x3F7C0000#32, Ideal.ofBits .f32 0x3F7E0000#32, Ideal.ofBits .f32 0x3F7F0000#32] h
/-- the scale of the keys -/
def scale : EReal := Ideal.ofBits .f32 0x3DB504F3#32

section
variable {n : ℕ} (rest : FVec Ideal ⟨2, ![n, 2560]⟩ .f32) (cos sin : FVec Ideal ⟨2, ![1, 128]⟩ .f32)
  (sr : FVec Ideal ⟨4, ![n, 4, 128, 128]⟩ .f32) (b : Fin n) (h : Fin 4)

/-- lane `a` of the rotated and scaled key -/
def key (a : Fin 128) : EReal :=
  (rest (ix2 b ⟨1024 + 128 * h + a, by omega⟩) * cos (ix2 0 a)
    + rest (ix2 b ⟨1024 + 128 * h + (a + 128 - 64) % 128, by omega⟩) * sin (ix2 0 a)) * scale
/-- the state after the step -/
def mem (a : Fin 128) (e : Fin 128) : EReal :=
  sr (ix4 b h a e) * decay h + key rest cos sin b h a * rest (ix2 b ⟨1536 + 128 * h + e, by omega⟩)
/-- lane `a` of the rotated query -/
def qry (a : Fin 128) : EReal :=
  rest (ix2 b ⟨512 + 128 * h + a, by omega⟩) * cos (ix2 0 a)
    + rest (ix2 b ⟨512 + 128 * h + (a + 128 - 64) % 128, by omega⟩) * sin (ix2 0 a)
/-- what the query reads from the state -/
def readout (e : Fin 128) : EReal := ∑ a : Fin 128, qry rest cos sin b h a * mem rest cos sin sr b h a e
end

/-- lane `e` of 128 lanes divided by their root mean square, scaled by `gain` and gated by `g` -/
def normed (x gain : Fin 128 → EReal) (g : EReal) (e : Fin 128) : EReal :=
  x e * Ideal.rsqrt (Ideal.div (∑ l : Fin 128, x l * x l) (Ideal.ofBits .f32 0x43000000#32) + Ideal.ofBits .f32 0x358637BD#32) * gain e * (g * Ideal.logistic g)

/-- the flattened new buffer: its first two rows are the old one's last two, its last the new row -/
def newBuf {n : ℕ} (qkv : FVec Ideal ⟨2, ![n, 1536]⟩ .f32) (buf : FVec Ideal ⟨2, ![n, 4608]⟩ .f32) (b : Fin n) (p : Fin 4608) : EReal :=
  if h : (p : ℕ) < 3072 then buf (ix2 b ⟨1536 + p, by omega⟩) else qkv (ix2 b ⟨p - 3072, by omega⟩)
end Cert.Retain

/-! One step of layer 0's gated delta rule, over arrays of `n` rows. -/
namespace Cert.Delta

/-- the softplus, as it is computed -/
def softplus (x : EReal) : EReal := max x 0 + Ideal.log1p (Ideal.exp (0 - FloatOps.absf (F := Ideal) (φ := .f32) x))

section
variable {n : ℕ} (qkv : FVec Ideal ⟨2, ![n, 1536]⟩ .f32) (w : FVec Ideal ⟨2, ![4, 1536]⟩ .f32) (buf : FVec Ideal ⟨2, ![n, 4608]⟩ .f32)
  (g : FVec Ideal ⟨2, ![n, 128]⟩ .f32) (p : FVec Ideal ⟨2, ![8, 128]⟩ .f32) (sd : FVec Ideal ⟨4, ![n, 4, 128, 128]⟩ .f32)
  (b : Fin n) (h : Fin 4)

/-- channel `j` of the convolution over the buffer's three rows and the new one -/
def conv (j : Fin 1536) : EReal :=
  buf (ix2 b ⟨j, by omega⟩) * w (ix2 0 j) + buf (ix2 b ⟨1536 + j, by omega⟩) * w (ix2 1 j) + buf (ix2 b ⟨3072 + j, by omega⟩) * w (ix2 2 j)
    + qkv (ix2 b j) * w (ix2 3 j)
/-- the convolution times its logistic -/
def act (j : Fin 1536) : EReal := conv qkv w buf b j * Ideal.logistic (conv qkv w buf b j)
/-- the reciprocal length of the 128 lanes of `act` that begin at `j` -/
def unit (j : ℕ) (hj : j + 128 ≤ 1536) : EReal :=
  Ideal.rsqrt ((∑ l : Fin 128, act qkv w buf b ⟨j + l, by omega⟩ * act qkv w buf b ⟨j + l, by omega⟩) + Ideal.ofBits .f32 0x358637BD#32)
/-- the query -/
def qry (a : Fin 128) : EReal := act qkv w buf b ⟨128 * h + a, by omega⟩ * unit qkv w buf b (128 * h) (by omega) * Retain.scale
/-- the key -/
def key (a : Fin 128) : EReal := act qkv w buf b ⟨512 + 128 * h + a, by omega⟩ * unit qkv w buf b (512 + 128 * h) (by omega)
/-- the logarithm of the decay -/
def logDecay : EReal := (0 - Ideal.exp (p (ix2 0 ⟨h, by omega⟩))) * softplus (g (ix2 b ⟨h, by omega⟩) + p (ix2 1 ⟨h, by omega⟩))
/-- the share of the new value that is written -/
def beta : EReal := Ideal.logistic (g (ix2 b ⟨4 + h, by omega⟩))
/-- what the key reads from the state -/
def read (e : Fin 128) : EReal := ∑ a : Fin 128, key qkv w buf b h a * sd (ix4 b h a e)
/-- the value that is written -/
def val (e : Fin 128) : EReal :=
  beta g b h * (act qkv w buf b ⟨1024 + 128 * h + e, by omega⟩ - Ideal.exp (logDecay g p b h) * read qkv w buf sd b h e)
/-- the state after the step -/
def mem (a e : Fin 128) : EReal := sd (ix4 b h a e) * Ideal.exp (logDecay g p b h) + key qkv w buf b h a * val qkv w buf g p sd b h e
/-- what the query reads from the state -/
def readout (e : Fin 128) : EReal := ∑ a : Fin 128, qry qkv w buf b h a * mem qkv w buf g p sd b h a e

/-- lane `e` of head `k` of the step's output: the delta rule's four heads, then the retention's four -/
def mixed (rest : FVec Ideal ⟨2, ![n, 2560]⟩ .f32) (cos sin ga gb : FVec Ideal ⟨2, ![1, 128]⟩ .f32) (sr : FVec Ideal ⟨4, ![n, 4, 128, 128]⟩ .f32) (k : Fin 8)
    (e : Fin 128) : EReal :=
  if hk : (k : ℕ) < 4 then
    Retain.normed (readout qkv w buf g p sd b ⟨k, hk⟩) (fun l => ga (ix2 0 l)) (rest (ix2 b ⟨128 * k + e, by omega⟩)) e
  else
    Retain.normed (Retain.readout rest cos sin sr b ⟨k - 4, by omega⟩) (fun l => gb (ix2 0 l)) (rest (ix2 b ⟨2048 + 128 * (k - 4) + e, by omega⟩)) e
end
end Cert.Delta
-- ==== Proof.AbDelta.lean ====
module

public import proofs.«01_k».proof.Proof.AbTerms

@[expose] public section

set_option maxRecDepth 16384
noncomputable section
open Idealize.ShloMosaic Idealize.ShloMosaic.TcCoe Idealize.SL.Sem
open Idealize.ShloMosaic.Pipeline (Dat)
namespace Cert.AbIdeal.Step
open Cert.AbIdeal Cert.AbIdeal.Gen Cert.Masked Cert.Retain
variable (m : (ℓ : Loc nD τ sig) → Buf (Elt Ideal) ℓ)

set_option maxHeartbeats 2000000 in
theorem out14 (c : Dev nD) (t : Fin cfg0.N) (y : S8x4x128x128.Idx) : (outsAt0 m c t).2.2.1 y
    = Delta.mem (iblk m c 0 t) (iblk m c 5 t) (iblk m c 9 t) (iblk m c 2 t) (iblk m c 6 t) (iblk m c 10 t) (y 0) (y 1) (y 2) (y 3) := by
  unfold outsAt0
  frame_out
  generalize iblk m c 0 t = x0, iblk m c 5 t = x5, iblk m c 9 t = x9, iblk m c 2 t = x2, iblk m c 6 t = x6, iblk m c 10 t = x10
  canon_tiles x h
  all_goals
    first
      | refine Eq.trans ?_ (at_cell _ h0 h1 h2 h3 x0_lt x1_lt).symm
      | refine Eq.trans ?_ (at_cell _ h0 (h1.trans (Nat.zero_add _).symm) h2 h3 x0_lt x1_lt).symm
      | refine Eq.trans ?_ (at_cell _ (h0.trans (Nat.zero_add _).symm) h1 h2 h3 x0_lt x1_lt).symm
      | refine Eq.trans ?_ (at_cell _ (h0.trans (Nat.zero_add _).symm) (h1.trans (Nat.zero_add _).symm) h2 h3 x0_lt x1_lt).symm
    open_payloads; pointwise [Delta.mem]
    refine congrArg₂ HAdd.hAdd ?_ ((row_sum _ _ (by decide)).trans ?_)
    · rfl
    · refine congrArg₂ HMul.hMul ?_ (congrArg₂ HMul.hMul ?_ (congrArg₂ HSub.hSub ?_ (congrArg₂ HMul.hMul ?_ ?_))) <;> rfl

end Cert.AbIdeal.Step
-- ==== Proof.AbBlocks.lean ====
module

public import proofs.«01_k».proof.Proof.AbTerms

@[expose] public section

set_option maxRecDepth 16384
noncomputable section
open Idealize.ShloMosaic Idealize.ShloMosaic.TcCoe Idealize.SL.Sem
open Idealize.ShloMosaic.Pipeline (Dat)
namespace Cert.AbIdeal.Step
open Cert.AbIdeal Cert.AbIdeal.Gen Cert.Masked Cert.Retain
variable (m : (ℓ : Loc nD τ sig) → Buf (Elt Ideal) ℓ)

theorem out15 (c : Dev nD) (t : Fin cfg0.N) (y : S8x4x128x128.Idx) : (outsAt0 m c t).2.2.2 y
    = mem (iblk m c 1 t) (iblk m c 3 t) (iblk m c 4 t) (iblk m c 11 t) (y 0) (y 1) (y 2) (y 3) := by
  unfold outsAt0
  frame_out
  generalize iblk m c 1 t = x1, iblk m c 3 t = x3, iblk m c 4 t = x4, iblk m c 11 t = x11
  canon_tiles x h
  all_goals
    first
      | refine Eq.trans ?_ (at_cell _ h0 h1 h2 h3 x0_lt x1_lt).symm
      | refine Eq.trans ?_ (at_cell _ h0 (h1.trans (Nat.zero_add _).symm) h2 h3 x0_lt x1_lt).symm
      | refine Eq.trans ?_ (at_cell _ (h0.trans (Nat.zero_add _).symm) h1 h2 h3 x0_lt x1_lt).symm
      | refine Eq.trans ?_ (at_cell _ (h0.trans (Nat.zero_add _).symm) (h1.trans (Nat.zero_add _).symm) h2 h3 x0_lt x1_lt).symm
    open_payloads; pointwise [mem, key, scale, decay]
    refine congrArg₂ HAdd.hAdd ?_ ((row_sum _ _ (by decide)).trans ?_) <;> rfl

theorem out13 (c : Dev nD) (t : Fin cfg0.N) (y : S8x4608.Idx) : (outsAt0 m c t).2.1 y
    = newBuf (iblk m c 0 t) (iblk m c 9 t) (y 0) (y 1) := by
  unfold outsAt0
  frame_out
  generalize iblk m c 0 t = x0, iblk m c 9 t = x9
  canon_tiles x h
  all_goals open_payloads; pointwise [newBuf]
  · rw [dif_neg (by omega)]
    refine congrArg x0 (funext fun i => Fin.ext ?_)
    fin_cases i
    · exact h0.symm
    · exact (by omega : (x 1 : ℕ) = y 1 - 3072)
  · rw [dif_pos (by omega)]
    exact congrArg x9 (congrArg₂ ix2 (Fin.ext h0.symm) (Fin.ext (by simp only; omega)))
  · rw [dif_pos (by omega)]
    exact congrArg x9 (congrArg₂ ix2 (Fin.ext h0.symm) (Fin.ext (by simp only; omega)))
end Cert.AbIdeal.Step
-- ==== Proof.AbReadout.lean ====
module

public import proofs.«01_k».proof.Proof.AbDelta
public import proofs.«01_k».proof.Proof.AbBlocks

@[expose] public section

set_option maxRecDepth 16384
noncomputable section
open Idealize.ShloMosaic Idealize.ShloMosaic.TcCoe Idealize.SL.Sem
open Idealize.ShloMosaic.Pipeline (Dat)
namespace Cert.AbIdeal.Step
open Cert.AbIdeal Cert.AbIdeal.Gen Cert.Masked Cert.Retain
variable (m : (ℓ : Loc nD τ sig) → Buf (Elt Ideal) ℓ)

/-- a function of a row, a head and a lane at an index of the tile that begins at column `K` -/
theorem at_column {α : Type} (f : Fin 8 → Fin 8 → Fin 128 → α) {a b : Fin 8} {p K : ℕ} {l : Fin 128} {hp hl} (h0 : (a : ℕ) = b) (h1 : p = K + l)
    (hK : K % 128 = 0) : f a ⟨p / 128, hp⟩ ⟨p % 128, hl⟩ = f b ⟨K / 128, by omega⟩ l := by
  obtain rfl : a = b := Fin.ext h0
  exact congrArg₂ _ (Fin.ext (by simp only; omega)) (Fin.ext (by simp only; omega))

set_option maxHeartbeats 4000000 in
theorem out12 (c : Dev nD) (t : Fin cfg0.N) (y : S8x1024.Idx) (hp : (y 1 : ℕ) / 128 < 8) : (outsAt0 m c t).1 y
    = Delta.mixed (iblk m c 0 t) (iblk m c 5 t) (iblk m c 9 t) (iblk m c 2 t) (iblk m c 6 t) (iblk m c 10 t) (y 0)
        (iblk m c 1 t) (iblk m c 3 t) (iblk m c 4 t) (iblk m c 7 t) (iblk m c 8 t) (iblk m c 11 t) ⟨y 1 / 128, hp⟩ ⟨y 1 % 128, by omega⟩ := by
  have hL := funext fun y => out14 m c t y
  have hR := funext fun y => out15 m c t y
  obtain ⟨M, hM⟩ : ∃ M, M = Delta.mem (iblk m c 0 t) (iblk m c 5 t) (iblk m c 9 t) (iblk m c 2 t) (iblk m c 6 t) (iblk m c 10 t) := ⟨_, rfl⟩
  obtain ⟨R, hR'⟩ : ∃ R, R = mem (iblk m c 1 t) (iblk m c 3 t) (iblk m c 4 t) (iblk m c 11 t) := ⟨_, rfl⟩
  rw [← hM] at hL
  rw [← hR'] at hR
  unfold outsAt0 at hL hR ⊢
  frame_out at hL
  frame_out at hR
  frame_out
  set_option backward.isDefEq.respectTransparency false in
  simp only [load_of_stores hL, load_of_stores hR]
  clear hL hR
  generalize iblk m c 0 t = x0, iblk m c 1 t = x1, iblk m c 2 t = x2, iblk m c 3 t = x3, iblk m c 4 t = x4, iblk m c 5 t = x5, iblk m c 6 t = x6,
    iblk m c 7 t = x7, iblk m c 8 t = x8, iblk m c 9 t = x9, iblk m c 10 t = x10, iblk m c 11 t = x11 at hM hR' ⊢
  canon_tiles x h
  all_goals
    first | refine Eq.trans ?_ (at_column (fun b k e => Delta.mixed x0 x5 x9 x2 x6 x10 b x1 x3 x4 x7 x8 x11 k e) h0 h1 rfl).symm | refine Eq.trans ?_ (at_column (fun b k e => Delta.mixed x0 x5 x9 x2 x6 x10 b x1 x3 x4 x7 x8 x11 k e) h0 (h1.trans (Nat.zero_add _).symm) rfl).symm
    open_payloads
    idx_vars x
    pointwise [Delta.mixed, normed]
    simp only [pick_row M, pick_row R]
    first | (rw [hM]; rfl) | (rw [hR']; rfl)
end Cert.AbIdeal.Step
-- ==== Proof.AbKernel.lean ====
module

public import proofs.«01_k».proof.Proof.AbReadout
public import proofs.«01_k».proof.Proof.Reals
public import Idealize.ShloMosaic.Lib.Routing.OpsOne

@[expose] public section

set_option maxRecDepth 16384
noncomputable section
open Idealize.ShloMosaic Idealize.ShloMosaic.TcCoe Idealize.SL.Sem
open Idealize.ShloMosaic.Pipeline (Dat)
open Idealize.ShloMosaic.Routing (resultIdx?_ix2 start_pair scatter_set_hit scatter_set_miss)
namespace Cert.AbIdeal.Step
open Cert.AbIdeal Cert.AbIdeal.Gen Cert.Retain
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0, 0, 0] ∧ win0_11.index t = ![t.val, 0, 0, 0]
    ∧ win0_12.index t = ![t.val, 0] ∧ win0_13.index t = ![t.val, 0] ∧ win0_14.index t = ![t.val, 0, 0, 0] ∧ win0_15.index t = ![t.val, 0, 0, 0] :=
  (by decide +kernel : ∀ t : Fin grid0.N, _)

abbrev qkvA (c : Dev nD) : FVec Ideal S128x1536 .f32 := m ((c : Thread nD τ).loc main_arg0)
abbrev restA (c : Dev nD) : FVec Ideal S128x2560 .f32 := m ((c : Thread nD τ).loc main_arg1)
abbrev gA (c : Dev nD) : FVec Ideal S128x128 .f32 := m ((c : Thread nD τ).loc main_arg2)
abbrev cosA (c : Dev nD) : FVec Ideal S1x128 .f32 := V m c main_v0
abbrev sinA (c : Dev nD) : FVec Ideal S1x128 .f32 := V m c main_v2
abbrev wA (c : Dev nD) : FVec Ideal S4x1536 .f32 := m ((c : Thread nD τ).loc main_arg8)
abbrev pA (c : Dev nD) : FVec Ideal S8x128 .f32 := V m c main_v11
abbrev gaA (c : Dev nD) : FVec Ideal S1x128 .f32 := V m c main_v21
abbrev gbA (c : Dev nD) : FVec Ideal S1x128 .f32 := V m c main_v22
abbrev bufA (c : Dev nD) : FVec Ideal S128x4608 .f32 := V m c main_v23
abbrev sdA (c : Dev nD) : FVec Ideal S128x4x128x128 .f32 := m ((c : Thread nD τ).loc main_arg6)
abbrev srA (c : Dev nD) : FVec Ideal S128x4x128x128 .f32 := m ((c : Thread nD τ).loc main_arg7)

/-- row `r` of point `t` in the whole array -/
def row (t : Fin cfg0.N) (r : Fin 8) : Fin 128 := ⟨t.val * 8 + r, by have : t.val < 16 := t.isLt; omega⟩

section Reads
variable (c : Dev nD) (t : Fin cfg0.N) (r : Fin 8)
theorem read0 (k : Fin 1536) : (iblk m c 0 t : FVec Ideal S8x1536 .f32) (ix2 r k) = qkvA m c (ix2 (row t r) k) := by unfold row; blk_ext [iblk, V, idx t]
theorem read1 (k : Fin 2560) : (iblk m c 1 t : FVec Ideal S8x2560 .f32) (ix2 r k) = restA m c (ix2 (row t r) k) := by unfold row; blk_ext [iblk, V, idx t]
theorem read2 (k : Fin 128) : (iblk m c 2 t : FVec Ideal S8x128 .f32) (ix2 r k) = gA m c (ix2 (row t r) k) := by unfold row; blk_ext [iblk, V, idx t]
theorem read3 : (iblk m c 3 t : FVec Ideal S1x128 .f32) = cosA m c := by blk_ext! [iblk, idx t]
theorem read4 : (iblk m c 4 t : FVec Ideal S1x128 .f32) = sinA m c := by blk_ext! [iblk, idx t]
theorem read5 : (iblk m c 5 t : FVec Ideal S4x1536 .f32) = wA m c := by blk_ext! [iblk, V, idx t]
theorem read6 : (iblk m c 6 t : FVec Ideal S8x128 .f32) = pA m c := by blk_ext! [iblk, idx t]
theorem read7 : (iblk m c 7 t : FVec Ideal S1x128 .f32) = gaA m c := by blk_ext! [iblk, idx t]
theorem read8 : (iblk m c 8 t : FVec Ideal S1x128 .f32) = gbA m c := by blk_ext! [iblk, idx t]
theorem read9 (k : Fin 4608) : (iblk m c 9 t : FVec Ideal S8x4608 .f32) (ix2 r k) = bufA m c (ix2 (row t r) k) := by unfold row; blk_ext [iblk, idx t]
theorem read10 (h : Fin 4) (a : Fin 128) (e : Fin 128) : (iblk m c 10 t : FVec Ideal S8x4x128x128 .f32) (ix4 r h a e) = sdA m c (ix4 (row t r) h a e) := by
  unfold row; blk_ext [iblk, V, idx t]
theorem read11 (h : Fin 4) (a : Fin 128) (e : Fin 128) : (iblk m c 11 t : FVec Ideal S8x4x128x128 .f32) (ix4 r h a e) = srA m c (ix4 (row t r) h a e) := by
  unfold row; blk_ext [iblk, V, idx t]
end Reads

theorem mem_row (c : Dev nD) (t : Fin cfg0.N) (r : Fin 8) (h : Fin 4) (a e : Fin 128) :
    mem (iblk m c 1 t) (iblk m c 3 t) (iblk m c 4 t) (iblk m c 11 t) r h a e
    = mem (restA m c) (cosA m c) (sinA m c) (srA m c) (row t r) h a e := by
  simp only [mem, key, read1, read3, read4, read11]

theorem final15 (c : Dev nD) : (dats m 0 c).arrAt 15 (cfgs 0).N
    = (fun j => mem (restA m c) (cosA m c) (sinA m c) (srA m c) (j 0) (j 1) (j 2) (j 3)) := by
  refine (dats m 0 c).arrAt_eq_of_covers 15 _ (by decide +kernel) fun t hf y => ?_
  blk_simp
  rw [after0_15]
  refine (out15 m c t _).trans ((mem_row m c t (y 0) (y 1) (y 2) (y 3)).trans ?_)
  congr 1 <;> apply Fin.ext <;> blk_simp [idx t] <;> rfl

section Rows
variable (c : Dev nD) (t : Fin cfg0.N) (r : Fin 8) (h : Fin 4)
theorem act_row (j : Fin 1536) : Delta.act (iblk m c 0 t) (iblk m c 5 t) (iblk m c 9 t) r j = Delta.act (qkvA m c) (wA m c) (bufA m c) (row t r) j := by
  simp only [Delta.act, Delta.conv, read0, read5, read9]
theorem unit_row (j : ℕ) (hj : j + 128 ≤ 1536) :
    Delta.unit (iblk m c 0 t) (iblk m c 5 t) (iblk m c 9 t) r j hj = Delta.unit (qkvA m c) (wA m c) (bufA m c) (row t r) j hj := by
  simp only [Delta.unit, act_row]
theorem logDecay_row : Delta.logDecay (iblk m c 2 t) (iblk m c 6 t) r h = Delta.logDecay (gA m c) (pA m c) (row t r) h := by
  simp only [Delta.logDecay, read2, read6]
theorem delta_row (a e : Fin 128) :
    Delta.mem (iblk m c 0 t) (iblk m c 5 t) (iblk m c 9 t) (iblk m c 2 t) (iblk m c 6 t) (iblk m c 10 t) r h a e
    = Delta.mem (qkvA m c) (wA m c) (bufA m c) (gA m c) (pA m c) (sdA m c) (row t r) h a e := by
  simp only [Delta.mem, Delta.val, Delta.beta, logDecay_row, Delta.read, Delta.key, unit_row, act_row, read2, read10]
theorem readout_delta_row : Delta.readout (iblk m c 0 t) (iblk m c 5 t) (iblk m c 9 t) (iblk m c 2 t) (iblk m c 6 t) (iblk m c 10 t) r h
    = Delta.readout (qkvA m c) (wA m c) (bufA m c) (gA m c) (pA m c) (sdA m c) (row t r) h := by
  funext e
  simp only [Delta.readout, Delta.qry, delta_row, unit_row, act_row]
theorem readout_row : readout (iblk m c 1 t) (iblk m c 3 t) (iblk m c 4 t) (iblk m c 11 t) r h
    = readout (restA m c) (cosA m c) (sinA m c) (srA m c) (row t r) h := by
  funext e
  simp only [readout, mem_row]
  simp only [qry, read1, read3, read4]
theorem mixed_row (k : Fin 8) (e : Fin 128) :
    Delta.mixed (iblk m c 0 t) (iblk m c 5 t) (iblk m c 9 t) (iblk m c 2 t) (iblk m c 6 t) (iblk m c 10 t) r
        (iblk m c 1 t) (iblk m c 3 t) (iblk m c 4 t) (iblk m c 7 t) (iblk m c 8 t) (iblk m c 11 t) k e
    = Delta.mixed (qkvA m c) (wA m c) (bufA m c) (gA m c) (pA m c) (sdA m c) (row t r)
        (restA m c) (cosA m c) (sinA m c) (gaA m c) (gbA m c) (srA m c) k e := by
  simp only [Delta.mixed, readout_delta_row, readout_row, read1, read7, read8]
end Rows

theorem final14 (c : Dev nD) : (dats m 0 c).arrAt 14 (cfgs 0).N
    = (fun j => Delta.mem (qkvA m c) (wA m c) (bufA m c) (gA m c) (pA m c) (sdA m c) (j 0) (j 1) (j 2) (j 3)) := by
  refine (dats m 0 c).arrAt_eq_of_covers 14 _ (by decide +kernel) fun t hf y => ?_
  blk_simp
  rw [after0_14]
  refine (out14 m c t _).trans ((delta_row m c t (y 0) (y 1) (y 2) (y 3)).trans ?_)
  congr 1 <;> apply Fin.ext <;> blk_simp [idx t] <;> rfl

theorem final12 (c : Dev nD) : (dats m 0 c).arrAt 12 (cfgs 0).N
    = (fun j => Delta.mixed (qkvA m c) (wA m c) (bufA m c) (gA m c) (pA m c) (sdA m c) (j 0)
        (restA m c) (cosA m c) (sinA m c) (gaA m c) (gbA m c) (srA m c) ⟨(j 1).val / 128, by have : (j 1).val < 1024 := (j 1).isLt; omega⟩
        ⟨(j 1).val % 128, by omega⟩) := by
  refine (dats m 0 c).arrAt_eq_of_covers 12 _ (by decide +kernel) fun t hf y => ?_
  blk_simp
  rw [after0_12]
  have hy : (y 1).val < 1024 := (y 1).isLt
  refine (out12 m c t _ (by show (y 1).val / 128 < 8; omega)).trans ((mixed_row m c t (y 0) _ _).trans ?_)
  congr 1 <;> apply Fin.ext <;> blk_simp [idx t] <;> rfl

theorem newBuf_row (c : Dev nD) (t : Fin cfg0.N) (r : Fin 8) (p : Fin 4608) :
    newBuf (iblk m c 0 t) (iblk m c 9 t) r p = newBuf (qkvA m c) (bufA m c) (row t r) p := by
  simp only [newBuf, read0, read9]

theorem final13 (c : Dev nD) : (dats m 0 c).arrAt 13 (cfgs 0).N = (fun j => newBuf (qkvA m c) (bufA m c) (j 0) (j 1)) := by
  refine (dats m 0 c).arrAt_eq_of_covers 13 _ (by decide +kernel) fun t hf y => ?_
  blk_simp
  rw [after0_13]
  refine (out13 m c t _).trans ((newBuf_row m c t (y 0) (y 1)).trans ?_)
  refine congrArg₂ (newBuf (qkvA m c) (bufA m c)) (Fin.ext ?_) (Fin.ext ?_) <;> blk_simp [idx t] <;> rfl

/-- the buffer enters the call flattened -/
theorem bufA_apply (c : Dev nD) (b : Fin 128) (w : Fin 3) (k : Fin 1536) :
    bufA m c (ix2 b ⟨1536 * w + k, lt_buf w k⟩) = (m ((c : Thread nD τ).loc main_arg5) : FVec Ideal S128x3x1536 .f32) (ix3 b w k) := by
  show V m c main_v23 _ = _
  entry_read
  pointwise
/-- the cosines enter the call twice -/
theorem cosA_low (c : Dev nD) (a : Fin 64) : cosA m c (ix2 0 ⟨a, lt_low a⟩) = (m ((c : Thread nD τ).loc main_arg3) : FVec Ideal S1x64 .f32) (ix2 0 a) := by
  show V m c main_v0 _ = _
  entry_read
  pointwise
theorem cosA_high (c : Dev nD) (a : Fin 64) : cosA m c (ix2 0 ⟨64 + a, lt_high a⟩) = (m ((c : Thread nD τ).loc main_arg3) : FVec Ideal S1x64 .f32) (ix2 0 a) := by
  show V m c main_v0 _ = _
  entry_read
  pointwise
/-- the sines enter the call twice, the first time negated -/
theorem sinA_low (c : Dev nD) (a : Fin 64) : sinA m c (ix2 0 ⟨a, lt_low a⟩) = (Neg.neg : EReal → EReal) ((m ((c : Thread nD τ).loc main_arg4) : FVec Ideal S1x64 .f32) (ix2 0 a)) := by
  show V m c main_v2 _ = _
  entry_read
  pointwise
theorem sinA_high (c : Dev nD) (a : Fin 64) : sinA m c (ix2 0 ⟨64 + a, lt_high a⟩) = (m ((c : Thread nD τ).loc main_arg4) : FVec Ideal S1x64 .f32) (ix2 0 a) := by
  show V m c main_v2 _ = _
  entry_read
  pointwise
theorem gaA_apply (c : Dev nD) (e : Fin 128) : gaA m c (ix2 0 e) = (m ((c : Thread nD τ).loc main_arg11) : FVec Ideal S128 .f32) (ix1 e) := by
  show V m c main_v21 _ = _
  entry_read
  pointwise
theorem gbA_apply (c : Dev nD) (e : Fin 128) : gbA m c (ix2 0 e) = (m ((c : Thread nD τ).loc main_arg12) : FVec Ideal S128 .f32) (ix1 e) := by
  show V m c main_v22 _ = _
  entry_read
  pointwise
/-- update `k` of a scatter of one row segment lands in the row named by the first index word, `k` columns behind the second -/
theorem lands_row (ι : IVec S2 32) (k : Fin 4) (r : Fin 8) (q : Fin 128) :
    scatter_S8x128_S2_S4_0_0_01_0.resultIdx? (ix1 k) ι = some (ix2 r q)
      ↔ (ι (ix1 (0 : Fin 2))).toInt = r.val ∧ (ι (ix1 (1 : Fin 2))).toInt + (k.val : Int) = q.val := by
  have h0 : scatter_S8x128_S2_S4_0_0_01_0.window (ix1 k) 0 = 0 := by
    unfold ScatterDims.window
    rw [dif_neg (by decide)]
  have h1 : scatter_S8x128_S2_S4_0_0_01_0.window (ix1 k) 1 = k.val := by
    unfold ScatterDims.window
    rw [dif_pos (by decide)]
    rfl
  refine (resultIdx?_ix2 scatter_S8x128_S2_S4_0_0_01_0 (ix1 k) ι r q).trans ?_
  rw [start_pair _ rfl rfl, start_pair _ rfl rfl, h0, h1]
  show (ι (ix1 (0 : Fin 2))).toInt + _ = _ ∧ (ι (ix1 (1 : Fin 2))).toInt + _ = _ ↔ _
  omega
/-- a scatter of one row segment at the head of row `r` puts it there -/
theorem segment_hit (x : FVec Ideal S8x128 .f32) (ι : IVec S2 32) (u : FVec Ideal S4 .f32) (r : Fin 8) (h : Fin 4) (z0 : (ι (ix1 (0 : Fin 2))).toInt = r.val)
    (z1 : (ι (ix1 (1 : Fin 2))).toInt = 0) : Host.scatter scatter_S8x128_S2_S4_0_0_01_0 (fun _ b => b) x ι u (ix2 r ⟨h, by omega⟩) = u (ix1 h) := by
  refine scatter_set_hit _ _ ι _ _ _ (fun k hk => ?_) (ix1 h) ((lands_row ι h r ⟨h, by omega⟩).2 ⟨z0, by rw [z1]; simp⟩)
  have hk' := ((lands_row ι (k 0) r ⟨h, by omega⟩).1 ((congrArg (fun j => scatter_S8x128_S2_S4_0_0_01_0.resultIdx? j ι) (eq_ix1 k).symm).trans hk)).2
  rw [z1] at hk'
  rw [eq_ix1 k]
  exact congrArg (fun j => u (ix1 j)) (Fin.ext (by simpa using hk'))
/-- and leaves the other rows as they were -/
theorem segment_miss (x : FVec Ideal S8x128 .f32) (ι : IVec S2 32) (u : FVec Ideal S4 .f32) (r : Fin 8) (q : Fin 128) (z0 : (ι (ix1 (0 : Fin 2))).toInt ≠ r.val) :
    Host.scatter scatter_S8x128_S2_S4_0_0_01_0 (fun _ b => b) x ι u (ix2 r q) = x (ix2 r q) := by
  refine scatter_set_miss _ _ ι _ _ fun k hk => z0 ?_
  exact ((lands_row ι (k 0) r q).1 ((congrArg (fun j => scatter_S8x128_S2_S4_0_0_01_0.resultIdx? j ι) (eq_ix1 k).symm).trans hk)).1
/-- the parameter rows begin with the decay's logarithms and with the steps' biases -/
theorem pA_zero (c : Dev nD) (h : Fin 4) : pA m c (ix2 0 ⟨h, Cert.Step.lt_lane h⟩) = (m ((c : Thread nD τ).loc main_arg9) : FVec Ideal S4 .f32) (ix1 h) := by
  show V m c main_v11 _ = _
  entry_read
  refine (segment_miss _ _ _ 0 _ ?_).trans (segment_hit _ _ _ 0 h ?_ ?_)
  · pointwise; decide
  · pointwise; rfl
  · pointwise; rfl
theorem pA_one (c : Dev nD) (h : Fin 4) : pA m c (ix2 1 ⟨h, Cert.Step.lt_lane h⟩) = (m ((c : Thread nD τ).loc main_arg10) : FVec Ideal S4 .f32) (ix1 h) := by
  show V m c main_v11 _ = _
  entry_read
  refine segment_hit _ _ _ 1 h ?_ ?_
  · pointwise; rfl
  · pointwise; rfl
end Cert.AbIdeal.Step
-- ==== Proof.AbReference.lean ====
module

public import proofs.«01_k».proof.Proof.Gen.AbRefIdeal.Run
public import proofs.«01_k».proof.Proof.AbTerms
public import proofs.«01_k».proof.Proof.Reals

@[expose] public section

set_option maxRecDepth 16384
noncomputable section
open Idealize.ShloMosaic Idealize.ShloMosaic.TcCoe Idealize.SL.Sem
namespace Cert.Retain

/-- the logarithm of one minus a real number below one -/
theorem log1p_neg {x y : ℝ} {a : EReal} (ha : a = x) (h : 1 - x = y) (hy : 0 < y) : Ideal.log1p (-a) = (Real.log y : EReal) := by
  subst ha h
  unfold Ideal.log1p
  rw [← EReal.coe_neg, ← EReal.coe_one, ← EReal.coe_add, ← sub_eq_add_neg, Ideal.log_coe, if_neg (not_le.2 hy)]
theorem real_scale : Step.IsReal scale := by
  unfold scale
  exact ⟨11863283 / 2 ^ 27, by simp [Ideal.ofBits, Ideal.ieee, -EReal.coe_mul]; norm_num⟩
end Cert.Retain

namespace Cert.AbRefIdeal.Step
open Cert.AbRefIdeal Cert.AbRefIdeal.Gen Cert.AbRefIdeal.Value Cert.Retain Cert.Step
variable (V0 : Valuation τ sig (Elt Ideal))

abbrev qkvR : FVec Ideal S128x1536 .f32 := V0 (Proc.devRef .tc main_arg0)
abbrev restR : FVec Ideal S128x2560 .f32 := V0 (Proc.devRef .tc main_arg1)
abbrev gR : FVec Ideal S128x128 .f32 := V0 (Proc.devRef .tc main_arg2)
abbrev cosR : FVec Ideal S1x64 .f32 := V0 (Proc.devRef .tc main_arg3)
abbrev sinR : FVec Ideal S1x64 .f32 := V0 (Proc.devRef .tc main_arg4)
abbrev bufferR : FVec Ideal S128x3x1536 .f32 := V0 (Proc.devRef .tc main_arg5)
abbrev sdR : FVec Ideal S128x4x128x128 .f32 := V0 (Proc.devRef .tc main_arg6)
abbrev srR : FVec Ideal S128x4x128x128 .f32 := V0 (Proc.devRef .tc main_arg7)
abbrev wR : FVec Ideal S4x1536 .f32 := V0 (Proc.devRef .tc main_arg8)
abbrev alogR : FVec Ideal S4 .f32 := V0 (Proc.devRef .tc main_arg9)
abbrev dtR : FVec Ideal S4 .f32 := V0 (Proc.devRef .tc main_arg10)
abbrev gaR : FVec Ideal S128 .f32 := V0 (Proc.devRef .tc main_arg11)
abbrev gbR : FVec Ideal S128 .f32 := V0 (Proc.devRef .tc main_arg12)

/-- the reference's output -/
def mixedR : FVec Ideal S128x1024 .f32 := concatenate S128x1024 1 [⟨S128x512, (shapeCast _ (mulf (mulf (mulf (res_main_v102 V0) (broadcastInDim S128x4x1x128 ![0, 1, 2, 3] bcast_S128x4x1x1_S128x4x1x128_0_1_2_3 (Host.rsqrt (addf (Host.divf (broadcastInDim S128x4x1x1 ![0, 1, 2] bcast_S128x4x1_S128x4x1x1_0_1_2 (Host.reduceAdd (mulf (res_main_v102 V0) (res_main_v102 V0)) (constant S_ .f32 0x00000000#32) reducesTo_S128x4x1x128_S128x4x1_d3 h_S_)) (broadcastInDim S128x4x1x1 ![] bcast_S_S128x4x1x1 (constant S_ .f32 0x43000000#32))) (broadcastInDim S128x4x1x1 ![] bcast_S_S128x4x1x1 (constant S_ .f32 0x358637BD#32)))))) (broadcastInDim S128x4x1x128 ![0, 1, 2, 3] bcast_S1x1x1x128_S128x4x1x128_0_1_2_3 (broadcastInDim S1x1x1x128 ![3] bcast_S128_S1x1x1x128_3 (V0 (Proc.devRef .tc main_arg11))))) (mulf (res_main_v120 V0) (Host.divf (broadcastInDim S128x4x1x128 ![] bcast_S_S128x4x1x128 (constant S_ .f32 0x3F800000#32)) (addf (broadcastInDim S128x4x1x128 ![] bcast_S_S128x4x1x128 (constant S_ .f32 0x3F800000#32)) (Host.exp (Host.negf (res_main_v120 V0))))))) shapeCasts_S128x4x1x128_S128x512)⟩, ⟨S128x512, (shapeCast _ (mulf (mulf (mulf (res_main_v177 V0) (broadcastInDim S128x4x1x128 ![0, 1, 2, 3] bcast_S128x4x1x1_S128x4x1x128_0_1_2_3 (Host.rsqrt (addf (Host.divf (broadcastInDim S128x4x1x1 ![0, 1, 2] bcast_S128x4x1_S128x4x1x1_0_1_2 (Host.reduceAdd (mulf (res_main_v177 V0) (res_main_v177 V0)) (constant S_ .f32 0x00000000#32) reducesTo_S128x4x1x128_S128x4x1_d3 h_S_)) (broadcastInDim S128x4x1x1 ![] bcast_S_S128x4x1x1 (constant S_ .f32 0x43000000#32))) (broadcastInDim S128x4x1x1 ![] bcast_S_S128x4x1x1 (constant S_ .f32 0x358637BD#32)))))) (broadcastInDim S128x4x1x128 ![0, 1, 2, 3] bcast_S1x1x1x128_S128x4x1x128_0_1_2_3 (broadcastInDim S1x1x1x128 ![3] bcast_S128_S1x1x1x128_3 (V0 (Proc.devRef .tc main_arg12))))) (mulf (res_main_v124 V0) (Host.divf (broadcastInDim S128x4x1x128 ![] bcast_S_S128x4x1x128 (constant S_ .f32 0x3F800000#32)) (addf (broadcastInDim S128x4x1x128 ![] bcast_S_S128x4x1x128 (constant S_ .f32 0x3F800000#32)) (Host.exp (Host.negf (res_main_v124 V0))))))) shapeCasts_S128x4x1x128_S128x512)⟩] concatenates_S128x512_S128x512_S128x1024_d1
/-- the reference's new buffer, flattened -/
def bufR : FVec Ideal S128x4608 .f32 := shapeCast _ (extractStridedSlice S128x3x1536 ![0, 1, 0] (res_main_v1 V0) slices_S128x4x1536_S128x3x1536_0_1_0) shapeCasts_S128x3x1536_S128x4608
/-- the reference's new state of the delta rule -/
def deltaR : FVec Ideal S128x4x128x128 .f32 := addf (mulf (V0 (Proc.devRef .tc main_arg6)) (broadcastInDim S128x4x128x128 ![0, 1, 2, 3] bcast_S128x4x1x1_S128x4x128x128_0_1_2_3 (broadcastInDim S128x4x1x1 ![0, 1] bcast_S128x4_S128x4x1x1_0_1 (Host.exp (shapeCast _ (res_main_v77 V0) shapeCasts_S128x4x1_S128x4))))) (Host.dotGeneral (φ₁ := .f32) (φ₂ := .f32) dot_S128x4x1x128_S128x4x1x128_S128x4x128x128_2_2_3_3_01_01 none (mulf (res_main_v57 V0) (broadcastInDim S128x4x1x128 ![0, 1, 2, 3] bcast_S128x4x1x1_S128x4x1x128_0_1_2_3 (broadcastInDim S128x4x1x1 ![0, 1, 2] bcast_S128x4x1_S128x4x1x1_0_1_2 (Host.exp (subf (res_main_v77 V0) (res_main_v77 V0)))))) (res_main_v93 V0))
/-- the reference's new state of the retention -/
def memR : FVec Ideal S128x4x128x128 .f32 := addf (mulf (V0 (Proc.devRef .tc main_arg7)) (broadcastInDim S128x4x128x128 ![0, 1, 2, 3] bcast_S128x4x1x1_S128x4x128x128_0_1_2_3 (broadcastInDim S128x4x1x1 ![0, 1] bcast_S128x4_S128x4x1x1_0_1 (Host.exp (shapeCast _ (res_main_v164 V0) shapeCasts_S128x4x1_S128x4))))) (Host.dotGeneral (φ₁ := .f32) (φ₂ := .f32) dot_S128x4x1x128_S128x4x1x128_S128x4x128x128_2_2_3_3_01_01 none (mulf (res_main_v160 V0) (broadcastInDim S128x4x1x128 ![0, 1, 2, 3] bcast_S128x4x1x1_S128x4x1x128_0_1_2_3 (broadcastInDim S128x4x1x1 ![0, 1, 2] bcast_S128x4x1_S128x4x1x1_0_1_2 (Host.exp (subf (res_main_v164 V0) (res_main_v164 V0)))))) (res_main_v123 V0))

/-- each head's word is a power of one half, and the head's decay is one minus it -/
theorem decay_word (h : Fin 4) : ∃ y : ℝ, 0 < y ∧ Ideal.log1p (-Ideal.ofBits .f32 (lit0 (S4.rowMajor (ix1 h)))) = (Real.log y : EReal) ∧ decay h = (y : EReal) := by
  have w (p q : BitVec 32) (x y : ℝ) (hp : Ideal.ofBits .f32 p = (x : EReal)) (hq : Ideal.ofBits .f32 q = (y : EReal)) (hxy : 1 - x = y) (hy : 0 < y) :
      ∃ y : ℝ, 0 < y ∧ Ideal.log1p (-Ideal.ofBits .f32 p) = (Real.log y : EReal) ∧ Ideal.ofBits .f32 q = (y : EReal) :=
    ⟨y, hy, log1p_neg hp hxy hy, hq⟩
  fin_cases h
  · exact w 0x3D000000#32 0x3F780000#32 (1 / 32) (31 / 32) (by simp [Ideal.ofBits, Ideal.ieee, -EReal.coe_mul]; norm_num)
      (by simp [Ideal.ofBits, Ideal.ieee, -EReal.coe_mul]; norm_num) (by norm_num) (by norm_num)
  · exact w 0x3C800000#32 0x3F7C0000#32 (1 / 64) (63 / 64) (by simp [Ideal.ofBits, Ideal.ieee, -EReal.coe_mul]; norm_num)
      (by simp [Ideal.ofBits, Ideal.ieee, -EReal.coe_mul]; norm_num) (by norm_num) (by norm_num)
  · exact w 0x3C000000#32 0x3F7E0000#32 (1 / 128) (127 / 128) (by simp [Ideal.ofBits, Ideal.ieee, -EReal.coe_mul]; norm_num)
      (by simp [Ideal.ofBits, Ideal.ieee, -EReal.coe_mul]; norm_num) (by norm_num) (by norm_num)
  · exact w 0x3B800000#32 0x3F7F0000#32 (1 / 256) (255 / 256) (by simp [Ideal.ofBits, Ideal.ieee, -EReal.coe_mul]; norm_num)
      (by simp [Ideal.ofBits, Ideal.ieee, -EReal.coe_mul]; norm_num) (by norm_num) (by norm_num)
theorem decay_exp (h : Fin 4) : Ideal.exp (Ideal.log1p (-Ideal.ofBits .f32 (lit0 (S4.rowMajor (ix1 h))))) = decay h := by
  obtain ⟨y, hy, e, f⟩ := decay_word h
  rw [e, f, Ideal.exp_coe, Real.exp_log hy]
theorem decay_self (h : Fin 4) : Ideal.exp (Ideal.log1p (-Ideal.ofBits .f32 (lit0 (S4.rowMajor (ix1 h)))) - Ideal.log1p (-Ideal.ofBits .f32 (lit0 (S4.rowMajor (ix1 h))))) = 1 := by
  obtain ⟨y, hy, e, f⟩ := decay_word h
  rw [e, ← EReal.coe_sub, sub_self, Ideal.exp_coe, Real.exp_zero, EReal.coe_one]
theorem decay_real (h : Fin 4) : IsReal (decay h) := by
  obtain ⟨y, hy, e, f⟩ := decay_word h
  exact ⟨y, f⟩

variable (C S : FVec Ideal ⟨2, ![1, 128]⟩ .f32) (hC : ∀ a : Fin 64, C (ix2 0 ⟨a.val, lt_low a⟩) = cosR V0 (ix2 0 a)) (hC' : ∀ a : Fin 64, C (ix2 0 ⟨64 + a.val, lt_high a⟩) = cosR V0 (ix2 0 a))
  (hS : ∀ a : Fin 64, S (ix2 0 ⟨a.val, lt_low a⟩) = (Neg.neg : EReal → EReal) (sinR V0 (ix2 0 a))) (hS' : ∀ a : Fin 64, S (ix2 0 ⟨64 + a.val, lt_high a⟩) = sinR V0 (ix2 0 a))
  (b : Fin 128) (h : Fin 4) (z : Fin 1)

theorem log_decay : res_main_v164 V0 (ix3 b h z) = Ideal.log1p (-Ideal.ofBits .f32 (lit0 (S4.rowMajor (ix1 h)))) := by pointwise [res_main_v164]

/-- a rotation read lane by lane: the lower half pairs with the upper one -/
theorem by_halves (f g : Fin 128 → EReal) (hl : ∀ a : Fin 64, f ⟨a, lt_low a⟩ = g ⟨a, lt_low a⟩) (hh : ∀ a : Fin 64, f ⟨64 + a, lt_high a⟩ = g ⟨64 + a, lt_high a⟩)
    (a : Fin 128) : f a = g a := by
  by_cases ha : a.val < 64
  · exact hl ⟨a, ha⟩
  · have e : a = ⟨64 + (a.val - 64), lt_high ⟨a.val - 64, by omega⟩⟩ := Fin.ext (by simp only; omega)
    rw [e]
    exact hh ⟨a.val - 64, by omega⟩
include hC hC' hS hS'
theorem key_r (a : Fin 128) : res_main_v160 V0 (ix4 b h z a) = key (restR V0) C S b h a := by
  refine by_halves (fun a => res_main_v160 V0 (ix4 b h z a)) (key (restR V0) C S b h) (fun a => ?_) (fun a => ?_) a
  · unfold key
    rw [hC, hS]
    pointwise [res_main_v160, res_main_v142, res_main_v143, res_main_v122, scale]
    rw [sub_eq_add_neg, ← mul_neg]
    refine congrArg₂ _ (congrArg₂ _ ?_ ?_) rfl <;> refine congrArg₂ _ (congrArg (restR V0) (congrArg (ix2 b) (Fin.ext ?_))) rfl <;> simp only <;> omega
  · unfold key
    rw [hC', hS']
    pointwise [res_main_v160, res_main_v142, res_main_v143, res_main_v122, scale]
    rw [add_comm (G := EReal)]
    refine congrArg₂ _ (congrArg₂ _ ?_ ?_) rfl <;> refine congrArg₂ _ (congrArg (restR V0) (congrArg (ix2 b) (Fin.ext ?_))) rfl <;> simp only <;> omega
theorem qry_r (a : Fin 128) : res_main_v141 V0 (ix4 b h z a) = qry (restR V0) C S b h a := by
  refine by_halves (fun a => res_main_v141 V0 (ix4 b h z a)) (qry (restR V0) C S b h) (fun a => ?_) (fun a => ?_) a
  · unfold qry
    rw [hC, hS]
    pointwise [res_main_v141, res_main_v125, res_main_v126, res_main_v121]
    rw [sub_eq_add_neg, ← mul_neg]
    refine congrArg₂ _ ?_ ?_ <;> refine congrArg₂ _ (congrArg (restR V0) (congrArg (ix2 b) (Fin.ext ?_))) rfl <;> simp only <;> omega
  · unfold qry
    rw [hC', hS']
    pointwise [res_main_v141, res_main_v125, res_main_v126, res_main_v121]
    rw [add_comm (G := EReal)]
    refine congrArg₂ _ ?_ ?_ <;> refine congrArg₂ _ (congrArg (restR V0) (congrArg (ix2 b) (Fin.ext ?_))) rfl <;> simp only <;> omega
omit hC hC' hS hS'
theorem value_r (e : Fin 128) : res_main_v123 V0 (ix4 b h z e) = restR V0 (ix2 b ⟨1536 + 128 * h + e, lt_rest h e⟩) := by
  pointwise [res_main_v123]
  exact congrArg (restR V0) (congrArg (ix2 b) (Fin.ext (by simp only; omega)))
include hC hC' hS hS'
theorem mem_r (a e : Fin 128) : memR V0 (ix4 b h a e) = mem (restR V0) C S (srR V0) b h a e := by
  pointwise [memR, mem]
  simp only [log_decay, decay_exp, decay_self, mul_one, key_r V0 C S hC hC' hS hS', value_r]
  rw [Fin.sum_univ_one]
variable (hr : ∀ i, IsReal (restR V0 i)) (hc : ∀ i, IsReal (C i)) (hs : ∀ i, IsReal (S i)) (hsr : ∀ i, IsReal (srR V0 i))
include hr hc hs hsr
theorem readout_r (e : Fin 128) : res_main_v177 V0 (ix4 b h z e) = readout (restR V0) C S (srR V0) b h e := by
  pointwise [res_main_v177]
  simp only [log_decay, decay_exp, decay_self, mul_one, key_r V0 C S hC hC' hS hS', qry_r V0 C S hC hC' hS hS', value_r]
  rw [Fin.sum_univ_one]
  exact read_after _ _ _ _ _ (fun a => ((hr _).mul (hc _)).add ((hr _).mul (hs _)))
    (fun a => (((hr _).mul (hc _)).add ((hr _).mul (hs _))).mul real_scale) (fun a => hsr _) (decay_real h) (hr _)
omit hC hC' hS hS' hr hc hs hsr
theorem buf_r (flat : FVec Ideal S128x4608 .f32)
    (hf : ∀ (w : Fin 3) (k : Fin 1536), flat (ix2 b ⟨1536 * w.val + k.val, lt_buf w k⟩) = bufferR V0 (ix3 b w k)) (w : Fin 3) (k : Fin 1536) :
    bufR V0 (ix2 b ⟨1536 * w + k, lt_buf w k⟩) = newBuf (qkvR V0) flat b ⟨1536 * w + k, lt_buf w k⟩ := by
  pointwise [bufR, res_main_v1, newBuf]
  by_cases h : 1 + (w : ℕ) < 3
  · rw [dif_pos h, dif_pos (by have := k.isLt; omega)]
    exact (hf ⟨1 + w, h⟩ k).symm.trans (congrArg flat (congrArg (ix2 b) (Fin.ext (by simp only; omega))))
  · rw [dif_neg h, dif_neg (by omega)]
    exact congrArg (qkvR V0) (congrArg (ix2 b) (Fin.ext (by have := w.isLt; simp only; omega)))
end Cert.AbRefIdeal.Step
-- ==== Proof.AbRefDelta.lean ====
module

public import proofs.«01_k».proof.Proof.AbReference

@[expose] public section

set_option maxRecDepth 16384
noncomputable section
open Idealize.ShloMosaic Idealize.ShloMosaic.TcCoe Idealize.SL.Sem
namespace Cert.AbRefIdeal.Step
open Cert.AbRefIdeal Cert.AbRefIdeal.Gen Cert.AbRefIdeal.Value Cert.Retain Cert.Step
open Cert.Delta (conv act unit logDecay beta)
variable (V0 : Valuation τ sig (Elt Ideal)) (flat : FVec Ideal S128x4608 .f32)
  (hf : ∀ (b : Fin 128) (w : Fin 3) (k : Fin 1536), flat (ix2 b ⟨1536 * w.val + k.val, lt_buf w k⟩) = bufferR V0 (ix3 b w k))
  (p : FVec Ideal ⟨2, ![8, 128]⟩ .f32) (hp : ∀ h : Fin 4, p (ix2 0 ⟨h, lt_lane h⟩) = alogR V0 (ix1 h)) (hp' : ∀ h : Fin 4, p (ix2 1 ⟨h, lt_lane h⟩) = dtR V0 (ix1 h))
  (b : Fin 128) (h : Fin 4) (z : Fin 1)

include hf
theorem conv_r (j : Fin 1536) : res_main_v32 V0 (ix2 b j) = conv (qkvR V0) (wR V0) flat b j := by
  have e0 : flat (ix2 b ⟨j, by omega⟩) = bufferR V0 (ix3 b 0 j) := (congrArg flat (congrArg (ix2 b) (Fin.ext (by simp)))).trans (hf b 0 j)
  have e1 : flat (ix2 b ⟨1536 + j, by omega⟩) = bufferR V0 (ix3 b 1 j) := hf b 1 j
  have e2 : flat (ix2 b ⟨3072 + j, by omega⟩) = bufferR V0 (ix3 b 2 j) := hf b 2 j
  unfold conv
  rw [e0, e1, e2]
  pointwise [res_main_v32, res_main_v1]
theorem act_r (j : Fin 1536) : res_main_v33 V0 (ix2 b j) = act (qkvR V0) (wR V0) flat b j := by
  unfold act
  rw [← conv_r V0 flat hf]
  pointwise [res_main_v33, Ideal.logistic]
theorem key_d (a : Fin 128) : res_main_v57 V0 (ix4 b h z a) = Delta.key (qkvR V0) (wR V0) flat b h a := by
  unfold Delta.key unit
  simp only [← act_r V0 flat hf]
  pointwise [res_main_v57, res_main_v38]
  simp only [Nat.add_assoc, Nat.mul_comm 128]
theorem qry_d (a : Fin 128) : res_main_v49 V0 (ix4 b h z a) = Delta.qry (qkvR V0) (wR V0) flat b h a := by
  unfold Delta.qry unit
  simp only [← act_r V0 flat hf]
  pointwise [res_main_v49, res_main_v37, scale]
  simp only [Nat.mul_comm 128]
omit hf
theorem beta_d : res_main_v65 V0 (ix3 b h z) = beta (gR V0) b h := by
  pointwise [res_main_v65, beta, Ideal.logistic]
include hp hp'
theorem logDecay_d : res_main_v77 V0 (ix3 b h z) = logDecay (gR V0) p b h := by
  unfold logDecay Delta.softplus
  rw [hp, hp']
  unfold res_main_v77
  rw [cum_one]
  pointwise [res_main_call1_v3, res_main_call1_cst, res_main_v71]
  rw [if_neg (not_not.2 rfl)]
  simp only [zero_sub]
omit hp hp'

section Finite
variable (hq : ∀ i, IsReal (qkvR V0 i)) (hb : ∀ i, IsReal (bufferR V0 i)) (hw : ∀ i, IsReal (wR V0 i)) (hg : ∀ i, IsReal (gR V0 i))
  (hal : ∀ i, IsReal (alogR V0 i)) (hdt : ∀ i, IsReal (dtR V0 i)) (hsd : ∀ i, IsReal (sdR V0 i))
include hf hq hb hw
theorem act_real (j : Fin 1536) : IsReal (act (qkvR V0) (wR V0) flat b j) := by
  have e (i : Fin 4608) : IsReal (flat (ix2 b i)) := by
    have hi : i = ⟨1536 * (i.val / 1536) + i.val % 1536, by omega⟩ := Fin.ext (by simp only; omega)
    rw [hi]
    exact (hf b ⟨i.val / 1536, by omega⟩ ⟨i.val % 1536, by omega⟩) ▸ hb _
  have c : IsReal (conv (qkvR V0) (wR V0) flat b j) := ((((e _).mul (hw _)).add ((e _).mul (hw _))).add ((e _).mul (hw _))).add ((hq _).mul (hw _))
  exact c.mul c.logistic
theorem unit_real (j : ℕ) (hj : j + 128 ≤ 1536) : IsReal (unit (qkvR V0) (wR V0) flat b j hj) :=
  IsReal.rsqrt_squares (fun l => act_real V0 flat hf b hq hb hw _) eps_pos
theorem key_real (a : Fin 128) : IsReal (Delta.key (qkvR V0) (wR V0) flat b h a) :=
  (act_real V0 flat hf b hq hb hw _).mul (unit_real V0 flat hf b hq hb hw _ _)
theorem qry_real (a : Fin 128) : IsReal (Delta.qry (qkvR V0) (wR V0) flat b h a) :=
  ((act_real V0 flat hf b hq hb hw _).mul (unit_real V0 flat hf b hq hb hw _ _)).mul real_scale
omit hf hq hb hw
include hg
theorem beta_real : IsReal (beta (gR V0) b h) := (hg _).logistic
include hp hp' hal hdt
theorem logDecay_real : IsReal (logDecay (gR V0) p b h) := by
  unfold logDecay Delta.softplus
  rw [hp, hp']
  have x := (hg (ix2 b ⟨h, by omega⟩)).add (hdt (ix1 h))
  exact (IsReal.zero.sub (hal _).exp).mul ((x.max .zero).add (IsReal.zero.sub x.absf).log1p_exp)
theorem exp_self : Ideal.exp (logDecay (gR V0) p b h - logDecay (gR V0) p b h) = 1 := by
  rw [(logDecay_real V0 p hp hp' b h hg hal hdt).self_sub, ← EReal.coe_zero, Ideal.exp_coe, Real.exp_zero, EReal.coe_one]
include hf hq hb hw hsd
theorem val_real (e : Fin 128) : IsReal (Delta.val (qkvR V0) (wR V0) flat (gR V0) p (sdR V0) b h e) :=
  (beta_real V0 b h hg).mul ((act_real V0 flat hf b hq hb hw _).sub ((logDecay_real V0 p hp hp' b h hg hal hdt).exp.mul
    (IsReal.sum fun a => (key_real V0 flat hf b h hq hb hw a).mul (hsd _))))
theorem val_d (e : Fin 128) : res_main_v93 V0 (ix4 b h z e) = Delta.val (qkvR V0) (wR V0) flat (gR V0) p (sdR V0) b h e := by
  unfold Delta.val Delta.read
  refine Eq.trans ?_ (write_share _ _ _ _ _ (key_real V0 flat hf b h hq hb hw) (fun a => hsd (ix4 b h a e)) (logDecay_real V0 p hp hp' b h hg hal hdt).exp
    (beta_real V0 b h hg) (act_real V0 flat hf b hq hb hw _))
  simp only [← act_r V0 flat hf]
  pointwise [res_main_v93]
  simp only [key_d V0 flat hf, beta_d, logDecay_d V0 p hp hp', Nat.add_assoc, Nat.mul_comm 128]
theorem delta_r (a e : Fin 128) : deltaR V0 (ix4 b h a e) = Delta.mem (qkvR V0) (wR V0) flat (gR V0) p (sdR V0) b h a e := by
  pointwise [deltaR, Delta.mem]
  simp only [key_d V0 flat hf, logDecay_d V0 p hp hp', val_d V0 flat hf p hp hp' b _ _ hq hb hw hg hal hdt hsd,
    exp_self V0 p hp hp' b _ hg hal hdt, mul_one]
  rw [Fin.sum_univ_one]
theorem readout_d (e : Fin 128) : res_main_v102 V0 (ix4 b h z e) = Delta.readout (qkvR V0) (wR V0) flat (gR V0) p (sdR V0) b h e := by
  pointwise [res_main_v102]
  simp only [key_d V0 flat hf, qry_d V0 flat hf, logDecay_d V0 p hp hp', val_d V0 flat hf p hp hp' b _ _ hq hb hw hg hal hdt hsd,
    exp_self V0 p hp hp' b _ hg hal hdt, mul_one]
  rw [Fin.sum_univ_one]
  exact read_after _ _ _ _ _ (qry_real V0 flat hf b h hq hb hw) (key_real V0 flat hf b h hq hb hw) (fun a => hsd _)
    (logDecay_real V0 p hp hp' b h hg hal hdt).exp (val_real V0 flat hf p hp hp' b h hq hb hw hg hal hdt hsd e)
end Finite
end Cert.AbRefIdeal.Step
-- ==== Proof.AbRefMixed.lean ====
module

public import proofs.«01_k».proof.Proof.AbRefDelta

@[expose] public section

set_option maxRecDepth 16384
noncomputable section
open Idealize.ShloMosaic Idealize.ShloMosaic.TcCoe Idealize.SL.Sem
namespace Cert.AbRefIdeal.Step
open Cert.AbRefIdeal Cert.AbRefIdeal.Gen Cert.AbRefIdeal.Value Cert.Retain Cert.Step
variable (V0 : Valuation τ sig (Elt Ideal)) (flat : FVec Ideal S128x4608 .f32)
  (hf : ∀ (b : Fin 128) (w : Fin 3) (k : Fin 1536), flat (ix2 b ⟨1536 * w.val + k.val, lt_buf w k⟩) = bufferR V0 (ix3 b w k))
  (p : FVec Ideal ⟨2, ![8, 128]⟩ .f32) (hp : ∀ h : Fin 4, p (ix2 0 ⟨h, lt_lane h⟩) = alogR V0 (ix1 h)) (hp' : ∀ h : Fin 4, p (ix2 1 ⟨h, lt_lane h⟩) = dtR V0 (ix1 h))
  (C S : FVec Ideal ⟨2, ![1, 128]⟩ .f32) (hC : ∀ a : Fin 64, C (ix2 0 ⟨a.val, lt_low a⟩) = cosR V0 (ix2 0 a)) (hC' : ∀ a : Fin 64, C (ix2 0 ⟨64 + a.val, lt_high a⟩) = cosR V0 (ix2 0 a))
  (hS : ∀ a : Fin 64, S (ix2 0 ⟨a.val, lt_low a⟩) = (Neg.neg : EReal → EReal) (sinR V0 (ix2 0 a))) (hS' : ∀ a : Fin 64, S (ix2 0 ⟨64 + a.val, lt_high a⟩) = sinR V0 (ix2 0 a))
  (ga gb : FVec Ideal ⟨2, ![1, 128]⟩ .f32) (hga : ∀ e, ga (ix2 0 e) = gaR V0 (ix1 e)) (hgb : ∀ e, gb (ix2 0 e) = gbR V0 (ix1 e))
  (hq : ∀ i, IsReal (qkvR V0 i)) (hr : ∀ i, IsReal (restR V0 i)) (hg : ∀ i, IsReal (gR V0 i)) (hc : ∀ i, IsReal (cosR V0 i)) (hs : ∀ i, IsReal (sinR V0 i))
  (hb : ∀ i, IsReal (bufferR V0 i)) (hsd : ∀ i, IsReal (sdR V0 i)) (hsr : ∀ i, IsReal (srR V0 i)) (hw : ∀ i, IsReal (wR V0 i))
  (hal : ∀ i, IsReal (alogR V0 i)) (hdt : ∀ i, IsReal (dtR V0 i))
  (b : Fin 128)

theorem lt_mixed (k : Fin 8) (e : Fin 128) : 128 * k.val + e.val < 1024 := by omega
/-- a row of 128 lanes is real if its halves are -/
theorem row_real (x : FVec Ideal ⟨2, ![1, 128]⟩ .f32) (hl : ∀ a : Fin 64, IsReal (x (ix2 0 ⟨a.val, lt_low a⟩))) (hh : ∀ a : Fin 64, IsReal (x (ix2 0 ⟨64 + a.val, lt_high a⟩)))
    (i : Shape.Idx ⟨2, ![1, 128]⟩) : IsReal (x i) := by
  have h0 : (i 0).val < 1 := (i 0).isLt
  have hi : i = ix2 0 (i 1) := (eq_ix2 i).trans (congrArg (fun t => ix2 t (i 1)) (Fin.ext (by show (i 0).val = 0; omega)))
  rw [hi]
  by_cases ha : (i 1).val < 64
  · exact hl ⟨(i 1).val, ha⟩
  · have hi : (i 1).val < 128 := (i 1).isLt
    have e : (i 1 : Fin 128) = ⟨64 + ((i 1).val - 64), by omega⟩ := Fin.ext (by simp only; omega)
    rw [e]
    exact hh ⟨(i 1).val - 64, by omega⟩
include hf hp hp' hC hC' hS hS' hga hgb hq hr hg hc hs hb hsd hsr hw hal hdt
theorem mixed_r (k : Fin 8) (e : Fin 128) : mixedR V0 (ix2 b ⟨128 * k + e, lt_mixed k e⟩)
    = Delta.mixed (qkvR V0) (wR V0) flat (gR V0) p (sdR V0) b (restR V0) C S ga gb (srR V0) k e := by
  have hCr := row_real C (fun a => hC a ▸ hc _) (fun a => hC' a ▸ hc _)
  have hSr := row_real S (fun a => (hS a).symm ▸ (hs _).neg) (fun a => hS' a ▸ hs _)
  unfold Delta.mixed normed
  simp only [hga, hgb]
  pointwise [mixedR, Ideal.logistic, res_main_v120, res_main_v124]
  simp only [readout_d V0 flat hf p hp hp' b _ _ hq hb hw hg hal hdt hsd, readout_r V0 C S hC hC' hS hS' b _ _ hr hCr hSr hsr]
  by_cases hk : k.val < 4
  · rw [dif_pos (by omega), dif_pos hk]
    simp only [show (128 * k.val + e.val) / 128 = k.val by omega]
    simp only [Nat.mul_comm 128]
  · rw [dif_neg (by omega), dif_neg hk]
    simp only [show (128 * k.val + e.val - 512) / 128 = k.val - 4 by omega, show (128 * k.val + e.val - 512) % 128 = e.val by omega]
    simp only [Nat.add_assoc, Nat.mul_comm 128]
end Cert.AbRefIdeal.Step
-- ==== Proof.AbClaim.lean ====
module

public import proofs.«01_k».proof.Proof.AbKernel
public import proofs.«01_k».proof.Proof.AbRefMixed
public import proofs.«01_k».proof.Defs
public import proofs.«01_k».proof.Proof.Gen.Pre_finite_ab

@[expose] public section

set_option maxRecDepth 16384
noncomputable section
open Idealize.ShloMosaic Idealize.ShloMosaic.TcCoe Idealize.SL.Sem
namespace Cert.Retain
open Cert.Step

open Cert.Pre_finite_ab in
theorem inputs_real (a0 : FVec Ideal S128x1536 .f32) (a1 : FVec Ideal S128x2560 .f32) (a2 : FVec Ideal S128x128 .f32) (a3 : FVec Ideal S1x64 .f32) (a4 : FVec Ideal S1x64 .f32) (a5 : FVec Ideal S128x3x1536 .f32) (a6 : FVec Ideal S128x4x128x128 .f32) (a7 : FVec Ideal S128x4x128x128 .f32) (a8 : FVec Ideal S4x1536 .f32) (a9 : FVec Ideal S4 .f32) (a10 : FVec Ideal S4 .f32) (a11 : FVec Ideal S128 .f32) (a12 : FVec Ideal S128 .f32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have h' := congrFun h (fun k => k.elim0)
  unfold fn fn_part1 fn_part2 fn_part3 at h'
  dsimp only at h'
  obtain ⟨h', r10⟩ := and_one _ _ h'
  obtain ⟨h', r9⟩ := and_one _ _ h'
  obtain ⟨h', r8⟩ := and_one _ _ h'
  obtain ⟨h', r7⟩ := and_one _ _ h'
  obtain ⟨h', r6⟩ := and_one _ _ h'
  obtain ⟨h', r5⟩ := and_one _ _ h'
  obtain ⟨h', r4⟩ := and_one _ _ h'
  obtain ⟨h', r3⟩ := and_one _ _ h'
  obtain ⟨h', r2⟩ := and_one _ _ h'
  obtain ⟨r0, r1⟩ := and_one _ _ h'
  exact ⟨all_real _ _ _ _ _ r0, all_real _ _ _ _ _ r1, all_real _ _ _ _ _ r2, all_real _ _ _ _ _ r3, all_real _ _ _ _ _ r4, all_real _ _ _ _ _ r5, all_real _ _ _ _ _ r6, all_real _ _ _ _ _ r7, all_real _ _ _ _ _ r8, all_real _ _ _ _ _ r9, all_real _ _ _ _ _ r10⟩

section
open Cert.AbIdeal.Step Cert.AbRefIdeal.Step
variable (m : (ℓ : Loc Cert.AbIdeal.nD Cert.AbIdeal.τ Cert.AbIdeal.sig) → Buf (Elt Ideal) ℓ) (c : Dev Cert.AbIdeal.nD)
  (V0 : Valuation Cert.AbRefIdeal.τ Cert.AbRefIdeal.sig (Elt Ideal))
  (e0 : qkvR V0 = qkvA m c) (e1 : restR V0 = restA m c) (e2 : gR V0 = gA m c) (e3 : cosR V0 = (m ((c : Thread Cert.AbIdeal.nD Cert.AbIdeal.τ).loc Cert.AbIdeal.main_arg3))) (e4 : sinR V0 = (m ((c : Thread Cert.AbIdeal.nD Cert.AbIdeal.τ).loc Cert.AbIdeal.main_arg4))) (e5 : bufferR V0 = (m ((c : Thread Cert.AbIdeal.nD Cert.AbIdeal.τ).loc Cert.AbIdeal.main_arg5))) (e6 : sdR V0 = sdA m c) (e7 : srR V0 = srA m c) (e8 : wR V0 = wA m c) (e9 : alogR V0 = (m ((c : Thread Cert.AbIdeal.nD Cert.AbIdeal.τ).loc Cert.AbIdeal.main_arg9))) (e10 : dtR V0 = (m ((c : Thread Cert.AbIdeal.nD Cert.AbIdeal.τ).loc Cert.AbIdeal.main_arg10))) (e11 : gaR V0 = (m ((c : Thread Cert.AbIdeal.nD Cert.AbIdeal.τ).loc Cert.AbIdeal.main_arg11))) (e12 : gbR V0 = (m ((c : Thread Cert.AbIdeal.nD Cert.AbIdeal.τ).loc Cert.AbIdeal.main_arg12)))
  (f0 : ∀ i, IsReal (qkvR V0 i)) (f1 : ∀ i, IsReal (restR V0 i)) (f2 : ∀ i, IsReal (gR V0 i)) (f3 : ∀ i, IsReal (cosR V0 i)) (f4 : ∀ i, IsReal (sinR V0 i)) (f5 : ∀ i, IsReal (bufferR V0 i)) (f6 : ∀ i, IsReal (sdR V0 i)) (f7 : ∀ i, IsReal (srR V0 i)) (f8 : ∀ i, IsReal (wR V0 i)) (f9 : ∀ i, IsReal (alogR V0 i)) (f10 : ∀ i, IsReal (dtR V0 i))
include e1 e3 e4 e7 in
theorem mem_eq : memR V0 = (Cert.AbIdeal.Gen.dats m 0 c).arrAt 15 Cert.AbIdeal.cfg0.N := by
  refine Eq.trans (funext fun j => ?_) (final15 m c).symm
  rw [eq_ix4 j]
  exact (mem_r V0 (cosA m c) (sinA m c) (fun a => by rw [cosA_low, e3]) (fun a => by rw [cosA_high, e3]) (fun a => by rw [sinA_low, e4])
    (fun a => by rw [sinA_high, e4]) (j 0) (j 1) (j 2) (j 3)).trans (by rw [e1, e7]; rfl)
include e5
theorem flat_row (b : Fin 128) (w : Fin 3) (k : Fin 1536) : bufA m c (ix2 b ⟨1536 * w.val + k.val, lt_buf w k⟩) = bufferR V0 (ix3 b w k) := by
  rw [bufA_apply, e5]
include e0
theorem buf_eq : bufR V0 = (Cert.AbIdeal.Gen.dats m 0 c).arrAt 13 Cert.AbIdeal.cfg0.N := by
  refine Eq.trans (funext fun j => ?_) (final13 m c).symm
  have hj : (j 1).val < 4608 := (j 1).isLt
  have h1 : j 1 = ⟨1536 * ((j 1).val / 1536) + (j 1).val % 1536, by omega⟩ := Fin.ext (by show (j 1).val = 1536 * ((j 1).val / 1536) + (j 1).val % 1536; omega)
  refine (congrArg (bufR V0) ((eq_ix2 j).trans (congrArg (ix2 (j 0)) h1))).trans ?_
  refine (buf_r V0 (j 0) (bufA m c) (flat_row m c V0 e5 (j 0)) ⟨(j 1).val / 1536, by omega⟩ ⟨(j 1).val % 1536, by omega⟩).trans ?_
  rw [e0]
  exact congrArg (newBuf (qkvA m c) (bufA m c) (j 0)) h1.symm
include e2 e6 e8 e9 e10 f0 f2 f5 f6 f8 f9 f10
theorem delta_eq : deltaR V0 = (Cert.AbIdeal.Gen.dats m 0 c).arrAt 14 Cert.AbIdeal.cfg0.N := by
  refine Eq.trans (funext fun j => ?_) (final14 m c).symm
  rw [eq_ix4 j]
  exact (delta_r V0 (bufA m c) (flat_row m c V0 e5) (pA m c) (fun h => by rw [pA_zero, e9]) (fun h => by rw [pA_one, e10]) (j 0) (j 1)
    f0 f5 f8 f2 f9 f10 f6 (j 2) (j 3)).trans (by rw [e0, e2, e6, e8]; rfl)
include e1 e3 e4 e7 e11 e12 f1 f3 f4 f7
theorem mixed_eq : mixedR V0 = (Cert.AbIdeal.Gen.dats m 0 c).arrAt 12 Cert.AbIdeal.cfg0.N := by
  refine Eq.trans (funext fun j => ?_) (final12 m c).symm
  have hj : (j 1).val < 1024 := (j 1).isLt
  have hs : j = ix2 (j 0) ⟨128 * ((j 1).val / 128) + (j 1).val % 128, by omega⟩ := by
    refine (eq_ix2 j).trans (congrArg (ix2 (j 0)) (Fin.ext ?_))
    show (j 1).val = 128 * ((j 1).val / 128) + (j 1).val % 128
    omega
  refine (congrArg (mixedR V0) hs).trans ?_
  refine (mixed_r V0 (bufA m c) (flat_row m c V0 e5) (pA m c) (fun h => by rw [pA_zero, e9]) (fun h => by rw [pA_one, e10])
    (cosA m c) (sinA m c) (fun a => by rw [cosA_low, e3]) (fun a => by rw [cosA_high, e3]) (fun a => by rw [sinA_low, e4]) (fun a => by rw [sinA_high, e4])
    (gaA m c) (gbA m c) (fun e => by rw [gaA_apply, e11]) (fun e => by rw [gbA_apply, e12]) f0 f1 f2 f3 f4 f5 f6 f7 f8 f9 f10
    (j 0) ⟨(j 1).val / 128, by omega⟩ ⟨(j 1).val % 128, by omega⟩).trans ?_
  rw [e0, e1, e2, e6, e7, e8]
end

theorem claim : Cert.algebraic_AbIdeal_AbRefIdeal_pre_finite_ab := by
  intro m g m' g' hpre hag
  refine ⟨fun c => (Cert.AbIdeal.Gen.dats m 0 c).arrAt 12 Cert.AbIdeal.cfg0.N, fun c => (Cert.AbIdeal.Gen.dats m 0 c).arrAt 13 Cert.AbIdeal.cfg0.N,
    fun c => (Cert.AbIdeal.Gen.dats m 0 c).arrAt 14 Cert.AbIdeal.cfg0.N, fun c => (Cert.AbIdeal.Gen.dats m 0 c).arrAt 15 Cert.AbIdeal.cfg0.N,
    Cert.AbIdeal.Value.run_blocks m g, (θ_run _ _ _).mono (fun r h c => ?_) (Cert.AbRefIdeal.Value.run m' g')⟩
  obtain ⟨a0, a1, a2, a3, a4, a5, a6, a7, a8, a9, a10, a11, a12⟩ := hag c
  obtain ⟨f0, f1, f2, f3, f4, f5, f6, f7, f8, f9, f10⟩ := inputs_real _ _ _ _ _ _ _ _ _ _ _ _ _ (hpre c)
  obtain ⟨s0, s1, s2, s3, keep⟩ := h c
  replace f0 := real_of_eq a0 f0
  replace f1 := real_of_eq a1 f1
  replace f2 := real_of_eq a2 f2
  replace f3 := real_of_eq a3 f3
  replace f4 := real_of_eq a4 f4
  replace f5 := real_of_eq a5 f5
  replace f6 := real_of_eq a6 f6
  replace f7 := real_of_eq a7 f7
  replace f8 := real_of_eq a8 f8
  replace f9 := real_of_eq a9 f9
  replace f10 := real_of_eq a10 f10
  exact ⟨s0.trans (mixed_eq m c (StableHlo.launchContents m' c) a0 a1 a2 a3 a4 a5 a6 a7 a8 a9 a10 a11 a12 f0 f1 f2 f3 f4 f5 f6 f7 f8 f9 f10),
    s1.trans (buf_eq m c (StableHlo.launchContents m' c) a0 a5),
    s2.trans (delta_eq m c (StableHlo.launchContents m' c) a0 a2 a5 a6 a8 a9 a10 f0 f2 f5 f6 f8 f9 f10),
    s3.trans (mem_eq m c (StableHlo.launchContents m' c) a1 a3 a4 a7), keep⟩
end Cert.Retain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp0
public import proofs.«01_k».proof.Proof.Gen.Mlp0.Skeleton
public import proofs.«01_k».proof.Proof.Gen.Mlp0.Launch
public import proofs.«01_k».proof.Proof.Gen.Mlp0.Points
public import proofs.«01_k».proof.Proof.Gen.Mlp0.Frame
public import proofs.«01_k».proof.Proof.Gen.Mlp0Ideal
public import proofs.«01_k».proof.Proof.Gen.Mlp0Ideal.Skeleton
public import proofs.«01_k».proof.Proof.Gen.Mlp0Ideal.Launch
public import proofs.«01_k».proof.Proof.Gen.Mlp0Ideal.Points
public import proofs.«01_k».proof.Proof.Gen.Mlp0Ideal.Frame
public import proofs.«01_k».proof.Proof.Gen.Mlp0RefIdeal
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.Mlp1RefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Ab
public import proofs.«01_k».proof.Proof.Gen.Ab.Skeleton
public import proofs.«01_k».proof.Proof.Gen.Ab.Launch
public import proofs.«01_k».proof.Proof.Gen.Ab.Points
public import proofs.«01_k».proof.Proof.Gen.Ab.Frame
public import proofs.«01_k».proof.Proof.Gen.AbIdeal
public import proofs.«01_k».proof.Proof.Gen.AbIdeal.Skeleton
public import proofs.«01_k».proof.Proof.Gen.AbIdeal.Launch
public import proofs.«01_k».proof.Proof.Gen.AbIdeal.Points
public import proofs.«01_k».proof.Proof.Gen.AbIdeal.Frame
public import proofs.«01_k».proof.Proof.Gen.AbRefIdeal
public import proofs.«01_k».proof.Proof.Gen.Pre_finite_inputs
public import proofs.«01_k».proof.Proof.Gen.Pre_finite_ab
public import proofs.«01_k».proof.Proof.Gen.AbIdeal.Value
public import proofs.«01_k».proof.Proof.Gen.KernelIdeal.Value
public import proofs.«01_k».proof.Proof.Gen.ReferenceIdeal.Run
public import proofs.«01_k».proof.Proof.Gen.AbRefIdeal.Run
public import proofs.«01_k».proof.Proof.Gen.Mlp0RefIdeal.Run
public import proofs.«01_k».proof.Proof.Gen.Mlp1RefIdeal.Run
public import proofs.«01_k».proof.Proof.Gen.ProjRefIdeal.Run
public import Idealize.ShloMosaic.Adequacy
public import Idealize.ShloMosaic.Init
public import Idealize.ShloMosaic.Lib.Quiescent
public import proofs.«01_k».proof.Proof.StepClaim
public import proofs.«01_k».proof.Proof.Mlp0Claim
public import proofs.«01_k».proof.Proof.Mlp1Claim
public import proofs.«01_k».proof.Proof.ProjClaim
public import proofs.«01_k».proof.Proof.AbClaim

@[expose] public section

noncomputable section

namespace Cert.Proof

open Idealize.ShloMosaic Idealize.SL.Sem Cert.Kernel

/-- The host reference runs from every memory, keeps its arguments and declares no semaphore. -/
theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The same of the reference of layer 0's step. -/
theorem frame_ab_reference : Cert.quiescent_AbRefIdeal := fun m g _ =>
  (θ_run Cert.AbRefIdeal.defs _ _).mono (fun r h => ⟨fun c => (h c).2.2.2.2, sem_eq_zero_of_no_sems (by decide) r.2⟩)
    (Cert.AbRefIdeal.Value.run (F := Ideal) m g)

/-- The certificate: the frames, and the equality of each call with its reference. -/
theorem claim : Cert.Claim := ⟨Cert.Kernel.Gen.facts, Cert.KernelIdeal.Gen.facts, Cert.ReferenceIdeal.Gen.facts,
  Cert.Mlp0.Gen.facts, Cert.Mlp0Ideal.Gen.facts, Cert.Mlp0RefIdeal.Gen.facts,
  Cert.Mlp1.Gen.facts, Cert.Mlp1Ideal.Gen.facts, Cert.Mlp1RefIdeal.Gen.facts,
  Cert.Proj.Gen.facts, Cert.ProjIdeal.Gen.facts, Cert.ProjRefIdeal.Gen.facts,
  Cert.Ab.Gen.facts, Cert.AbIdeal.Gen.facts, Cert.AbRefIdeal.Gen.facts,
  Cert.Pre_finite_inputs.Gen.facts, Cert.Pre_finite_ab.Gen.facts,
  fun m g _ => Cert.Kernel.Gen.frame m g, fun m g _ => Cert.KernelIdeal.Gen.frame m g, fun m g _ => Cert.KernelIdeal.Gen.frame m g,
  frame_reference, fun m g _ => frame_reference m g trivial,
  Cert.Mlp0Claim.frame_kernel, fun m g _ => Cert.Mlp0Ideal.Body.frame m g, Cert.Mlp0Claim.frame_reference,
  Cert.Mlp1Claim.frame_kernel, fun m g _ => Cert.Mlp1Ideal.Body.frame m g, Cert.Mlp1Claim.frame_reference,
  Cert.ProjClaim.frame_kernel, fun m g _ => Cert.ProjIdeal.Body.frame m g, Cert.ProjClaim.frame_reference,
  fun m g _ => Cert.Ab.Gen.frame m g, fun m g _ => Cert.AbIdeal.Gen.frame m g, fun m g _ => Cert.AbIdeal.Gen.frame m g,
  frame_ab_reference, fun m g _ => frame_ab_reference m g trivial,
  trivial, Cert.Step.claim, trivial, Cert.Mlp0Claim.claim, trivial, Cert.Mlp1Claim.claim, trivial, Cert.ProjClaim.claim, trivial, Cert.Retain.claim⟩

end Cert.Proof

end
